-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_targets_in_range_finite [hPre_targets_in_range_finite : Cert.Pre_targets_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range_finite [hPre_targets_in_range_finite : Cert.Pre_targets_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_in_range_finite [hKernelIdeal : Cert.KernelIdeal.Facts] [hPre_targets_in_range_finite : Cert.Pre_targets_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_in_range_finite [hReferenceIdeal : Cert.ReferenceIdeal.Facts] [hPre_targets_in_range_finite : Cert.Pre_targets_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "sv" .f32 0x3586386D#32 ((1 / 999980 : ℝ) : EReal)
  ∧ IdealRules.named_const.Statement Cert.KernelIdeal.κ "c0" .f32 0xBFBCF9CF#32 (((1 / 10) * (Real.log (387420489 / 999980000000000)) : ℝ) : EReal)
  ∧ IdealRules.named_const.Statement Cert.KernelIdeal.κ "conf" .f32 0x3F666666#32 ((9 / 10 : ℝ) : EReal)

def algebraic_KernelIdeal_ReferenceIdeal_pre_targets_in_range_finite [hKernelIdeal : Cert.KernelIdeal.Facts] [hReferenceIdeal : Cert.ReferenceIdeal.Facts] [hPre_targets_in_range_finite : Cert.Pre_targets_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in_range : Cert.Pre_targets_in_range.Facts) (hPre_targets_in_range_finite : Cert.Pre_targets_in_range_finite.Facts),
    quiescent_Kernel (hKernel := hKernel) (hPre_targets_in_range := hPre_targets_in_range)
    ∧ quiescent_KernelIdeal (hKernelIdeal := hKernelIdeal) (hPre_targets_in_range := hPre_targets_in_range)
    ∧ quiescent_KernelIdeal_pre_targets_in_range_finite (hKernelIdeal := hKernelIdeal) (hPre_targets_in_range_finite := hPre_targets_in_range_finite)
    ∧ quiescent_ReferenceIdeal (hReferenceIdeal := hReferenceIdeal)
    ∧ quiescent_ReferenceIdeal_pre_targets_in_range_finite (hReferenceIdeal := hReferenceIdeal) (hPre_targets_in_range_finite := hPre_targets_in_range_finite)
    ∧ preserves_Kernel_KernelIdeal
    ∧ algebraic_KernelIdeal_ReferenceIdeal_pre_targets_in_range_finite (hKernelIdeal := hKernelIdeal) (hReferenceIdeal := hReferenceIdeal) (hPre_targets_in_range_finite := hPre_targets_in_range_finite)
-- ==== Pre_targets_in_range.lean ====
abbrev S2048x100000 : Shape := ⟨2, ![2048, 100000]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x100000 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 100000#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_targets_in_range_finite.lean ====
abbrev S2048x100000 : Shape := ⟨2, ![2048, 100000]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x100000 : S_.BroadcastsInDim S2048x100000 (![] : Fin 0 → Fin S2048x100000.rank)
  reducesTo_S2048x100000_S_d0_1 : S2048x100000.ReducesTo [0, 1] S_

variable [Facts]

def fn {F : FTy → Type} [FloatOps F] (main_arg0 : FVec F S2048x100000 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 100000#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_v6 : FVec F S2048x100000 .f32 := Host.absf main_arg0
  let main_cst : FVec F S_ .f32 := constant S_ .f32 0x7F800000#32
  let main_v7 : FVec F S2048x100000 .f32 := broadcastInDim S2048x100000 ![] bcast_S_S2048x100000 main_cst
  let main_v8 : IVec S2048x100000 1 := cmpf .olt main_v6 main_v7
  let main_c_2 : IVec S_ 1 := constantI S_ 1 1#1
  let main_v9 : IVec S_ 1 := (fun x v => Host.reduce IntOp.andi x v reducesTo_S2048x100000_S_d0_1 h_S_) main_v8 main_c_2
  let main_v10 : IVec S_ 1 := andi main_v5 main_v9
  main_v10
-- ==== Kernel.lean ====
abbrev S2048x100000 : Shape := ⟨2, ![2048, 100000]⟩
abbrev S2048 : Shape := ⟨1, ![2048]⟩
abbrev S204800000 : Shape := ⟨1, ![204800000]⟩
abbrev S32768 : Shape := ⟨1, ![32768]⟩
abbrev S25600 : Shape := ⟨1, ![25600]⟩
abbrev S1024 : Shape := ⟨1, ![1024]⟩
abbrev S_ : Shape := ⟨0, ![]⟩
abbrev S3200 : Shape := ⟨1, ![3200]⟩
abbrev S16 : Shape := ⟨1, ![16]⟩
abbrev S800 : Shape := ⟨1, ![800]⟩
abbrev S64 : Shape := ⟨1, ![64]⟩
abbrev S2048x16 : Shape := ⟨2, ![2048, 16]⟩
abbrev S2048x1 : Shape := ⟨2, ![2048, 1]⟩
abbrev S1x1 : Shape := ⟨2, ![1, 1]⟩
abbrev S1x2048x1 : Shape := ⟨3, ![1, 2048, 1]⟩
abbrev S1 : Shape := ⟨1, ![1]⟩
abbrev S1x1x1 : Shape := ⟨3, ![1, 1, 1]⟩

abbrev nBuf : Table → Nat
  | .hbm => 20
  | .local .tc .vmem => 6
  | .local .tc .smem => 3
  | .local .scVector .vmem => 10
  | _ => 0

abbrev bufTy : (tb : Table) → Fin (nBuf tb) → BufTy
  | .hbm, ⟨0, _⟩ => ⟨S2048x100000, .f32⟩
  | .hbm, ⟨1, _⟩ => ⟨S2048, .i32⟩
  | .hbm, ⟨2, _⟩ => ⟨S204800000, .f32⟩
  | .hbm, ⟨3, _⟩ => ⟨S32768, .f32⟩
  | .hbm, ⟨4, _⟩ => ⟨S32768, .f32⟩
  | .hbm, ⟨5, _⟩ => ⟨S32768, .i32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S2048x16, .f32⟩
  | .hbm, ⟨10, _⟩ => ⟨S2048x16, .i32⟩
  | .hbm, ⟨11, _⟩ => ⟨S2048x1, .i32⟩
  | .hbm, ⟨12, _⟩ => ⟨S2048x1, .f32⟩
  | .hbm, ⟨13, _⟩ => ⟨S2048x1, .f32⟩
  | .hbm, ⟨14, _⟩ => ⟨S1x1, .f32⟩
  | .hbm, ⟨15, _⟩ => ⟨S1x1, .i32⟩
  | .hbm, ⟨16, _⟩ => ⟨S1x1, .i32⟩
  | .hbm, ⟨17, _⟩ => ⟨S_, .f32⟩
  | .hbm, ⟨18, _⟩ => ⟨S_, .i32⟩
  | .hbm, ⟨19, _⟩ => ⟨S_, .i32⟩
  | .local .tc .vmem, ⟨0, _⟩ => ⟨S2048x16, .f32⟩
  | .local .tc .vmem, ⟨1, _⟩ => ⟨S2048x16, .f32⟩
  | .local .tc .vmem, ⟨2, _⟩ => ⟨S2048x16, .i32⟩
  | .local .tc .vmem, ⟨3, _⟩ => ⟨S2048x1, .i32⟩
  | .local .tc .vmem, ⟨4, _⟩ => ⟨S2048x1, .f32⟩
  | .local .tc .vmem, ⟨5, _⟩ => ⟨S2048x1, .f32⟩
  | .local .tc .smem, ⟨0, _⟩ => ⟨S1x1, .f32⟩
  | .local .tc .smem, ⟨1, _⟩ => ⟨S1x1, .i32⟩
  | .local .tc .smem, ⟨2, _⟩ => ⟨S1x1, .i32⟩
  | .local .scVector .vmem, ⟨0, _⟩ => ⟨S25600, .f32⟩
  | .local .scVector .vmem, ⟨1, _⟩ => ⟨S25600, .f32⟩
  | .local .scVector .vmem, ⟨2, _⟩ => ⟨S1024, .f32⟩
  | .local .scVector .vmem, ⟨3, _⟩ => ⟨S1024, .f32⟩
  | .local .scVector .vmem, ⟨4, _⟩ => ⟨S1024, .i32⟩
  | .local .scVector .vmem, ⟨5, _⟩ => ⟨S64, .i32⟩
  | .local .scVector .vmem, ⟨6, _⟩ => ⟨S64, .i32⟩
  | .local .scVector .vmem, ⟨7, _⟩ => ⟨S64, .i32⟩
  | .local .scVector .vmem, ⟨8, _⟩ => ⟨S64, .f32⟩
  | .local .scVector .vmem, ⟨9, _⟩ => ⟨S64, .f32⟩
  | _, _ => ⟨S2048x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev main_v1_2_scv : Ref sig .scVector := ⟨.hbm, 5, rfl⟩
abbrev main_arg1_scv : Ref sig .scVector := ⟨.hbm, 1, rfl⟩
abbrev main_v2_0_scv : Ref sig .scVector := ⟨.hbm, 6, rfl⟩
abbrev main_v2_1_scv : Ref sig .scVector := ⟨.hbm, 7, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg3_0 : Ref sig .tc := ⟨.vmem, 3, rfl⟩
abbrev cc2_stg4_0 : Ref sig .tc := ⟨.vmem, 4, rfl⟩
abbrev cc2_stg5_0 : Ref sig .tc := ⟨.vmem, 5, rfl⟩
abbrev cc2_stg6_0 : Ref sig .tc := ⟨.smem, 0, rfl⟩
abbrev cc2_stg7_0 : Ref sig .tc := ⟨.smem, 1, rfl⟩
abbrev cc2_stg8_0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  let v3 : BitVec 32 := Scalar.addi v2 c0_i32
  let v4 : BitVec 32 := Scalar.addi v3 c0_i32_0
  let c100000_i32 : BitVec 32 := 100000#32
  let v5 : BitVec 32 := Scalar.muli v4 c100000_i32
  let c0_i32_1 : BitVec 32 := 0#32
  let v6 : BitVec 32 := Scalar.addi v5 c0_i32_1
  ![v6.toNat]
@[reducible] def k0_t1_loop : Scf.Loop 32 :=
  let c0_i32_34 : BitVec 32 := 0#32
  let c8_i32 : BitVec 32 := 8#32
  let v67 : BitVec 32 := Scalar.addi c0_i32_34 c8_i32
  let c1_i32_35 : BitVec 32 := 1#32
  ⟨c0_i32_34, v67, c1_i32_35⟩
def k0_off2 (i : grid0.Coords) (k0_t1 : Fin k0_t1_loop.trips) (c0_i32_127 : BitVec 32) (c3200_i32_129 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_34 : BitVec 32 := 0#32
  let c1_i32_35 : BitVec 32 := 1#32
  let arg14 : BitVec 32 := Scf.iv c0_i32_34 c1_i32_35 k0_t1
  let c8_i32_126 : BitVec 32 := 8#32
  let v160 : BitVec 32 := Scalar.muli arg14 c8_i32_126
  let v161 : BitVec 32 := Scalar.addi v2 v160
  let v162 : BitVec 32 := Scalar.addi v161 c0_i32_127
  let c100000_i32_128 : BitVec 32 := 100000#32
  let v163 : BitVec 32 := Scalar.muli v162 c100000_i32_128
  let v164 : BitVec 32 := Scalar.addi v163 c3200_i32_129
  ![v164.toNat]
@[reducible] def k0_t2_loop : Scf.Loop 32 :=
  let c0_i32_174 : BitVec 32 := 0#32
  let c200_i32 : BitVec 32 := 200#32
  let v232 : BitVec 32 := Scalar.addi c0_i32_174 c200_i32
  let c1_i32_175 : BitVec 32 := 1#32
  ⟨c0_i32_174, v232, c1_i32_175⟩
def k0_off3 (k0_t2 : Fin k0_t2_loop.trips) (c0_i32_2785 : BitVec 32) : Fin 1 → Nat :=
  let c0_i32_174 : BitVec 32 := 0#32
  let c1_i32_175 : BitVec 32 := 1#32
  let arg16 : BitVec 32 := Scf.iv c0_i32_174 c1_i32_175 k0_t2
  let c16_i32_2784 : BitVec 32 := 16#32
  let v3643 : BitVec 32 := Scalar.muli arg16 c16_i32_2784
  let v3644 : BitVec 32 := Scalar.addi c0_i32_2785 v3643
  let v3645 : Index := Scalar.indexCast v3644
  ![v3645.toNat]
@[reducible] def k0_t3_loop : Scf.Loop 32 :=
  let c0_i32_257 : BitVec 32 := 0#32
  let c200_i32_258 : BitVec 32 := 200#32
  let v338 : BitVec 32 := Scalar.addi c0_i32_257 c200_i32_258
  let c1_i32_259 : BitVec 32 := 1#32
  ⟨c0_i32_257, v338, c1_i32_259⟩
def k0_off4 (k0_t3 : Fin k0_t3_loop.trips) (c0_i32_2785 : BitVec 32) : Fin 1 → Nat :=
  let c0_i32_257 : BitVec 32 := 0#32
  let c1_i32_259 : BitVec 32 := 1#32
  let arg16 : BitVec 32 := Scf.iv c0_i32_257 c1_i32_259 k0_t3
  let c16_i32_2784 : BitVec 32 := 16#32
  let v3643 : BitVec 32 := Scalar.muli arg16 c16_i32_2784
  let v3644 : BitVec 32 := Scalar.addi c0_i32_2785 v3643
  let v3645 : Index := Scalar.indexCast v3644
  ![v3645.toNat]
@[reducible] def k0_t4_loop : Scf.Loop 32 :=
  let c0_i32_341 : BitVec 32 := 0#32
  let c200_i32_342 : BitVec 32 := 200#32
  let v444 : BitVec 32 := Scalar.addi c0_i32_341 c200_i32_342
  let c1_i32_343 : BitVec 32 := 1#32
  ⟨c0_i32_341, v444, c1_i32_343⟩
def k0_off5 (k0_t4 : Fin k0_t4_loop.trips) (c0_i32_2784 : BitVec 32) : Fin 1 → Nat :=
  let c0_i32_341 : BitVec 32 := 0#32
  let c1_i32_343 : BitVec 32 := 1#32
  let arg16 : BitVec 32 := Scf.iv c0_i32_341 c1_i32_343 k0_t4
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t5_loop : Scf.Loop 32 :=
  let c0_i32_425 : BitVec 32 := 0#32
  let c200_i32_426 : BitVec 32 := 200#32
  let v550 : BitVec 32 := Scalar.addi c0_i32_425 c200_i32_426
  let c1_i32_427 : BitVec 32 := 1#32
  ⟨c0_i32_425, v550, c1_i32_427⟩
def k0_off6 (k0_t5 : Fin k0_t5_loop.trips) (c0_i32_2784 : BitVec 32) : Fin 1 → Nat :=
  let c0_i32_425 : BitVec 32 := 0#32
  let c1_i32_427 : BitVec 32 := 1#32
  let arg16 : BitVec 32 := Scf.iv c0_i32_425 c1_i32_427 k0_t5
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t6_loop : Scf.Loop 32 :=
  let c0_i32_509 : BitVec 32 := 0#32
  let c200_i32_510 : BitVec 32 := 200#32
  let v656 : BitVec 32 := Scalar.addi c0_i32_509 c200_i32_510
  let c1_i32_511 : BitVec 32 := 1#32
  ⟨c0_i32_509, v656, c1_i32_511⟩
def k0_off7 (k0_t6 : Fin k0_t6_loop.trips) (c0_i32_2784 : BitVec 32) : Fin 1 → Nat :=
  let c0_i32_509 : BitVec 32 := 0#32
  let c1_i32_511 : BitVec 32 := 1#32
  let arg16 : BitVec 32 := Scf.iv c0_i32_509 c1_i32_511 k0_t6
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t7_loop : Scf.Loop 32 :=
  let c0_i32_593 : BitVec 32 := 0#32
  let c200_i32_594 : BitVec 32 := 200#32
  let v762 : BitVec 32 := Scalar.addi c0_i32_593 c200_i32_594
  let c1_i32_595 : BitVec 32 := 1#32
  ⟨c0_i32_593, v762, c1_i32_595⟩
def k0_off8 (k0_t7 : Fin k0_t7_loop.trips) (c0_i32_2784 : BitVec 32) : Fin 1 → Nat :=
  let c0_i32_593 : BitVec 32 := 0#32
  let c1_i32_595 : BitVec 32 := 1#32
  let arg16 : BitVec 32 := Scf.iv c0_i32_593 c1_i32_595 k0_t7
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t8_loop : Scf.Loop 32 :=
  let c0_i32_677 : BitVec 32 := 0#32
  let c200_i32_678 : BitVec 32 := 200#32
  let v868 : BitVec 32 := Scalar.addi c0_i32_677 c200_i32_678
  let c1_i32_679 : BitVec 32 := 1#32
  ⟨c0_i32_677, v868, c1_i32_679⟩
def k0_off9 (k0_t8 : Fin k0_t8_loop.trips) (c0_i32_2784 : BitVec 32) : Fin 1 → Nat :=
  let c0_i32_677 : BitVec 32 := 0#32
  let c1_i32_679 : BitVec 32 := 1#32
  let arg16 : BitVec 32 := Scf.iv c0_i32_677 c1_i32_679 k0_t8
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t9_loop : Scf.Loop 32 :=
  let c0_i32_760 : BitVec 32 := 0#32
  let c200_i32_761 : BitVec 32 := 200#32
  let v974 : BitVec 32 := Scalar.addi c0_i32_760 c200_i32_761
  let c1_i32_762 : BitVec 32 := 1#32
  ⟨c0_i32_760, v974, c1_i32_762⟩
def k0_off10 (k0_t9 : Fin k0_t9_loop.trips) (c0_i32_2784 : BitVec 32) : Fin 1 → Nat :=
  let c0_i32_760 : BitVec 32 := 0#32
  let c1_i32_762 : BitVec 32 := 1#32
  let arg16 : BitVec 32 := Scf.iv c0_i32_760 c1_i32_762 k0_t9
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t10_loop : Scf.Loop 32 :=
  let c0_i32_843 : BitVec 32 := 0#32
  let c200_i32_844 : BitVec 32 := 200#32
  let v1080 : BitVec 32 := Scalar.addi c0_i32_843 c200_i32_844
  let c1_i32_845 : BitVec 32 := 1#32
  ⟨c0_i32_843, v1080, c1_i32_845⟩
def k0_off11 (k0_t10 : Fin k0_t10_loop.trips) (c0_i32_2784 : BitVec 32) : Fin 1 → Nat :=
  let c0_i32_843 : BitVec 32 := 0#32
  let c1_i32_845 : BitVec 32 := 1#32
  let arg16 : BitVec 32 := Scf.iv c0_i32_843 c1_i32_845 k0_t10
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t11_loop : Scf.Loop 32 :=
  let c0_i32_926 : BitVec 32 := 0#32
  let c200_i32_927 : BitVec 32 := 200#32
  let v1186 : BitVec 32 := Scalar.addi c0_i32_926 c200_i32_927
  let c1_i32_928 : BitVec 32 := 1#32
  ⟨c0_i32_926, v1186, c1_i32_928⟩
def k0_off12 (k0_t11 : Fin k0_t11_loop.trips) (c0_i32_2784 : BitVec 32) : Fin 1 → Nat :=
  let c0_i32_926 : BitVec 32 := 0#32
  let c1_i32_928 : BitVec 32 := 1#32
  let arg16 : BitVec 32 := Scf.iv c0_i32_926 c1_i32_928 k0_t11
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t12_loop : Scf.Loop 32 :=
  let c0_i32_1009 : BitVec 32 := 0#32
  let c200_i32_1010 : BitVec 32 := 200#32
  let v1292 : BitVec 32 := Scalar.addi c0_i32_1009 c200_i32_1010
  let c1_i32_1011 : BitVec 32 := 1#32
  ⟨c0_i32_1009, v1292, c1_i32_1011⟩
def k0_off13 (k0_t12 : Fin k0_t12_loop.trips) (c0_i32_2784 : BitVec 32) : Fin 1 → Nat :=
  let c0_i32_1009 : BitVec 32 := 0#32
  let c1_i32_1011 : BitVec 32 := 1#32
  let arg16 : BitVec 32 := Scf.iv c0_i32_1009 c1_i32_1011 k0_t12
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t13_loop : Scf.Loop 32 :=
  let c0_i32_1092 : BitVec 32 := 0#32
  let c200_i32_1093 : BitVec 32 := 200#32
  let v1398 : BitVec 32 := Scalar.addi c0_i32_1092 c200_i32_1093
  let c1_i32_1094 : BitVec 32 := 1#32
  ⟨c0_i32_1092, v1398, c1_i32_1094⟩
def k0_off14 (k0_t13 : Fin k0_t13_loop.trips) (c0_i32_2784 : BitVec 32) : Fin 1 → Nat :=
  let c0_i32_1092 : BitVec 32 := 0#32
  let c1_i32_1094 : BitVec 32 := 1#32
  let arg16 : BitVec 32 := Scf.iv c0_i32_1092 c1_i32_1094 k0_t13
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t14_loop : Scf.Loop 32 :=
  let c0_i32_1175 : BitVec 32 := 0#32
  let c200_i32_1176 : BitVec 32 := 200#32
  let v1504 : BitVec 32 := Scalar.addi c0_i32_1175 c200_i32_1176
  let c1_i32_1177 : BitVec 32 := 1#32
  ⟨c0_i32_1175, v1504, c1_i32_1177⟩
def k0_off15 (k0_t14 : Fin k0_t14_loop.trips) (c0_i32_2784 : BitVec 32) : Fin 1 → Nat :=
  let c0_i32_1175 : BitVec 32 := 0#32
  let c1_i32_1177 : BitVec 32 := 1#32
  let arg16 : BitVec 32 := Scf.iv c0_i32_1175 c1_i32_1177 k0_t14
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t15_loop : Scf.Loop 32 :=
  let c0_i32_1258 : BitVec 32 := 0#32
  let c200_i32_1259 : BitVec 32 := 200#32
  let v1610 : BitVec 32 := Scalar.addi c0_i32_1258 c200_i32_1259
  let c1_i32_1260 : BitVec 32 := 1#32
  ⟨c0_i32_1258, v1610, c1_i32_1260⟩
def k0_off16 (k0_t15 : Fin k0_t15_loop.trips) (c0_i32_2784 : BitVec 32) : Fin 1 → Nat :=
  let c0_i32_1258 : BitVec 32 := 0#32
  let c1_i32_1260 : BitVec 32 := 1#32
  let arg16 : BitVec 32 := Scf.iv c0_i32_1258 c1_i32_1260 k0_t15
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t16_loop : Scf.Loop 32 :=
  let c0_i32_1341 : BitVec 32 := 0#32
  let c200_i32_1342 : BitVec 32 := 200#32
  let v1716 : BitVec 32 := Scalar.addi c0_i32_1341 c200_i32_1342
  let c1_i32_1343 : BitVec 32 := 1#32
  ⟨c0_i32_1341, v1716, c1_i32_1343⟩
def k0_off17 (k0_t16 : Fin k0_t16_loop.trips) (c0_i32_2784 : BitVec 32) : Fin 1 → Nat :=
  let c0_i32_1341 : BitVec 32 := 0#32
  let c1_i32_1343 : BitVec 32 := 1#32
  let arg16 : BitVec 32 := Scf.iv c0_i32_1341 c1_i32_1343 k0_t16
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t17_loop : Scf.Loop 32 :=
  let c0_i32_1424 : BitVec 32 := 0#32
  let c200_i32_1425 : BitVec 32 := 200#32
  let v1822 : BitVec 32 := Scalar.addi c0_i32_1424 c200_i32_1425
  let c1_i32_1426 : BitVec 32 := 1#32
  ⟨c0_i32_1424, v1822, c1_i32_1426⟩
def k0_off18 (k0_t17 : Fin k0_t17_loop.trips) (c0_i32_2784 : BitVec 32) : Fin 1 → Nat :=
  let c0_i32_1424 : BitVec 32 := 0#32
  let c1_i32_1426 : BitVec 32 := 1#32
  let arg16 : BitVec 32 := Scf.iv c0_i32_1424 c1_i32_1426 k0_t17
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t18_loop : Scf.Loop 32 :=
  let c0_i32_1507 : BitVec 32 := 0#32
  let c200_i32_1508 : BitVec 32 := 200#32
  let v1928 : BitVec 32 := Scalar.addi c0_i32_1507 c200_i32_1508
  let c1_i32_1509 : BitVec 32 := 1#32
  ⟨c0_i32_1507, v1928, c1_i32_1509⟩
def k0_off19 (k0_t18 : Fin k0_t18_loop.trips) (c0_i32_2785 : BitVec 32) : Fin 1 → Nat :=
  let c0_i32_1507 : BitVec 32 := 0#32
  let c1_i32_1509 : BitVec 32 := 1#32
  let arg16 : BitVec 32 := Scf.iv c0_i32_1507 c1_i32_1509 k0_t18
  let c16_i32_2784 : BitVec 32 := 16#32
  let v3643 : BitVec 32 := Scalar.muli arg16 c16_i32_2784
  let v3644 : BitVec 32 := Scalar.addi c0_i32_2785 v3643
  let v3645 : Index := Scalar.indexCast v3644
  ![v3645.toNat]
@[reducible] def k0_t19_loop : Scf.Loop 32 :=
  let c0_i32_1590 : BitVec 32 := 0#32
  let c200_i32_1591 : BitVec 32 := 200#32
  let v2034 : BitVec 32 := Scalar.addi c0_i32_1590 c200_i32_1591
  let c1_i32_1592 : BitVec 32 := 1#32
  ⟨c0_i32_1590, v2034, c1_i32_1592⟩
def k0_off20 (k0_t19 : Fin k0_t19_loop.trips) (c0_i32_2784 : BitVec 32) : Fin 1 → Nat :=
  let c0_i32_1590 : BitVec 32 := 0#32
  let c1_i32_1592 : BitVec 32 := 1#32
  let arg16 : BitVec 32 := Scf.iv c0_i32_1590 c1_i32_1592 k0_t19
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t20_loop : Scf.Loop 32 :=
  let c0_i32_1673 : BitVec 32 := 0#32
  let c200_i32_1674 : BitVec 32 := 200#32
  let v2140 : BitVec 32 := Scalar.addi c0_i32_1673 c200_i32_1674
  let c1_i32_1675 : BitVec 32 := 1#32
  ⟨c0_i32_1673, v2140, c1_i32_1675⟩
def k0_off21 (k0_t20 : Fin k0_t20_loop.trips) (c0_i32_2784 : BitVec 32) : Fin 1 → Nat :=
  let c0_i32_1673 : BitVec 32 := 0#32
  let c1_i32_1675 : BitVec 32 := 1#32
  let arg16 : BitVec 32 := Scf.iv c0_i32_1673 c1_i32_1675 k0_t20
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t21_loop : Scf.Loop 32 :=
  let c0_i32_1756 : BitVec 32 := 0#32
  let c200_i32_1757 : BitVec 32 := 200#32
  let v2246 : BitVec 32 := Scalar.addi c0_i32_1756 c200_i32_1757
  let c1_i32_1758 : BitVec 32 := 1#32
  ⟨c0_i32_1756, v2246, c1_i32_1758⟩
def k0_off22 (k0_t21 : Fin k0_t21_loop.trips) (c0_i32_2784 : BitVec 32) : Fin 1 → Nat :=
  let c0_i32_1756 : BitVec 32 := 0#32
  let c1_i32_1758 : BitVec 32 := 1#32
  let arg16 : BitVec 32 := Scf.iv c0_i32_1756 c1_i32_1758 k0_t21
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t22_loop : Scf.Loop 32 :=
  let c0_i32_1839 : BitVec 32 := 0#32
  let c200_i32_1840 : BitVec 32 := 200#32
  let v2352 : BitVec 32 := Scalar.addi c0_i32_1839 c200_i32_1840
  let c1_i32_1841 : BitVec 32 := 1#32
  ⟨c0_i32_1839, v2352, c1_i32_1841⟩
def k0_off23 (k0_t22 : Fin k0_t22_loop.trips) (c0_i32_2784 : BitVec 32) : Fin 1 → Nat :=
  let c0_i32_1839 : BitVec 32 := 0#32
  let c1_i32_1841 : BitVec 32 := 1#32
  let arg16 : BitVec 32 := Scf.iv c0_i32_1839 c1_i32_1841 k0_t22
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t23_loop : Scf.Loop 32 :=
  let c0_i32_1922 : BitVec 32 := 0#32
  let c200_i32_1923 : BitVec 32 := 200#32
  let v2458 : BitVec 32 := Scalar.addi c0_i32_1922 c200_i32_1923
  let c1_i32_1924 : BitVec 32 := 1#32
  ⟨c0_i32_1922, v2458, c1_i32_1924⟩
def k0_off24 (k0_t23 : Fin k0_t23_loop.trips) (c0_i32_2784 : BitVec 32) : Fin 1 → Nat :=
  let c0_i32_1922 : BitVec 32 := 0#32
  let c1_i32_1924 : BitVec 32 := 1#32
  let arg16 : BitVec 32 := Scf.iv c0_i32_1922 c1_i32_1924 k0_t23
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t24_loop : Scf.Loop 32 :=
  let c0_i32_2005 : BitVec 32 := 0#32
  let c200_i32_2006 : BitVec 32 := 200#32
  let v2564 : BitVec 32 := Scalar.addi c0_i32_2005 c200_i32_2006
  let c1_i32_2007 : BitVec 32 := 1#32
  ⟨c0_i32_2005, v2564, c1_i32_2007⟩
def k0_off25 (k0_t24 : Fin k0_t24_loop.trips) (c0_i32_2784 : BitVec 32) : Fin 1 → Nat :=
  let c0_i32_2005 : BitVec 32 := 0#32
  let c1_i32_2007 : BitVec 32 := 1#32
  let arg16 : BitVec 32 := Scf.iv c0_i32_2005 c1_i32_2007 k0_t24
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t25_loop : Scf.Loop 32 :=
  let c0_i32_2088 : BitVec 32 := 0#32
  let c200_i32_2089 : BitVec 32 := 200#32
  let v2670 : BitVec 32 := Scalar.addi c0_i32_2088 c200_i32_2089
  let c1_i32_2090 : BitVec 32 := 1#32
  ⟨c0_i32_2088, v2670, c1_i32_2090⟩
def k0_off26 (k0_t25 : Fin k0_t25_loop.trips) (c0_i32_2784 : BitVec 32) : Fin 1 → Nat :=
  let c0_i32_2088 : BitVec 32 := 0#32
  let c1_i32_2090 : BitVec 32 := 1#32
  let arg16 : BitVec 32 := Scf.iv c0_i32_2088 c1_i32_2090 k0_t25
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t26_loop : Scf.Loop 32 :=
  let c0_i32_2171 : BitVec 32 := 0#32
  let c200_i32_2172 : BitVec 32 := 200#32
  let v2776 : BitVec 32 := Scalar.addi c0_i32_2171 c200_i32_2172
  let c1_i32_2173 : BitVec 32 := 1#32
  ⟨c0_i32_2171, v2776, c1_i32_2173⟩
def k0_off27 (k0_t26 : Fin k0_t26_loop.trips) (c0_i32_2784 : BitVec 32) : Fin 1 → Nat :=
  let c0_i32_2171 : BitVec 32 := 0#32
  let c1_i32_2173 : BitVec 32 := 1#32
  let arg16 : BitVec 32 := Scf.iv c0_i32_2171 c1_i32_2173 k0_t26
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t27_loop : Scf.Loop 32 :=
  let c0_i32_2254 : BitVec 32 := 0#32
  let c200_i32_2255 : BitVec 32 := 200#32
  let v2882 : BitVec 32 := Scalar.addi c0_i32_2254 c200_i32_2255
  let c1_i32_2256 : BitVec 32 := 1#32
  ⟨c0_i32_2254, v2882, c1_i32_2256⟩
def k0_off28 (k0_t27 : Fin k0_t27_loop.trips) (c0_i32_2784 : BitVec 32) : Fin 1 → Nat :=
  let c0_i32_2254 : BitVec 32 := 0#32
  let c1_i32_2256 : BitVec 32 := 1#32
  let arg16 : BitVec 32 := Scf.iv c0_i32_2254 c1_i32_2256 k0_t27
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t28_loop : Scf.Loop 32 :=
  let c0_i32_2337 : BitVec 32 := 0#32
  let c200_i32_2338 : BitVec 32 := 200#32
  let v2988 : BitVec 32 := Scalar.addi c0_i32_2337 c200_i32_2338
  let c1_i32_2339 : BitVec 32 := 1#32
  ⟨c0_i32_2337, v2988, c1_i32_2339⟩
def k0_off29 (k0_t28 : Fin k0_t28_loop.trips) (c0_i32_2784 : BitVec 32) : Fin 1 → Nat :=
  let c0_i32_2337 : BitVec 32 := 0#32
  let c1_i32_2339 : BitVec 32 := 1#32
  let arg16 : BitVec 32 := Scf.iv c0_i32_2337 c1_i32_2339 k0_t28
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t29_loop : Scf.Loop 32 :=
  let c0_i32_2420 : BitVec 32 := 0#32
  let c200_i32_2421 : BitVec 32 := 200#32
  let v3094 : BitVec 32 := Scalar.addi c0_i32_2420 c200_i32_2421
  let c1_i32_2422 : BitVec 32 := 1#32
  ⟨c0_i32_2420, v3094, c1_i32_2422⟩
def k0_off30 (k0_t29 : Fin k0_t29_loop.trips) (c0_i32_2784 : BitVec 32) : Fin 1 → Nat :=
  let c0_i32_2420 : BitVec 32 := 0#32
  let c1_i32_2422 : BitVec 32 := 1#32
  let arg16 : BitVec 32 := Scf.iv c0_i32_2420 c1_i32_2422 k0_t29
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t30_loop : Scf.Loop 32 :=
  let c0_i32_2503 : BitVec 32 := 0#32
  let c200_i32_2504 : BitVec 32 := 200#32
  let v3200 : BitVec 32 := Scalar.addi c0_i32_2503 c200_i32_2504
  let c1_i32_2505 : BitVec 32 := 1#32
  ⟨c0_i32_2503, v3200, c1_i32_2505⟩
def k0_off31 (k0_t30 : Fin k0_t30_loop.trips) (c0_i32_2784 : BitVec 32) : Fin 1 → Nat :=
  let c0_i32_2503 : BitVec 32 := 0#32
  let c1_i32_2505 : BitVec 32 := 1#32
  let arg16 : BitVec 32 := Scf.iv c0_i32_2503 c1_i32_2505 k0_t30
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
@[reducible] def k0_t31_loop : Scf.Loop 32 :=
  let c0_i32_2586 : BitVec 32 := 0#32
  let c200_i32_2587 : BitVec 32 := 200#32
  let v3306 : BitVec 32 := Scalar.addi c0_i32_2586 c200_i32_2587
  let c1_i32_2588 : BitVec 32 := 1#32
  ⟨c0_i32_2586, v3306, c1_i32_2588⟩
def k0_off32 (k0_t31 : Fin k0_t31_loop.trips) (c0_i32_2784 : BitVec 32) : Fin 1 → Nat :=
  let c0_i32_2586 : BitVec 32 := 0#32
  let c1_i32_2588 : BitVec 32 := 1#32
  let arg16 : BitVec 32 := Scf.iv c0_i32_2586 c1_i32_2588 k0_t31
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
def k0_off33 (i : grid0.Coords) (k0_t1 : Fin k0_t1_loop.trips) (c0_i32_2623 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_34 : BitVec 32 := 0#32
  let c1_i32_35 : BitVec 32 := 1#32
  let arg14 : BitVec 32 := Scf.iv c0_i32_34 c1_i32_35 k0_t1
  let c8_i32_2622 : BitVec 32 := 8#32
  let v3340 : BitVec 32 := Scalar.muli arg14 c8_i32_2622
  let v3341 : BitVec 32 := Scalar.addi v2 v3340
  let v3342 : BitVec 32 := Scalar.addi v3341 c0_i32_2623
  let c100000_i32_2624 : BitVec 32 := 100000#32
  let v3343 : BitVec 32 := Scalar.muli v3342 c100000_i32_2624
  let c99200_i32 : BitVec 32 := 99200#32
  let v3344 : BitVec 32 := Scalar.addi v3343 c99200_i32
  ![v3344.toNat]
@[reducible] def k0_t32_loop : Scf.Loop 32 :=
  let c0_i32_2669 : BitVec 32 := 0#32
  let c200_i32_2670 : BitVec 32 := 200#32
  let v3412 : BitVec 32 := Scalar.addi c0_i32_2669 c200_i32_2670
  let c1_i32_2671 : BitVec 32 := 1#32
  ⟨c0_i32_2669, v3412, c1_i32_2671⟩
def k0_off34 (k0_t32 : Fin k0_t32_loop.trips) (c0_i32_2784 : BitVec 32) : Fin 1 → Nat :=
  let c0_i32_2669 : BitVec 32 := 0#32
  let c1_i32_2671 : BitVec 32 := 1#32
  let arg16 : BitVec 32 := Scf.iv c0_i32_2669 c1_i32_2671 k0_t32
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
def k0_off35 (i : grid0.Coords) (k0_t1 : Fin k0_t1_loop.trips) (c0_i32_2708 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_34 : BitVec 32 := 0#32
  let c1_i32_35 : BitVec 32 := 1#32
  let arg14 : BitVec 32 := Scf.iv c0_i32_34 c1_i32_35 k0_t1
  let c1_i32_2705 : BitVec 32 := 1#32
  let v3446 : BitVec 32 := Scalar.addi arg14 c1_i32_2705
  let c7_i32_2706 : BitVec 32 := 7#32
  let v3447 : BitVec 32 := Scalar.minsi v3446 c7_i32_2706
  let c8_i32_2707 : BitVec 32 := 8#32
  let v3448 : BitVec 32 := Scalar.muli v3447 c8_i32_2707
  let v3449 : BitVec 32 := Scalar.addi v2 v3448
  let v3450 : BitVec 32 := Scalar.addi v3449 c0_i32_2708
  let c100000_i32_2709 : BitVec 32 := 100000#32
  let v3451 : BitVec 32 := Scalar.muli v3450 c100000_i32_2709
  let c0_i32_2710 : BitVec 32 := 0#32
  let v3452 : BitVec 32 := Scalar.addi v3451 c0_i32_2710
  ![v3452.toNat]
@[reducible] def k0_t33_loop : Scf.Loop 32 :=
  let c0_i32_2755 : BitVec 32 := 0#32
  let c50_i32 : BitVec 32 := 50#32
  let v3520 : BitVec 32 := Scalar.addi c0_i32_2755 c50_i32
  let c1_i32_2756 : BitVec 32 := 1#32
  ⟨c0_i32_2755, v3520, c1_i32_2756⟩
def k0_off36 (k0_t33 : Fin k0_t33_loop.trips) (c0_i32_2784 : BitVec 32) : Fin 1 → Nat :=
  let c0_i32_2755 : BitVec 32 := 0#32
  let c1_i32_2756 : BitVec 32 := 1#32
  let arg16 : BitVec 32 := Scf.iv c0_i32_2755 c1_i32_2756 k0_t33
  let c16_i32_2783 : BitVec 32 := 16#32
  let v3643 : BitVec 32 := Scalar.muli arg16 c16_i32_2783
  let v3644 : BitVec 32 := Scalar.addi c0_i32_2784 v3643
  let v3645 : Index := Scalar.indexCast v3644
  ![v3645.toNat]
def k0_off37 (k0_t1 : Fin k0_t1_loop.trips) (c0_i32_2759 : BitVec 32) : Fin 1 → Nat :=
  let c0_i32_34 : BitVec 32 := 0#32
  let c1_i32_35 : BitVec 32 := 1#32
  let arg14 : BitVec 32 := Scf.iv c0_i32_34 c1_i32_35 k0_t1
  let c8_i32_2758 : BitVec 32 := 8#32
  let v3522 : BitVec 32 := Scalar.muli arg14 c8_i32_2758
  let v3523 : BitVec 32 := Scalar.addi v3522 c0_i32_2759
  let c16_i32_2760 : BitVec 32 := 16#32
  let v3524 : BitVec 32 := Scalar.muli v3523 c16_i32_2760
  let v3525 : Index := Scalar.indexCast v3524
  ![v3525.toNat]
def k0_off38 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32 : BitVec 32 := 16#32
  let v101 : BitVec 32 := Scalar.muli v2 c16_i32
  ![v101.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev grid2 : Pipeline.Grid := .none

abbrev stage2_0 : Fin 1 → Memref sig .tc .vmem S2048x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x16 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S2048x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2048x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .smem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .smem S1x1 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .smem S1x1 .i32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "c0" => some (((1 / 10) * (Real.log (387420489 / 999980000000000)) : ℝ) : EReal)
  | "conf" => some ((9 / 10 : ℝ) : EReal)
  | "sv" => some ((1 / 999980 : ℝ) : EReal)
  | _ => none
-- ==== ReferenceIdeal.lean ====
abbrev S2048x100000 : Shape := ⟨2, ![2048, 100000]⟩
abbrev S2048 : Shape := ⟨1, ![2048]⟩
abbrev S_ : Shape := ⟨0, ![]⟩
abbrev S100000 : Shape := ⟨1, ![100000]⟩
abbrev S1x100000 : Shape := ⟨2, ![1, 100000]⟩
abbrev S2048x1 : Shape := ⟨2, ![2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S100000, .i32⟩
  | .hbm, ⟨10, _⟩ => ⟨S1x100000, .i32⟩
  | .hbm, ⟨11, _⟩ => ⟨S2048x1, .i32⟩
  | .hbm, ⟨12, _⟩ => ⟨S2048x100000, .i32⟩
  | .hbm, ⟨13, _⟩ => ⟨S2048x100000, .i32⟩
  | .hbm, ⟨14, _⟩ => ⟨S2048x100000, .i1⟩
  | .hbm, ⟨15, _⟩ => ⟨S2048x100000, .f32⟩
  | .hbm, ⟨16, _⟩ => ⟨S2048x100000, .f32⟩
  | .hbm, ⟨17, _⟩ => ⟨S2048x100000, .f32⟩
  | .hbm, ⟨18, _⟩ => ⟨S_, .i32⟩
  | .hbm, ⟨19, _⟩ => ⟨S1x100000, .i32⟩
  | .hbm, ⟨20, _⟩ => ⟨S1x100000, .i1⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x100000, .i1⟩
  | .hbm, ⟨25, _⟩ => ⟨S2048x100000, .i1⟩
  | .hbm, ⟨26, _⟩ => ⟨S2048x100000, .i1⟩
  | .hbm, ⟨27, _⟩ => ⟨S_, .f32⟩
  | .hbm, ⟨28, _⟩ => ⟨S_, .f32⟩
  | .hbm, ⟨29, _⟩ => ⟨S2048x100000, .f32⟩
  | .hbm, ⟨30, _⟩ => ⟨S2048x100000, .f32⟩
  | .hbm, ⟨31, _⟩ => ⟨S_, .f32⟩
  | .hbm, ⟨32, _⟩ => ⟨S2048x100000, .f32⟩
  | .hbm, ⟨33, _⟩ => ⟨S2048x100000, .i1⟩
  | .hbm, ⟨34, _⟩ => ⟨S_, .f32⟩
  | .hbm, ⟨35, _⟩ => ⟨S_, .f32⟩
  | .hbm, ⟨36, _⟩ => ⟨S2048x100000, .f32⟩
  | .hbm, ⟨37, _⟩ => ⟨S2048x100000, .f32⟩
  | .hbm, ⟨38, _⟩ => ⟨S2048x100000, .f32⟩
  | .hbm, ⟨39, _⟩ => ⟨S2048x100000, .f32⟩
  | .hbm, ⟨40, _⟩ => ⟨S2048x100000, .f32⟩
  | .hbm, ⟨41, _⟩ => ⟨S_, .f32⟩
  | .hbm, ⟨42, _⟩ => ⟨S_, .f32⟩
  | .hbm, ⟨43, _⟩ => ⟨S2048x100000, .f32⟩
  | .hbm, ⟨44, _⟩ => ⟨S2048x100000, .f32⟩
  | .hbm, ⟨45, _⟩ => ⟨S_, .f32⟩
  | .hbm, ⟨46, _⟩ => ⟨S_, .f32⟩
  | .hbm, ⟨47, _⟩ => ⟨S2048x100000, .i32⟩
  | .hbm, ⟨48, _⟩ => ⟨S_, .f32⟩
  | .hbm, ⟨49, _⟩ => ⟨S_, .i32⟩
  | .hbm, ⟨50, _⟩ => ⟨S2048, .f32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S2048, .i1⟩
  | .hbm, ⟨56, _⟩ => ⟨S2048, .i1⟩
  | .hbm, ⟨57, _⟩ => ⟨S2048, .i32⟩
  | .hbm, ⟨58, _⟩ => ⟨S_, .i32⟩
  | .hbm, ⟨59, _⟩ => ⟨S_, .i32⟩
  | .hbm, ⟨60, _⟩ => ⟨S2048, .i32⟩
  | .hbm, ⟨61, _⟩ => ⟨S_, .i32⟩
  | .hbm, ⟨62, _⟩ => ⟨S_, .i32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_call2_v0 : Ref sig .tc := ⟨.hbm, 35, rfl⟩
abbrev main_call2_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_call3_v0 : Ref sig .tc := ⟨.hbm, 42, rfl⟩
abbrev main_call3_v1 : Ref sig .tc := ⟨.hbm, 43, rfl⟩
abbrev main_v24 : Ref sig .tc := ⟨.hbm, 44, rfl⟩
abbrev main_cst_8 : Ref sig .tc := ⟨.hbm, 45, rfl⟩
abbrev main_v25 : Ref sig .tc := ⟨.hbm, 46, rfl⟩
abbrev main_call4_v0 : Ref sig .tc := ⟨.hbm, 47, rfl⟩
abbrev main_call4_cst : Ref sig .tc := ⟨.hbm, 48, rfl⟩
abbrev main_call4_c : Ref sig .tc := ⟨.hbm, 49, rfl⟩
abbrev main_call4_v1_0 : Ref sig .tc := ⟨.hbm, 50, rfl⟩
abbrev main_v26 : Ref sig .tc := ⟨.hbm, 51, rfl⟩
abbrev main_c_9 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_10 : Ref sig .tc := ⟨.hbm, 58, rfl⟩
abbrev main_v32 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩

abbrev nD : Nat := 1
abbrev τ : Topo := Topo.v7x

variable {F : FTy → Type} [FloatOps F]
-- ==== Proof.Base.lean ====
/-
  The set-up of the run of `KernelIdeal`: the program as the launch theorem sees it, the resource algebra, the buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.ShareLeaves
public import Idealize.ShloMosaic.Lib.Tactic
public import proofs.«01_k».proof.Proof.Gen.KernelIdeal

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's copies, the transfers' counters -/

abbrev UH : Type := URounds (GSem nD τ sig) ℕ
abbrev UB : Type := URounds (GSem nD τ sig) Unit
abbrev UU : Type := UH × (UB × Counters)

abbrev MM (F : FTy → Type) : Type := MT nD τ sig (HIx 2) (Elt F) ℕ UU ℕ

abbrev EH : Emb UH (MM F) := embL
/-- The TensorCore pipeline's rounds: the left half of the right factor. -/
def EP : Emb UB (MM F) :=
  ((Emb.inl : Emb UB (UB × Counters)).trans (Emb.inr : Emb (UB × Counters) UU)).trans
    (uEmb (nD := nD) (sig := sig) (Ix := HIx 2) (Val := Elt F) (Name := ℕ) (U := UU) (Lvl := ℕ)).toEmb
instance EP_landsIn : (EP (F := F)).LandsIn (upEmb : UEmb _ (MM F)) := by unfold EP; infer_instance

/-! ## The tiles' buffers -/

abbrev cV (i : grid0.Coords) : Fin τ.nSC := (i 0).castLE hcore0
abbrev jV (i : grid0.Coords) : Fin τ.nSub := (i 1).castLE hsub0
/-- The thread of the tile at the coordinates `i` of device `d`. -/
abbrev tV (d : Dev nD) (i : grid0.Coords) : Thread nD τ := V d (cV i) (jV i)

abbrev xV : Memref sig .scVector .hbm S204800000 .f32 := Memref.whole main_v0_scv
abbrev bufA : Memref sig .scVector .vmem S25600 .f32 := Memref.whole cc0_scratch0
abbrev bufB : Memref sig .scVector .vmem S25600 .f32 := Memref.whole cc0_scratch1
abbrev stS : Memref sig .scVector .vmem S1024 .f32 := Memref.whole cc0_scratch2
abbrev stM : Memref sig .scVector .vmem S1024 .f32 := Memref.whole cc0_scratch3
abbrev stI : Memref sig .scVector .vmem S1024 .i32 := Memref.whole cc0_scratch4

/-- The three semaphores of the row copies: those of the two buffers, and that of the last, shorter, chunk. -/
abbrev cs : Fin 3 → DmaSem sig
  | 0 => cc0_scratch5.sem
  | 1 => cc0_scratch6.sem
  | 2 => cc0_scratch7.sem

end Cert.Proof.Run
-- ==== Proof.Steps.lean ====
/-
  The steps of one tile of the first SparseCore kernel: waiting for a row copy, issuing one, loading sixteen columns of a
  row. Each step is an entailment between what the tile holds before and after it.
-/
module

public import proofs.«01_k».proof.Proof.Base

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## Bands of a buffer, segments of the flat array -/

/-- Row `j` of a chunk buffer: columns `3200 j` to `3200 (j + 1)`. -/
def band (j : ℕ) : Finset S25600.Idx := Finset.univ.filter fun y => 3200 * j ≤ (y 0).val ∧ (y 0).val < 3200 * (j + 1)

/-- The `w` words of the flat array from `o`. -/
def seg (o w : ℕ) : Finset S204800000.Idx := Finset.univ.filter fun y => o ≤ (y 0).val ∧ (y 0).val < o + w

variable (d : Dev nD) (i : grid0.Coords)
variable (x : Buf (Elt F) ((xV).view.loc (tV d i))) (xq : Fin 8 → PosShare TreeShare)

/-- The flat array by position. -/
def flat (x : Buf (Elt F) ((xV).view.loc (tV d i))) (o : ℕ) : Elt F .f32 :=
  if h : o < 204800000 then (xV).view.read (Elt F) x (fun a => ⟨o, by match a with | 0 => exact h⟩)
  else (xV).view.read (Elt F) x (fun a => ⟨0, by match a with | 0 => decide⟩)

theorem flat_apply (y : S204800000.Idx) : (xV).view.read (Elt F) x y = flat d i x (y 0).val := by
  unfold flat
  rw [dif_pos (show (y 0).val < 204800000 from (y 0).isLt)]
  congr 1
  funext a
  match a with
  | 0 => rfl

/-- The first `w` columns of row `j` of the buffer are the flat array's from `off j`. -/
def Has (m : Memref sig .scVector .vmem S25600 .f32) (w : ℕ) (off : ℕ → ℕ) (j : ℕ) (f : Buf (Elt F) (m.view.loc (tV d i))) : Prop :=
  ∀ (y : S25600.Idx) (l : ℕ), l < w → (y 0).val = 3200 * j + l → m.view.read (Elt F) f y = flat d i x (off j + l)

/-- Row `j` of the buffer at whatever it holds. -/
def rowAny (m : Memref sig .scVector .vmem S25600 .f32) (j : Fin 8) : sProp 𝕄 :=
  iprop(∃ f, m.view.loc (tV d i) ↦[m.view.setOn (band j.val)]{fullShare} f)

/-- Row `j` of the buffer at the chunk's columns. -/
def rowHas (m : Memref sig .scVector .vmem S25600 .f32) (w : ℕ) (off : ℕ → ℕ) (j : Fin 8) : sProp 𝕄 :=
  iprop(∃ f, ⌜Has d i x m w off j.val f⌝ ∗ m.view.loc (tV d i) ↦[m.view.setOn (band j.val)]{fullShare} f)

/-- The share of the flat array a copy reads through. -/
def shr (j : Fin 8) : sProp 𝕄 := iprop((xV).view.loc (tV d i) ↦{xq j} x)

/-- What of it a copy does not need. -/
def cmp (w : ℕ) (off : ℕ → ℕ) (j : Fin 8) : sProp 𝕄 :=
  iprop((xV).view.loc (tV d i) ↦[Finset.univ \ (xV).view.setOn (seg (off j.val) w)]{xq j} x)

/-- What copy `j` of a chunk brings. -/
def Dl (m : Memref sig .scVector .vmem S25600 .f32) (w : ℕ) (off : ℕ → ℕ) (j : Fin 8) : sProp 𝕄 :=
  iprop(rowHas d i x m w off j ∗ (xV).view.loc (tV d i) ↦[(xV).view.setOn (seg (off j.val) w)]{xq j} x)

instance Dl_storable (m : Memref sig .scVector .vmem S25600 .f32) (w : ℕ) (off : ℕ → ℕ) (j : Fin 8) :
    BI.Storable (upEmb : UEmb _ 𝕄) (Dl d i x xq m w off j) := by
  unfold Dl rowHas; infer_instance

/-- The tallies at the end of a wait: earlier ones, or the transfers' own index. -/
def Own (O : CellTallies nD τ sig (HIx 2)) (W : Waits sig (HIx 2)) : sProp 𝕄 :=
  iprop(∃ W', ⌜∀ p ∈ W', p ∈ W ∨ p.2 = none⌝ ∗ owes (tV d i) O W')

/-- What every step keeps: the evidence for waits, and the tallies. -/
def Cx (O : CellTallies nD τ sig (HIx 2)) (W : Waits sig (HIx 2)) : sProp 𝕄 :=
  iprop(MayWaits (tV d i) none O ∗ Own d i O W)

/-- The copies' semaphores other than `a`, at zero. -/
def Sems (a : Fin 3) : sProp 𝕄 := bigSep (Finset.univ.erase a) fun b => semVal (tV d i, .dma (cs b)) 0

/-- One credit of a copy of `w` words. -/
abbrev cr (m : Memref sig .scVector .vmem S25600 .f32) (w : ℕ) : ℕ := m.view.ref.dmaCredit ⟨1, ![w]⟩ .f32

/-- The first `k` copies issued. -/
def issued (k : ℕ) : Finset (Fin 8) := Finset.univ.filter fun t => t.val < k

/-- The copies of a chunk into buffer `m` on semaphore `a`: `k` issued, `u` waited for. -/
def Fl (m : Memref sig .scVector .vmem S25600 .f32) (a : Fin 3) (w : ℕ) (off : ℕ → ℕ) (k u : ℕ) : sProp 𝕄 :=
  iprop(Batch countersEmb (tV d i) (.dma (cs a)) none (cr m w) (Dl d i x xq m w off) k (u * cr m w)
    ∗ bigSep (pending k) (fun j => iprop(rowAny d i m j ∗ shr d i x xq j)) ∗ bigSep (issued k) (cmp d i x xq w off) ∗ Sems d i a)

variable (O : CellTallies nD τ sig (HIx 2)) (W : Waits sig (HIx 2))

/-- Waiting: all of the chunk's copies issued, `u` of them waited for; the other buffer is free. -/
def Wst (m : Memref sig .scVector .vmem S25600 .f32) (a : Fin 3) (w : ℕ) (off : ℕ → ℕ) (m' : Memref sig .scVector .vmem S25600 .f32)
    (u : ℕ) : sProp 𝕄 :=
  iprop(Fl d i x xq m a w off 8 u ∗ bigSep Finset.univ (rowAny d i m') ∗ Cx d i O W)

/-- Between: the chunk is there, nothing is in flight. -/
def Mst (m : Memref sig .scVector .vmem S25600 .f32) (w : ℕ) (off : ℕ → ℕ) (m' : Memref sig .scVector .vmem S25600 .f32) : sProp 𝕄 :=
  iprop(bigSep Finset.univ (rowHas d i x m w off) ∗ bigSep Finset.univ (rowAny d i m') ∗ bigSep Finset.univ (shr d i x xq)
    ∗ bigSep Finset.univ (fun b => semVal (tV d i, .dma (cs b)) 0) ∗ Cx d i O W)

/-- Computing: the chunk is there, `k` copies of the next are issued. -/
def Lst (m : Memref sig .scVector .vmem S25600 .f32) (w : ℕ) (off : ℕ → ℕ) (m' : Memref sig .scVector .vmem S25600 .f32) (a' : Fin 3)
    (w' : ℕ) (off' : ℕ → ℕ) (k : ℕ) : sProp 𝕄 :=
  iprop(bigSep Finset.univ (rowHas d i x m w off) ∗ Fl d i x xq m' a' w' off' k 0 ∗ Cx d i O W)

/-! ## Sets -/

theorem issued_zero : issued 0 = ∅ := by unfold issued; ext t; simp
theorem issued_eight : issued 8 = Finset.univ := by unfold issued; ext t; simp
theorem issued_succ {k : ℕ} (hk : k < 8) : issued (k + 1) = insert ⟨k, hk⟩ (issued k) := by
  ext t; simp only [issued, Finset.mem_filter, Finset.mem_univ, true_and, Finset.mem_insert, Fin.ext_iff]; omega
theorem not_mem_issued {k : ℕ} (hk : k < 8) : (⟨k, hk⟩ : Fin 8) ∉ issued k := by simp [issued]
theorem pending_eight : pending (n := 8) 8 = ∅ := by
  ext t; simp [pending]

theorem bigSep_issued_step (Φ : Fin 8 → sProp 𝕄) (k : ℕ) (hk : k < 8) :
    bigSep (issued (k + 1)) Φ = iprop(Φ ⟨k, hk⟩ ∗ bigSep (issued k) Φ) := by
  rw [issued_succ hk, bigSep_insert (not_mem_issued hk)]; rfl

omit [FloatOps F] [Named F] in
/-- The set of a copy's source window. -/
theorem set_src {o : Fin 1 → ℕ} {sz : Fin 1 → ℕ} (h) {oo w : ℕ} (ho : o 0 = oo) (hw : sz 0 = w) :
    (Rect.unit (s := S204800000) o sz h).set = seg oo w := by
  ext y
  simp only [Rect.mem_set_unit, seg, Finset.mem_filter, Finset.mem_univ, true_and]
  constructor
  · intro hy; have := hy 0; omega
  · intro hy a; match a with | 0 => omega

/-- A copy's destination is in its row. -/
theorem set_dst {o : Fin 1 → ℕ} {sz : Fin 1 → ℕ} (h) {j w : ℕ} (ho : o 0 = 3200 * j) (hw : sz 0 = w) (hw' : w ≤ 3200) :
    (Rect.unit (s := S25600) o sz h).set ⊆ band j := by
  intro y
  simp only [Rect.mem_set_unit, band, Finset.mem_filter, Finset.mem_univ, true_and]
  intro hy; have := hy 0; omega

theorem set_slice' {sp : Space} {s : Shape} {e : EltTy} {κ : Kind} (m : Memref sig κ sp s e) (r : Rect s) :
    (m.view.slice r).set = m.view.setOn r.set := View.set_slice _ _

variable {O W}

/-! ## The steps -/

theorem own_insert {sm : SemLoc sig} {W' : Waits sig (HIx 2)} (h : ∀ p ∈ W', p ∈ W ∨ p.2 = none) :
    ∀ p ∈ insert (sm, (none : HIx 2)) W', p ∈ W ∨ p.2 = none := by
  intro p hp
  rcases Finset.mem_insert.mp hp with h' | h'
  · exact .inr (by rw [h'])
  · exact h p h'

/-- A wait that is not the chunk's last. -/
theorem step_wait {β : Type} {Q : β → sProp 𝕄} {R : sProp 𝕄} {m m' : Memref sig .scVector .vmem S25600 .f32} {a : Fin 3} {w : ℕ} {off : ℕ → ℕ} {u : ℕ}
    {sem : DmaSem sig} {s' : Shape} {e' : EltTy} {sp' : Space} {s : Shape}
    {srcw : Memref sig (tV d i).2.kind sp' s' e'} {dstw : Memref sig .scVector .vmem s .f32} {hsrc : srcw.view.WordExact} {hdst : dstw.view.WordExact}
    {k : PUnit → Prog (TpuEff nD τ sig (Elt F) Λ₀ (tV d i).2) β}
    (hsem : sem = cs a) (hN : dstw.view.dmaCredit = cr m w) (hu : u < 7) (hN0 : 0 < cr m w)
    (hk : iprop(Wst d i x xq O W m a w off m' (u + 1) ∗ R) ⊢ wp frame (wpE (defs₀ (F := F)) 𝒱₀ (tV d i) none) Set.univ (k ⟨⟩) Q) :
    iprop(Wst d i x xq O W m a w off m' u ∗ R)
      ⊢ wp frame (wpE (defs₀ (F := F)) 𝒱₀ (tV d i) none) Set.univ (Prog.lift (.waitDma2 sem srcw dstw hsrc hdst) >>= k) Q := by
  subst hsem
  show _ ⊢ wp frame _ Set.univ (.op (.waitDma2 _ srcw dstw hsrc hdst) k) Q
  have hu' : u * cr m w + cr m w < cr m w * 8 := by nlinarith
  unfold Wst Fl Cx Own
  iintro ⟨⟨⟨HB, Hp, Hi, Hs⟩, Hm, #Hmw, ⟨%W', %hW', HO⟩⟩, HR⟩
  ihave Hw := (MayWaits.elim (c := tV d i) (ι := (none : HIx 2)) (O := O) (.dma (cs a))) $$ Hmw
  iapply (wp_waitBatchO countersEmb 𝒱₀ (tV d i) none (none : HIx 2) hN hu') $$ [HB HO Hw]
  · isplitl [HB]; · iexact HB
    isplitl [HO] <;> iassumption
  iintro ⟨HB, HO⟩
  iapply hk
  unfold Wst Fl Cx Own
  isplitr [HR]
  · isplitr [Hm HO]
    · rw [Nat.succ_mul]
      isplitl [HB]; · iexact HB
      isplitl [Hp]; · iexact Hp
      isplitl [Hi]; · iexact Hi
      iexact Hs
    isplitl [Hm]; · iexact Hm
    isplitr; · iexact Hmw
    iexists (insert (SemLoc.dma (cs a), (none : HIx 2)) W')
    isplitr
    · ipureintro; exact own_insert hW'
    iexact HO
  iexact HR

/-- Joining the shares: what a copy brought back of its share, and the rest. -/
theorem shr_join (w : ℕ) (off : ℕ → ℕ) (j : Fin 8) :
    iprop(((xV).view.loc (tV d i) ↦[(xV).view.setOn (seg (off j.val) w)]{xq j} x) ∗ cmp d i x xq w off j) ⊢ (shr d i x xq j : sProp 𝕄) :=
  (pointsTo_split_subset (Finset.subset_univ _)).2

theorem dl_split (m : Memref sig .scVector .vmem S25600 .f32) (w : ℕ) (off : ℕ → ℕ) :
    bigSep Finset.univ (Dl d i x xq m w off) ⊢ (iprop(bigSep Finset.univ (rowHas d i x m w off)
      ∗ bigSep Finset.univ fun j => ((xV).view.loc (tV d i) ↦[(xV).view.setOn (seg (off j.val) w)]{xq j} x)) : sProp 𝕄) := by
  rw [show Dl d i x xq m w off = fun j => iprop(rowHas d i x m w off j ∗ (xV).view.loc (tV d i) ↦[(xV).view.setOn (seg (off j.val) w)]{xq j} x)
    from rfl]
  exact Entails.of_eq (BI.bigSep_sep _ _ _)

theorem shr_joins (w : ℕ) (off : ℕ → ℕ) :
    iprop((bigSep Finset.univ fun j => ((xV).view.loc (tV d i) ↦[(xV).view.setOn (seg (off j.val) w)]{xq j} x))
      ∗ bigSep Finset.univ (cmp d i x xq w off)) ⊢ (bigSep Finset.univ (shr d i x xq) : sProp 𝕄) :=
  (Entails.of_eq (BI.bigSep_sep _ _ _).symm).trans (BI.bigSep_mono fun j _ => shr_join d i x xq w off j)

/-- The chunk's last wait. -/
theorem step_waitLast {β : Type} {Q : β → sProp 𝕄} {R : sProp 𝕄} {m m' : Memref sig .scVector .vmem S25600 .f32} {a : Fin 3} {w : ℕ} {off : ℕ → ℕ}
    {sem : DmaSem sig} {s' : Shape} {e' : EltTy} {sp' : Space} {s : Shape}
    {srcw : Memref sig (tV d i).2.kind sp' s' e'} {dstw : Memref sig .scVector .vmem s .f32} {hsrc : srcw.view.WordExact} {hdst : dstw.view.WordExact}
    {k : PUnit → Prog (TpuEff nD τ sig (Elt F) Λ₀ (tV d i).2) β}
    (hsem : sem = cs a) (hN : dstw.view.dmaCredit = cr m w) (hN0 : 0 < cr m w)
    (hk : iprop(Mst d i x xq O W m w off m' ∗ R) ⊢ wp frame (wpE (defs₀ (F := F)) 𝒱₀ (tV d i) none) Set.univ (k ⟨⟩) Q) :
    iprop(Wst d i x xq O W m a w off m' 7 ∗ R)
      ⊢ wp frame (wpE (defs₀ (F := F)) 𝒱₀ (tV d i) none) Set.univ (Prog.lift (.waitDma2 sem srcw dstw hsrc hdst) >>= k) Q := by
  subst hsem
  show _ ⊢ wp frame _ Set.univ (.op (.waitDma2 _ srcw dstw hsrc hdst) k) Q
  have hu' : 7 * cr m w + cr m w = cr m w * 8 := by omega
  unfold Wst Fl Cx Own
  iintro ⟨⟨⟨HB, Hp, Hi, Hs⟩, Hm, #Hmw, ⟨%W', %hW', HO⟩⟩, HR⟩
  ihave Hw := (MayWaits.elim (c := tV d i) (ι := (none : HIx 2)) (O := O) (.dma (cs a))) $$ Hmw
  iapply (wp_waitBatchLastO countersEmb 𝒱₀ (tV d i) none (none : HIx 2) hN hN0 hu') $$ [HB HO Hw]
  · isplitl [HB]; · iexact HB
    isplitl [HO] <;> iassumption
  iintro ⟨HD, Hz, HO⟩
  iapply hk
  unfold Mst Cx Own Sems
  isplitr [HR]
  · ihave HD := (dl_split d i x xq m w off) $$ HD
    rw [issued_eight]
    icases HD with ⟨HD, Hx⟩
    isplitl [HD]; · iexact HD
    isplitl [Hm]; · iexact Hm
    isplitl [Hx Hi]
    · iapply (shr_joins d i x xq w off)
      isplitl [Hx] <;> iassumption
    isplitl [Hz Hs]
    · rw [SparseCore.bigSep_erase' (Finset.mem_univ a)]
      isplitl [Hz] <;> iassumption
    isplitr; · iexact Hmw
    iexists (insert (SemLoc.dma (cs a), (none : HIx 2)) W')
    isplitr
    · ipureintro; exact own_insert hW'
    iexact HO
  iexact HR

theorem any_shr (m : Memref sig .scVector .vmem S25600 .f32) :
    iprop(bigSep Finset.univ (rowAny d i m) ∗ bigSep Finset.univ (shr d i x xq))
      ⊢ (bigSep Finset.univ fun j => iprop(rowAny d i m j ∗ shr d i x xq j) : sProp 𝕄) :=
  Entails.of_eq (BI.bigSep_sep _ _ _).symm

theorem rowHas_any (m : Memref sig .scVector .vmem S25600 .f32) (w : ℕ) (off : ℕ → ℕ) (j : Fin 8) :
    rowHas d i x m w off j ⊢ (rowAny d i m j : sProp 𝕄) := by
  unfold rowHas rowAny
  iintro ⟨%f, -, H⟩
  iexists f; iexact H

theorem rowsHas_any (m : Memref sig .scVector .vmem S25600 .f32) (w : ℕ) (off : ℕ → ℕ) :
    bigSep Finset.univ (rowHas d i x m w off) ⊢ (bigSep Finset.univ (rowAny d i m) : sProp 𝕄) :=
  BI.bigSep_mono fun j _ => rowHas_any d i x m w off j

/-- Opening the next chunk's copies: nothing issued yet. -/
theorem step_open {β : Type} {Q : β → sProp 𝕄} {R : sProp 𝕄} {m m' : Memref sig .scVector .vmem S25600 .f32} {w : ℕ} {off : ℕ → ℕ} {p : Prog (TpuEff nD τ sig (Elt F) Λ₀ (tV d i).2) β}
    (a' : Fin 3) (w' : ℕ) (off' : ℕ → ℕ)
    (hk : iprop(Lst d i x xq O W m w off m' a' w' off' 0 ∗ R) ⊢ wp frame (wpE (defs₀ (F := F)) 𝒱₀ (tV d i) none) Set.univ p Q) :
    iprop(Mst d i x xq O W m w off m' ∗ R) ⊢ wp frame (wpE (defs₀ (F := F)) 𝒱₀ (tV d i) none) Set.univ p Q := by
  unfold Mst
  rw [SparseCore.bigSep_erase' (Finset.mem_univ a')]
  iintro ⟨⟨HD, Hm, Hx, ⟨Hz, Hs⟩, Hc⟩, HR⟩
  imod (batch_alloc' countersEmb (tV d i) (none : HIx 2) (cr m' w') (Dl d i x xq m' w' off') (sm := .dma (cs a')) (E := Set.univ)) $$ Hz with HB
  iapply hk
  unfold Lst Fl Sems
  rw [pending_zero, issued_zero, bigSep_empty, Nat.zero_mul]
  isplitr [HR]
  · isplitl [HD]; · iexact HD
    isplitr [Hc]
    · isplitl [HB]; · iexact HB
      isplitl [Hm Hx]
      · iapply (any_shr d i x xq m')
        isplitl [Hm] <;> iassumption
      isplitr; · iempintro
      iexact Hs
    iexact Hc
  iexact HR

/-- What a landed copy leaves in its row. -/
theorem dl_of_landed {m : Memref sig .scVector .vmem S25600 .f32} {w : ℕ} {off : ℕ → ℕ} (j : Fin 8) {o₁ o₂ sz₁ : Fin 1 → ℕ} (h₁ h₂)
    (hr₁ hr₂) (fd : Buf (Elt F) (m.view.loc (tV d i))) (ho₁ : o₁ 0 = off j.val) (ho₂ : o₂ 0 = 3200 * j.val) (hw : sz₁ 0 = w) :
    iprop((m.view.loc (tV d i) ↦[m.view.setOn (band j.val)]{fullShare}
          ((m.slice (Rect.unit (s := S25600) o₂ sz₁ h₂) hr₂).view.write (Elt F) fd
            (((xV).slice (Rect.unit (s := S204800000) o₁ sz₁ h₁) hr₁).view.read (Elt F) x) Finset.univ))
        ∗ (((xV).slice (Rect.unit (s := S204800000) o₁ sz₁ h₁) hr₁).view.loc (tV d i)
            ↦[((xV).slice (Rect.unit (s := S204800000) o₁ sz₁ h₁) hr₁).view.set]{xq j} x))
      ⊢ (Dl d i x xq m w off j : sProp 𝕄) := by
  unfold Dl rowHas
  rw [show ((xV).slice (Rect.unit (s := S204800000) o₁ sz₁ h₁) hr₁).view.set = (xV).view.setOn (seg (off j.val) w) from
    (set_slice' xV _).trans (congrArg _ (set_src h₁ ho₁ hw))]
  iintro ⟨Hm, Hx⟩
  isplitl [Hm]
  · iexists _
    isplitr
    swap
    · iexact Hm
    ipureintro
    intro y l hl hy
    have hz : ∀ a, l < sz₁ a := fun a => by match a with | 0 => omega
    set z : (Rect.unit (s := S25600) o₂ sz₁ h₂).shape.Idx := fun a => ⟨l, hz a⟩ with hzdef
    have hyz : y = (Rect.unit (s := S25600) o₂ sz₁ h₂).emb z := by
      funext a
      match a with
      | 0 => exact Fin.ext (by rw [Rect.emb_apply]; show (y 0).val = o₂ 0 + 1 * l; omega)
    have e1 := View.read_slice_write_emb (v := m.view) (Val := Elt F) (Rect.unit (s := S25600) o₂ sz₁ h₂) fd
      (((xV).slice (Rect.unit (s := S204800000) o₁ sz₁ h₁) hr₁).view.read (Elt F) x) (Finset.mem_univ z)
    rw [hyz]
    refine e1.trans ?_
    refine (flat_apply d i x ((Rect.unit (s := S204800000) o₁ sz₁ h₁).emb z)).trans ?_
    congr 1
    rw [Rect.emb_apply]; show o₁ 0 + 1 * l = _; omega
  · iexact Hx

/-- Issuing the next copy. -/
theorem step_issue {β : Type} {Q : β → sProp 𝕄} {R : sProp 𝕄} {m m' : Memref sig .scVector .vmem S25600 .f32} {w : ℕ} {off : ℕ → ℕ} {a' : Fin 3} {w' : ℕ} {off' : ℕ → ℕ} {j : ℕ}
    {sem : DmaSem sig} {o₁ o₂ sz : Fin 1 → ℕ} {h₁ h₂ hr₁ hr₂ hsrc hdst hty} [cl : ClosedOff o₁]
    {k : PUnit → Prog (TpuEff nD τ sig (Elt F) Λ₀ (tV d i).2) β}
    (hsem : sem = cs a') (hj : j < 8) (hw : sz 0 = w') (hw' : w' ≤ 3200) (ho₁ : cl.form 0 = off' j) (ho₂ : o₂ 0 = 3200 * j)
    (hk : iprop(Lst d i x xq O W m w off m' a' w' off' (j + 1) ∗ R) ⊢ wp frame (wpE (defs₀ (F := F)) 𝒱₀ (tV d i) none) Set.univ (k ⟨⟩) Q) :
    iprop(Lst d i x xq O W m w off m' a' w' off' j ∗ R)
      ⊢ wp frame (wpE (defs₀ (F := F)) 𝒱₀ (tV d i) none) Set.univ
          (Prog.lift (.enqueueDma ((xV).slice (Rect.unit (s := S204800000) o₁ sz h₁) hr₁)
            (.here (m'.slice (Rect.unit (s := S25600) o₂ sz h₂) hr₂)) (.dma sem) hsrc hdst hty) >>= k) Q := by
  subst hsem
  show _ ⊢ wp frame _ Set.univ (.op (.enqueueDmaAs _ (.here _) .same (.dma _) _ _ _) k) Q
  have ho₁' : o₁ 0 = off' j := by rw [cl.eq]; exact ho₁
  unfold Lst Fl
  rw [bigSep_pending_step _ j hj]
  iintro ⟨⟨HD, ⟨HB, ⟨⟨Hm, Hx⟩, Hp⟩, Hi, Hs⟩, Hc⟩, HR⟩
  unfold rowAny shr
  icases Hm with ⟨%fd, Hm⟩
  ihave Hx' := (pointsTo_split_subset (S := Finset.univ) (Finset.subset_univ ((xV).view.setOn (seg (off' j) w')))).1 $$ Hx
  icases Hx' with ⟨Hx, Hxr⟩
  have hset : ((xV).slice (Rect.unit (s := S204800000) o₁ sz h₁) hr₁).view.set = (xV).view.setOn (seg (off' j) w') :=
    (set_slice' xV _).trans (congrArg _ (set_src h₁ ho₁' hw))
  have hdset : (m'.slice (Rect.unit (s := S25600) o₂ sz h₂) hr₂).view.set ⊆ m'.view.setOn (band j) := by
    rw [set_slice']; exact Finset.map_subset_map.mpr (set_dst h₂ ho₂ hw hw')
  have hN : (m'.slice (Rect.unit (s := S25600) o₂ sz h₂) hr₂).view.amount (.dma (cs a')) = cr m' w' := by
    have : sz = ![w'] := by funext a; match a with | 0 => exact hw
    subst this; rfl
  have h0 : 0 * cr m' w' ≤ j * cr m' w' := by rw [Nat.zero_mul]; exact Nat.zero_le _
  iapply (wp_dmaBatch countersEmb 𝒱₀ (tV d i) none (none : HIx 2) (cr m' w') hN hdset hj h0
    (via := .same) (src := (xV).slice (Rect.unit (s := S204800000) o₁ sz h₁) hr₁) (dst := m'.slice (Rect.unit (s := S25600) o₂ sz h₂) hr₂)
    (D := Dl d i x xq m' w' off') (q := xq ⟨j, hj⟩) (fs := x) (fd := fd) (Sd := m'.view.setOn (band j))
    (dl_of_landed d i x xq ⟨j, hj⟩ h₁ h₂ hr₁ hr₂ fd ho₁' ho₂ hw)) $$ [Hx Hm HB]
  · isplitl [Hx]; · rw [hset]; iexact Hx
    isplitl [Hm]; · iexact Hm
    iexact HB
  iintro HB
  iapply hk
  unfold Lst Fl
  rw [bigSep_issued_step _ j hj]
  isplitr [HR]
  · isplitl [HD]; · iexact HD
    isplitr [Hc]
    · isplitl [HB]; · iexact HB
      isplitl [Hp]; · iexact Hp
      isplitl [Hxr Hi]
      · isplitl [Hxr]
        · unfold cmp; iexact Hxr
        · iexact Hi
      iexact Hs
    iexact Hc
  iexact HR

/-- Sixteen columns of the flat array. -/
def vec (x : Buf (Elt F) ((xV).view.loc (tV d i))) (o : ℕ) : FVec F S16 .f32 := fun l => flat d i x (o + (l 0).val)

/-- Loading sixteen columns of row `r`. -/
theorem step_load {β : Type} {Q : β → sProp 𝕄} {R : sProp 𝕄} {m m' : Memref sig .scVector .vmem S25600 .f32} {w : ℕ} {off : ℕ → ℕ} {a' : Fin 3} {w' : ℕ} {off' : ℕ → ℕ} {k₀ : ℕ}
    {o : Fin 1 → ℕ} {h hl} [cl : ClosedOff o]
    {k : (S16.Idx → Elt F .f32) → Prog (TpuEff nD τ sig (Elt F) Λ₀ (tV d i).2) β} (r : ℕ) (t : ℕ)
    (hr : r < 8) (ho : cl.form 0 = 3200 * r + 16 * t) (ht : 16 * t + 16 ≤ w) (hw : w ≤ 3200)
    (hk : iprop(Lst d i x xq O W m w off m' a' w' off' k₀ ∗ R)
      ⊢ wp frame (wpE (defs₀ (F := F)) 𝒱₀ (tV d i) none) Set.univ (k (vec d i x (off r + 16 * t))) Q) :
    iprop(Lst d i x xq O W m w off m' a' w' off' k₀ ∗ R)
      ⊢ wp frame (wpE (defs₀ (F := F)) 𝒱₀ (tV d i) none) Set.univ
          (Prog.lift (.load m (Rect.unit (s := S25600) o S16.size h).toLoadRect hl) >>= k) Q := by
  have ho' : o 0 = 3200 * r + 16 * t := by rw [cl.eq]; exact ho
  show _ ⊢ wp frame _ Set.univ (.op (.load m (Rect.unit (s := S25600) o S16.size h).toLoadRect hl) k) Q
  unfold Lst
  rw [SparseCore.bigSep_erase' (Finset.mem_univ (⟨r, hr⟩ : Fin 8)) (Φ := rowHas d i x m w off)]
  iintro ⟨⟨⟨Hr, HD⟩, HF, Hc⟩, HR⟩
  unfold rowHas
  icases Hr with ⟨%f, %hf, Hr⟩
  have hset : m.view.setOn (Rect.unit (s := S25600) o S16.size h).toLoadRect.set ⊆ m.view.setOn (band r) := by
    refine Finset.map_subset_map.mpr ?_
    intro y
    rw [show (Rect.unit (s := S25600) o S16.size h).toLoadRect.set = (Rect.unit (s := S25600) o S16.size h).set from rfl, Rect.mem_set_unit, band, Finset.mem_filter]
    intro hy
    have h0 : o 0 ≤ (y 0).val ∧ (y 0).val < o 0 + 16 := hy 0
    exact ⟨Finset.mem_univ _, by omega, by omega⟩
  iapply (wp_load 𝒱₀ (tV d i) none Set.univ hset) $$ Hr
  iintro Hr
  have hv : m.view.readAt (Elt F) (Rect.unit (s := S25600) o S16.size h).toLoadRect f = vec d i x (off r + 16 * t) := by
    funext l
    have hl16 : (l 0).val < 16 := (l 0).isLt
    rw [View.readAt_apply]
    refine (hf ((Rect.unit (s := S25600) o S16.size h).emb l) (16 * t + (l 0).val) (by omega) ?_).trans ?_
    · rw [Rect.emb_apply]; show o 0 + 1 * (l 0).val = 3200 * r + (16 * t + (l 0).val); omega
    · unfold vec; exact congrArg _ (Nat.add_assoc _ _ _).symm
  rw [hv]
  iapply hk
  unfold Lst
  rw [SparseCore.bigSep_erase' (Finset.mem_univ (⟨r, hr⟩ : Fin 8)) (Φ := rowHas d i x m w off)]
  isplitr [HR]
  · isplitl [Hr HD]
    · isplitl [Hr]
      · unfold rowHas
        iexists f
        isplitr
        · ipureintro; exact hf
        iexact Hr
      iexact HD
    isplitl [HF] <;> iassumption
  iexact HR

/-- The chunk is spent: its buffer is free, the next chunk is awaited. -/
theorem step_turn {β : Type} {Q : β → sProp 𝕄} {R : sProp 𝕄} {m m' : Memref sig .scVector .vmem S25600 .f32} {w : ℕ} {off : ℕ → ℕ} {a' : Fin 3} {w' : ℕ} {off' : ℕ → ℕ}
    {p : Prog (TpuEff nD τ sig (Elt F) Λ₀ (tV d i).2) β}
    (hk : iprop(Wst d i x xq O W m' a' w' off' m 0 ∗ R) ⊢ wp frame (wpE (defs₀ (F := F)) 𝒱₀ (tV d i) none) Set.univ p Q) :
    iprop(Lst d i x xq O W m w off m' a' w' off' 8 ∗ R) ⊢ wp frame (wpE (defs₀ (F := F)) 𝒱₀ (tV d i) none) Set.univ p Q := by
  unfold Lst
  iintro ⟨⟨HD, HF, Hc⟩, HR⟩
  iapply hk
  unfold Wst
  isplitr [HR]
  · isplitl [HF]; · iexact HF
    isplitr [Hc]
    · iapply (rowsHas_any d i x m w off) $$ HD
    iexact Hc
  iexact HR

end Cert.Proof.Run
-- ==== Proof.Chunks.lean ====
/-
  The running sums, maxima and positions of a row, and the states of one tile by group of rows and chunk of columns.
-/
module

public import proofs.«01_k».proof.Proof.Steps

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))

/-! ## The running values of a row -/

/-- The lanes' sums of the first `n` vectors from `o`. -/
def fS (o : ℕ) : ℕ → FVec F S16 .f32
  | 0 => broadcast S16 (Scalar.ofBits .f32 0x00000000#32)
  | n + 1 => addf (fS o n) (shapeCast S16 (vec d i x (o + 16 * n)) shapeCasts_S16_S16)

/-- The lanes' maxima. -/
def fM (o : ℕ) : ℕ → FVec F S16 .f32
  | 0 => broadcast S16 (Scalar.ofBits .f32 0xFF800000#32)
  | n + 1 => maximumf (fM o n) (shapeCast S16 (vec d i x (o + 16 * n)) shapeCasts_S16_S16)

/-- The number of the vector that brought each lane's maximum first. -/
def fA (o : ℕ) : ℕ → IVec S16 32
  | 0 => broadcast S16 0#32
  | n + 1 => select (cmpf .ogt (shapeCast S16 (vec d i x (o + 16 * n)) shapeCasts_S16_S16) (fM d i x o n)) (broadcast S16 (BitVec.ofNat 32 n)) (fA o n)

/-- Where the tile's row `ρ` begins in the flat array. -/
def row (i : grid0.Coords) (ρ : ℕ) : ℕ := 12800000 * (i 1).val + 6400000 * (i 0).val + 100000 * ρ

/-- The group whose columns chunk `c` brings: past a group's last chunk comes the next group's first. -/
def gOf (g c : ℕ) : ℕ := if c < 32 then g else min (g + 1) 7

/-- Where chunk `c` of row `j` of group `g` begins. -/
def off (i : grid0.Coords) (g c : ℕ) (j : ℕ) : ℕ := row i (8 * gOf g c + j) + 3200 * (c % 32)

abbrev buf (c : ℕ) : Memref sig .scVector .vmem S25600 .f32 := if c % 2 = 0 then bufA else bufB
abbrev sm (c : ℕ) : Fin 3 := if c % 32 = 31 then 2 else if c % 2 = 0 then 0 else 1
abbrev wd (c : ℕ) : ℕ := if c % 32 = 31 then 800 else 3200
/-- The vectors of chunk `c`. -/
abbrev tr (c : ℕ) : ℕ := if c = 31 then 50 else 200

/-- What the loop over a chunk carries after `n` vectors of each of the group's rows. -/
abbrev Carry (F : FTy → Type) : Type := FVec F S16 .f32 × FVec F S16 .f32 × IVec S16 32 × FVec F S16 .f32 × FVec F S16 .f32 × IVec S16 32 × FVec F S16 .f32 × FVec F S16 .f32 × IVec S16 32 × FVec F S16 .f32 × FVec F S16 .f32 × IVec S16 32 × FVec F S16 .f32 × FVec F S16 .f32 × IVec S16 32 × FVec F S16 .f32 × FVec F S16 .f32 × IVec S16 32 × FVec F S16 .f32 × FVec F S16 .f32 × IVec S16 32 × FVec F S16 .f32 × FVec F S16 .f32 × IVec S16 32

abbrev carry (g n : ℕ) : Carry F :=
  (fS d i x (row i (8 * g + 0)) n, fM d i x (row i (8 * g + 0)) n, fA d i x (row i (8 * g + 0)) n,
    fS d i x (row i (8 * g + 1)) n, fM d i x (row i (8 * g + 1)) n, fA d i x (row i (8 * g + 1)) n,
    fS d i x (row i (8 * g + 2)) n, fM d i x (row i (8 * g + 2)) n, fA d i x (row i (8 * g + 2)) n,
    fS d i x (row i (8 * g + 3)) n, fM d i x (row i (8 * g + 3)) n, fA d i x (row i (8 * g + 3)) n,
    fS d i x (row i (8 * g + 4)) n, fM d i x (row i (8 * g + 4)) n, fA d i x (row i (8 * g + 4)) n,
    fS d i x (row i (8 * g + 5)) n, fM d i x (row i (8 * g + 5)) n, fA d i x (row i (8 * g + 5)) n,
    fS d i x (row i (8 * g + 6)) n, fM d i x (row i (8 * g + 6)) n, fA d i x (row i (8 * g + 6)) n,
    fS d i x (row i (8 * g + 7)) n, fM d i x (row i (8 * g + 7)) n, fA d i x (row i (8 * g + 7)) n)

/-- One more vector of each row, at the position word `w`. -/
abbrev carryOn (g n : ℕ) (w : BitVec 32) : Carry F :=
  (addf (fS d i x (row i (8 * g + 0)) n) (shapeCast S16 (vec d i x (row i (8 * g + 0) + 16 * n)) shapeCasts_S16_S16), maximumf (fM d i x (row i (8 * g + 0)) n) (shapeCast S16 (vec d i x (row i (8 * g + 0) + 16 * n)) shapeCasts_S16_S16),
      select (cmpf .ogt (shapeCast S16 (vec d i x (row i (8 * g + 0) + 16 * n)) shapeCasts_S16_S16) (fM d i x (row i (8 * g + 0)) n)) (broadcast S16 w) (fA d i x (row i (8 * g + 0)) n),
    addf (fS d i x (row i (8 * g + 1)) n) (shapeCast S16 (vec d i x (row i (8 * g + 1) + 16 * n)) shapeCasts_S16_S16), maximumf (fM d i x (row i (8 * g + 1)) n) (shapeCast S16 (vec d i x (row i (8 * g + 1) + 16 * n)) shapeCasts_S16_S16),
      select (cmpf .ogt (shapeCast S16 (vec d i x (row i (8 * g + 1) + 16 * n)) shapeCasts_S16_S16) (fM d i x (row i (8 * g + 1)) n)) (broadcast S16 w) (fA d i x (row i (8 * g + 1)) n),
    addf (fS d i x (row i (8 * g + 2)) n) (shapeCast S16 (vec d i x (row i (8 * g + 2) + 16 * n)) shapeCasts_S16_S16), maximumf (fM d i x (row i (8 * g + 2)) n) (shapeCast S16 (vec d i x (row i (8 * g + 2) + 16 * n)) shapeCasts_S16_S16),
      select (cmpf .ogt (shapeCast S16 (vec d i x (row i (8 * g + 2) + 16 * n)) shapeCasts_S16_S16) (fM d i x (row i (8 * g + 2)) n)) (broadcast S16 w) (fA d i x (row i (8 * g + 2)) n),
    addf (fS d i x (row i (8 * g + 3)) n) (shapeCast S16 (vec d i x (row i (8 * g + 3) + 16 * n)) shapeCasts_S16_S16), maximumf (fM d i x (row i (8 * g + 3)) n) (shapeCast S16 (vec d i x (row i (8 * g + 3) + 16 * n)) shapeCasts_S16_S16),
      select (cmpf .ogt (shapeCast S16 (vec d i x (row i (8 * g + 3) + 16 * n)) shapeCasts_S16_S16) (fM d i x (row i (8 * g + 3)) n)) (broadcast S16 w) (fA d i x (row i (8 * g + 3)) n),
    addf (fS d i x (row i (8 * g + 4)) n) (shapeCast S16 (vec d i x (row i (8 * g + 4) + 16 * n)) shapeCasts_S16_S16), maximumf (fM d i x (row i (8 * g + 4)) n) (shapeCast S16 (vec d i x (row i (8 * g + 4) + 16 * n)) shapeCasts_S16_S16),
      select (cmpf .ogt (shapeCast S16 (vec d i x (row i (8 * g + 4) + 16 * n)) shapeCasts_S16_S16) (fM d i x (row i (8 * g + 4)) n)) (broadcast S16 w) (fA d i x (row i (8 * g + 4)) n),
    addf (fS d i x (row i (8 * g + 5)) n) (shapeCast S16 (vec d i x (row i (8 * g + 5) + 16 * n)) shapeCasts_S16_S16), maximumf (fM d i x (row i (8 * g + 5)) n) (shapeCast S16 (vec d i x (row i (8 * g + 5) + 16 * n)) shapeCasts_S16_S16),
      select (cmpf .ogt (shapeCast S16 (vec d i x (row i (8 * g + 5) + 16 * n)) shapeCasts_S16_S16) (fM d i x (row i (8 * g + 5)) n)) (broadcast S16 w) (fA d i x (row i (8 * g + 5)) n),
    addf (fS d i x (row i (8 * g + 6)) n) (shapeCast S16 (vec d i x (row i (8 * g + 6) + 16 * n)) shapeCasts_S16_S16), maximumf (fM d i x (row i (8 * g + 6)) n) (shapeCast S16 (vec d i x (row i (8 * g + 6) + 16 * n)) shapeCasts_S16_S16),
      select (cmpf .ogt (shapeCast S16 (vec d i x (row i (8 * g + 6) + 16 * n)) shapeCasts_S16_S16) (fM d i x (row i (8 * g + 6)) n)) (broadcast S16 w) (fA d i x (row i (8 * g + 6)) n),
    addf (fS d i x (row i (8 * g + 7)) n) (shapeCast S16 (vec d i x (row i (8 * g + 7) + 16 * n)) shapeCasts_S16_S16), maximumf (fM d i x (row i (8 * g + 7)) n) (shapeCast S16 (vec d i x (row i (8 * g + 7) + 16 * n)) shapeCasts_S16_S16),
      select (cmpf .ogt (shapeCast S16 (vec d i x (row i (8 * g + 7) + 16 * n)) shapeCasts_S16_S16) (fM d i x (row i (8 * g + 7)) n)) (broadcast S16 w) (fA d i x (row i (8 * g + 7)) n))

theorem carryOn_eq (g n : ℕ) : carryOn d i x g n (BitVec.ofNat 32 n) = carry d i x g (n + 1) := rfl

/-! ## The states -/

variable (xq : Fin 8 → PosShare TreeShare) (O : CellTallies nD τ sig (HIx 2)) (W : Waits sig (HIx 2))

/-- Waiting for chunk `c`, `u` of its copies waited for. -/
def Wc (g c u : ℕ) : sProp 𝕄 := Wst d i x xq O W (buf c) (sm c) (wd c) (off i g c) (buf (c + 1)) u
/-- Chunk `c` is there. -/
def Mc (g c : ℕ) : sProp 𝕄 := Mst d i x xq O W (buf c) (wd c) (off i g c) (buf (c + 1))
/-- Chunk `c` is there, `k` copies of the next are issued. -/
def Lc (g c k : ℕ) : sProp 𝕄 :=
  Lst d i x xq O W (buf c) (wd c) (off i g c) (buf (c + 1)) (sm (c + 1)) (wd (c + 1)) (off i g (c + 1)) k
/-- In the loop over chunk `c`, at vector `t`, `r` rows loaded. -/
def Rc (g c : ℕ) (_t _r : ℕ) : sProp 𝕄 := Lc d i x xq O W g c 8

variable {O W}

theorem cr_pos (c : ℕ) : 0 < cr (buf c) (wd c) := by
  unfold buf wd
  split <;> split <;> decide

theorem wd_le (c : ℕ) : wd c ≤ 3200 := by unfold wd; split <;> omega

theorem buf_add (c : ℕ) : buf (c + 1 + 1) = buf c := by
  unfold buf
  rw [show (c + 1 + 1) % 2 = c % 2 by omega]

theorem c_wait {β : Type} {Q : β → sProp 𝕄} {R : sProp 𝕄} {g c u : ℕ}
    {sem : DmaSem sig} {s' : Shape} {e' : EltTy} {sp' : Space} {s : Shape}
    {srcw : Memref sig (tV d i).2.kind sp' s' e'} {dstw : Memref sig .scVector .vmem s .f32} {hsrc : srcw.view.WordExact} {hdst : dstw.view.WordExact}
    {k : PUnit → Prog (TpuEff nD τ sig (Elt F) Λ₀ (tV d i).2) β}
    (hu : u < 7) (hsem : sem = cs (sm c)) (hN : dstw.view.dmaCredit = cr (buf c) (wd c))
    (hk : iprop(Wc d i x xq O W g c (u + 1) ∗ R) ⊢ wp frame (wpE (defs₀ (F := F)) 𝒱₀ (tV d i) none) Set.univ (k ⟨⟩) Q) :
    iprop(Wc d i x xq O W g c u ∗ R)
      ⊢ wp frame (wpE (defs₀ (F := F)) 𝒱₀ (tV d i) none) Set.univ (Prog.lift (.waitDma2 sem srcw dstw hsrc hdst) >>= k) Q :=
  step_wait d i x xq hsem hN hu (cr_pos c) hk

theorem c_waitLast {β : Type} {Q : β → sProp 𝕄} {R : sProp 𝕄} {g c : ℕ}
    {sem : DmaSem sig} {s' : Shape} {e' : EltTy} {sp' : Space} {s : Shape}
    {srcw : Memref sig (tV d i).2.kind sp' s' e'} {dstw : Memref sig .scVector .vmem s .f32} {hsrc : srcw.view.WordExact} {hdst : dstw.view.WordExact}
    {k : PUnit → Prog (TpuEff nD τ sig (Elt F) Λ₀ (tV d i).2) β}
    (hsem : sem = cs (sm c)) (hN : dstw.view.dmaCredit = cr (buf c) (wd c))
    (hk : iprop(Lc d i x xq O W g c 0 ∗ R) ⊢ wp frame (wpE (defs₀ (F := F)) 𝒱₀ (tV d i) none) Set.univ (k ⟨⟩) Q) :
    iprop(Wc d i x xq O W g c 7 ∗ R)
      ⊢ wp frame (wpE (defs₀ (F := F)) 𝒱₀ (tV d i) none) Set.univ (Prog.lift (.waitDma2 sem srcw dstw hsrc hdst) >>= k) Q :=
  step_waitLast d i x xq hsem hN (cr_pos c) (step_open d i x xq (sm (c + 1)) (wd (c + 1)) (off i g (c + 1)) hk)

theorem c_issue {β : Type} {Q : β → sProp 𝕄} {R : sProp 𝕄} {g c j : ℕ} {m' : Memref sig .scVector .vmem S25600 .f32}
    {sem : DmaSem sig} {o₁ o₂ sz : Fin 1 → ℕ} {h₁ h₂ hr₁ hr₂ hsrc hdst hty} [cl : ClosedOff o₁]
    {k : PUnit → Prog (TpuEff nD τ sig (Elt F) Λ₀ (tV d i).2) β}
    (hj : j < 8) (hm : m' = buf (c + 1)) (hsem : sem = cs (sm (c + 1))) (hw : sz 0 = wd (c + 1)) (ho₁ : cl.form 0 = off i g (c + 1) j)
    (ho₂ : o₂ 0 = 3200 * j)
    (hk : iprop(Lc d i x xq O W g c (j + 1) ∗ R) ⊢ wp frame (wpE (defs₀ (F := F)) 𝒱₀ (tV d i) none) Set.univ (k ⟨⟩) Q) :
    iprop(Lc d i x xq O W g c j ∗ R)
      ⊢ wp frame (wpE (defs₀ (F := F)) 𝒱₀ (tV d i) none) Set.univ
          (Prog.lift (.enqueueDma ((xV).slice (Rect.unit (s := S204800000) o₁ sz h₁) hr₁)
            (.here (m'.slice (Rect.unit (s := S25600) o₂ sz h₂) hr₂)) (.dma sem) hsrc hdst hty) >>= k) Q := by
  subst hm
  exact step_issue d i x xq hsem hj hw (wd_le _) ho₁ ho₂ hk

theorem c_load {β : Type} {Q : β → sProp 𝕄} {R : sProp 𝕄} {g c t r : ℕ} {m : Memref sig .scVector .vmem S25600 .f32}
    {o : Fin 1 → ℕ} {h hl} [cl : ClosedOff o]
    {k : (S16.Idx → Elt F .f32) → Prog (TpuEff nD τ sig (Elt F) Λ₀ (tV d i).2) β}
    (hr : r < 8) (hc : c < 32) (hm : m = buf c) (ho : cl.form 0 = 3200 * r + 16 * t) (ht : t < tr c)
    (hk : iprop(Rc d i x xq O W g c t (r + 1) ∗ R)
      ⊢ wp frame (wpE (defs₀ (F := F)) 𝒱₀ (tV d i) none) Set.univ (k (vec d i x (row i (8 * g + r) + 16 * (200 * c + t)))) Q) :
    iprop(Rc d i x xq O W g c t r ∗ R)
      ⊢ wp frame (wpE (defs₀ (F := F)) 𝒱₀ (tV d i) none) Set.univ
          (Prog.lift (.load m (Rect.unit (s := S25600) o S16.size h).toLoadRect hl) >>= k) Q := by
  subst hm
  have e : row i (8 * g + r) + 16 * (200 * c + t) = off i g c r + 16 * t := by
    unfold off gOf; rw [if_pos hc, Nat.mod_eq_of_lt hc]; omega
  rw [e] at hk
  have ht' : 16 * t + 16 ≤ wd c := by
    have h1 : t < if c = 31 then 50 else 200 := ht
    show 16 * t + 16 ≤ if c % 32 = 31 then 800 else 3200
    split at h1 <;> split <;> omega
  exact step_load d i x xq r t hr ho ht' (wd_le _) hk

theorem c_turn {β : Type} {Q : β → sProp 𝕄} {R : sProp 𝕄} {g c : ℕ}
    {p : Prog (TpuEff nD τ sig (Elt F) Λ₀ (tV d i).2) β}
    (hk : iprop(Wc d i x xq O W g (c + 1) 0 ∗ R) ⊢ wp frame (wpE (defs₀ (F := F)) 𝒱₀ (tV d i) none) Set.univ p Q) :
    iprop(Lc d i x xq O W g c 8 ∗ R) ⊢ wp frame (wpE (defs₀ (F := F)) 𝒱₀ (tV d i) none) Set.univ p Q := by
  unfold Wc at hk
  rw [buf_add] at hk
  exact step_turn d i x xq hk

/-- The loop over a chunk's vectors. -/
theorem c_loop {β : Type} {Q : β → sProp 𝕄} {R : sProp 𝕄} {g c : ℕ} {L : Scf.Loop 32} {hL : L.OK} {init : Carry F}
    {body : Fin L.trips → Carry F → Prog (TpuEff nD τ sig (Elt F) Λ₀ (tV d i).2) (Carry F)}
    {kk : Carry F → Prog (TpuEff nD τ sig (Elt F) Λ₀ (tV d i).2) β}
    (htr : L.trips = tr c) (hinit : init = carry d i x g (200 * c))
    (hbody : ∀ (t : Fin L.trips) (R' : sProp 𝕄) (Q' : Carry F → sProp 𝕄), t.val < tr c →
      (iprop(Rc d i x xq O W g c t.val 8 ∗ R') ⊢
        Q' (carryOn d i x g (200 * c + t.val) (Scalar.addi (BitVec.ofNat 32 (200 * c)) (Scf.iv 0#32 1#32 t.val)))) →
      iprop(Rc d i x xq O W g c t.val 0 ∗ R')
        ⊢ wp frame (wpE (defs₀ (F := F)) 𝒱₀ (tV d i) none) Set.univ (body t (carry d i x g (200 * c + t.val))) Q')
    (hk : iprop(Wc d i x xq O W g (c + 1) 0 ∗ R)
      ⊢ wp frame (wpE (defs₀ (F := F)) 𝒱₀ (tV d i) none) Set.univ (kk (carry d i x g (200 * c + tr c))) Q) :
    iprop(Lc d i x xq O W g c 8 ∗ R)
      ⊢ wp frame (wpE (defs₀ (F := F)) 𝒱₀ (tV d i) none) Set.univ (Scf.Loop.for L hL init body >>= kk) Q := by
  have hb : ∀ (t : Fin L.trips) (acc : Carry F),
      iprop(⌜acc = carry d i x g (200 * c + t.val)⌝ ∗ Rc d i x xq O W g c t.val 0)
        ⊢ wp frame (wpE (defs₀ (F := F)) 𝒱₀ (tV d i) none) Set.univ (body t acc)
            (fun acc => iprop(⌜acc = carry d i x g (200 * c + (t.val + 1))⌝ ∗ Rc d i x xq O W g c (t.val + 1) 0)) := by
    intro t acc
    iintro ⟨%e, H⟩
    subst e
    have hw : Scalar.addi (BitVec.ofNat 32 (200 * c)) (Scf.iv 0#32 1#32 t.val) = BitVec.ofNat 32 (200 * c + t.val) := by
      unfold Scalar.addi Scf.iv
      apply BitVec.eq_of_toNat_eq
      simp [IntOp.addi]
    have h0 : iprop(Rc d i x xq O W g c t.val 8 ∗ emp) ⊢ (iprop(⌜carry d i x g (200 * c + t.val + 1) = carry d i x g (200 * c + (t.val + 1))⌝
        ∗ Rc d i x xq O W g c (t.val + 1) 0) : sProp 𝕄) := by
      iintro ⟨H, -⟩
      isplitr
      · ipureintro; rfl
      iexact H
    have := hbody t iprop(emp) (fun acc => iprop(⌜acc = carry d i x g (200 * c + (t.val + 1))⌝ ∗ Rc d i x xq O W g c (t.val + 1) 0))
      (htr ▸ t.isLt) (by rw [hw, carryOn_eq]; exact h0)
    iapply this
    isplitl [H]; · iexact H
    iempintro
  subst hinit
  iintro ⟨H, HR⟩
  iapply (Scf.wp_for_bind frame (wpE (defs₀ (F := F)) 𝒱₀ (tV d i) none) Set.univ L.lb L.ub L.st hL (carry d i x g (200 * c)) body
    (fun n acc => iprop(⌜acc = carry d i x g (200 * c + n)⌝ ∗ Rc d i x xq O W g c n 0)) hb) $$ [H]
  · isplitr
    · ipureintro; rfl
    iapply (Entails.of_eq (show Lc d i x xq O W g c 8 = Rc d i x xq O W g c 0 0 from rfl)) $$ H
  iintro %acc ⟨%e, H⟩
  subst e
  rw [show Scf.trips L.lb L.ub L.st = tr c from htr]
  iapply (c_turn d i x xq hk)
  isplitl [H]; · iapply (Entails.of_eq (show Rc d i x xq O W g c (tr c) 0 = Lc d i x xq O W g c 8 from rfl)) $$ H
  iexact HR

/-- Into a part of the program, and out of it. -/
theorem c_enter {α β : Type} {Q : β → sProp 𝕄} {H : sProp 𝕄} {p : Prog (TpuEff nD τ sig (Elt F) Λ₀ (tV d i).2) α}
    {k : α → Prog (TpuEff nD τ sig (Elt F) Λ₀ (tV d i).2) β}
    (h : H ⊢ wp frame (wpE (defs₀ (F := F)) 𝒱₀ (tV d i) none) Set.univ p
      (fun a => wp frame (wpE (defs₀ (F := F)) 𝒱₀ (tV d i) none) Set.univ (k a) Q)) :
    H ⊢ wp frame (wpE (defs₀ (F := F)) 𝒱₀ (tV d i) none) Set.univ (p >>= k) Q := by
  rw [wp_bind]; exact h

theorem c_leave {α : Type} {Q : α → sProp 𝕄} {H : sProp 𝕄} {v : α}
    (h : H ⊢ Q v) :
    H ⊢ wp frame (wpE (defs₀ (F := F)) 𝒱₀ (tV d i) none) Set.univ (pure v) Q := by
  rw [wp_pure]
  exact h.trans fupd_intro

end Cert.Proof.Run
-- ==== Proof.Stage.lean ====
/-
  The staging arrays of one tile of the first SparseCore kernel, filled row by row.
-/
module

public import proofs.«01_k».proof.Proof.Chunks

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))

/-! ## A staging array -/

/-- The staging array `m` holds `V ρ` in row `ρ`, for the first `n` rows. -/
def SA {e : EltTy} (m : Memref sig .scVector .vmem S1024 e) (V : ℕ → S16.Idx → Elt F e) (n : ℕ) : sProp 𝕄 :=
  iprop(∃ f, ⌜∀ (y : S1024.Idx) (l : S16.Idx) (ρ : ℕ), ρ < n → (y 0).val = 16 * ρ + (l 0).val → m.view.read (Elt F) f y = V ρ l⌝
    ∗ m.view.loc (tV d i) ↦[m.view.set]{fullShare} f)

/-- A load whose value nothing uses. -/
theorem sa_load {e : EltTy} {m : Memref sig .scVector .vmem S1024 e} {V : ℕ → S16.Idx → Elt F e} {n : ℕ}
    {β : Type} {Q : β → sProp 𝕄} {R : sProp 𝕄} {o : Fin 1 → ℕ} {h hl}
    {k : (S16.Idx → Elt F e) → Prog (TpuEff nD τ sig (Elt F) Λ₀ (tV d i).2) β}
    (hk : ∀ v, iprop(SA d i m V n ∗ R) ⊢ wp frame (wpE (defs₀ (F := F)) 𝒱₀ (tV d i) none) Set.univ (k v) Q) :
    iprop(SA d i m V n ∗ R)
      ⊢ wp frame (wpE (defs₀ (F := F)) 𝒱₀ (tV d i) none) Set.univ
          (Prog.lift (.load m (Rect.unit (s := S1024) o S16.size h).toLoadRect hl) >>= k) Q := by
  show _ ⊢ wp frame _ Set.univ (.op (.load m (Rect.unit (s := S1024) o S16.size h).toLoadRect hl) k) Q
  iintro ⟨H, HR⟩
  unfold SA
  icases H with ⟨%f, %hf, H⟩
  iapply (wp_load 𝒱₀ (tV d i) none Set.univ (S := m.view.set)
    (Finset.map_subset_map.mpr (Finset.subset_univ _))) $$ H
  iintro H
  iapply (hk _)
  unfold SA
  isplitl [H]
  · iexists f
    isplitr
    · ipureintro; exact hf
    iexact H
  iexact HR

/-- Storing row `n`. -/
theorem sa_store {e : EltTy} {m : Memref sig .scVector .vmem S1024 e} {V : ℕ → S16.Idx → Elt F e} {n : ℕ}
    {β : Type} {Q : β → sProp 𝕄} {R : sProp 𝕄} {o : Fin 1 → ℕ} {h hx hm} [cl : ClosedOff o] {val : S16.Idx → Elt F e}
    {k : PUnit → Prog (TpuEff nD τ sig (Elt F) Λ₀ (tV d i).2) β}
    (ho : cl.form 0 = 16 * n) (hv : val = V n)
    (hk : iprop(SA d i m V (n + 1) ∗ R) ⊢ wp frame (wpE (defs₀ (F := F)) 𝒱₀ (tV d i) none) Set.univ (k ⟨⟩) Q) :
    iprop(SA d i m V n ∗ R)
      ⊢ wp frame (wpE (defs₀ (F := F)) 𝒱₀ (tV d i) none) Set.univ
          (Prog.lift (.store m (Rect.unit (s := S1024) o S16.size h) val Finset.univ hx hm) >>= k) Q := by
  show _ ⊢ wp frame _ Set.univ (.op (.store m (Rect.unit (s := S1024) o S16.size h) val Finset.univ hx hm) k) Q
  have ho' : o 0 = 16 * n := by rw [cl.eq]; exact ho
  subst hv
  iintro ⟨H, HR⟩
  unfold SA
  icases H with ⟨%f, %hf, H⟩
  have hset : (m.access (Rect.unit (s := S1024) o S16.size h)).setOn Finset.univ = m.view.setOn (Rect.unit (s := S1024) o S16.size h).set :=
    set_slice' m _
  iapply (wp_store 𝒱₀ (tV d i) none Set.univ (S := m.view.set) (m := m) (r := Rect.unit (s := S1024) o S16.size h) (f := f)
    (hset ▸ Finset.map_subset_map.mpr (Finset.subset_univ _))) $$ H
  iintro H
  iapply hk
  unfold SA
  isplitl [H]
  · iexists _
    isplitr
    swap
    · iexact H
    ipureintro
    intro y l ρ hρ hy
    have hl16 : (l 0).val < 16 := (l 0).isLt
    rcases Nat.lt_succ_iff_lt_or_eq.mp hρ with hlt | heq
    · refine Eq.trans ?_ (hf y l ρ hlt hy)
      rw [View.read_apply, View.read_apply]
      congr 1
      refine View.write_of_not_mem (v := m.access (Rect.unit (s := S1024) o S16.size h)) f _ _ ?_
      rw [hset]
      intro hmem
      obtain ⟨z, hz, hzy⟩ := Finset.mem_map.mp hmem
      have : z = y := m.view.emb.injective hzy
      subst this
      have h0 : o 0 ≤ (z 0).val ∧ (z 0).val < o 0 + 16 := Rect.mem_set_unit.mp hz 0
      omega
    · subst heq
      have hyz : y = (Rect.unit (s := S1024) o S16.size h).emb l := by
        funext a
        match a with
        | 0 => exact Fin.ext (by rw [Rect.emb_apply]; show (y 0).val = o 0 + 1 * (l 0).val; omega)
      rw [hyz]
      exact View.read_slice_write_emb (v := m.view) (Val := Elt F) (Rect.unit (s := S1024) o S16.size h) f (V ρ) (Finset.mem_univ l)
  iexact HR

/-! ## The three staging arrays -/

/-- What goes out for row `ρ`: the lanes' sums, maxima and positions over the whole row. -/
abbrev vS (ρ : ℕ) : FVec F S16 .f32 := shapeCast S16 (fS d i x (row i ρ) 6250) shapeCasts_S16_S16
abbrev vM (ρ : ℕ) : FVec F S16 .f32 := shapeCast S16 (fM d i x (row i ρ) 6250) shapeCasts_S16_S16
abbrev vA (ρ : ℕ) : IVec S16 32 := shapeCast S16 (fA d i x (row i ρ) 6250) shapeCasts_S16_S16

/-- The staging arrays at the groups before `g`, and `a`, `b`, `c` rows of it. -/
def Stg (g a b c : ℕ) : sProp 𝕄 :=
  iprop(SA d i stS (vS d i x) (8 * g + a) ∗ SA d i stM (vM d i x) (8 * g + b) ∗ SA (F := F) d i stI (vA d i x) (8 * g + c))

omit [FloatOps F] [Named F] in
theorem first2 (A B C D : sProp 𝕄) : iprop(A ∗ B ∗ C ∗ D) ⊢ iprop(B ∗ A ∗ C ∗ D) := by
  iintro ⟨HA, HB, HC, HD⟩
  isplitl [HB]; · iexact HB
  isplitl [HA]; · iexact HA
  isplitl [HC] <;> iassumption

omit [FloatOps F] [Named F] in
theorem first3 (A B C D : sProp 𝕄) : iprop(A ∗ B ∗ C ∗ D) ⊢ iprop(C ∗ A ∗ B ∗ D) := by
  iintro ⟨HA, HB, HC, HD⟩
  isplitl [HC]; · iexact HC
  isplitl [HA]; · iexact HA
  isplitl [HB] <;> iassumption

omit [FloatOps F] [Named F] in
theorem back3 (A B C D : sProp 𝕄) : iprop(C ∗ A ∗ B ∗ D) ⊢ iprop(A ∗ B ∗ C ∗ D) := by
  iintro ⟨HC, HA, HB, HD⟩
  isplitl [HA]; · iexact HA
  isplitl [HB]; · iexact HB
  isplitl [HC] <;> iassumption

omit [FloatOps F] [Named F] in
theorem first4 (A B C D : sProp 𝕄) : iprop(A ∗ B ∗ C ∗ D) ⊢ iprop(D ∗ A ∗ B ∗ C) := by
  iintro ⟨HA, HB, HC, HD⟩
  isplitl [HD]; · iexact HD
  isplitl [HA]; · iexact HA
  isplitl [HB] <;> iassumption

omit [FloatOps F] [Named F] in
theorem back4 (A B C D : sProp 𝕄) : iprop(D ∗ A ∗ B ∗ C) ⊢ iprop(A ∗ B ∗ C ∗ D) := by
  iintro ⟨HD, HA, HB, HC⟩
  isplitl [HA]; · iexact HA
  isplitl [HB]; · iexact HB
  isplitl [HC] <;> iassumption

theorem stg_loadS {β : Type} {Q : β → sProp 𝕄} {H : sProp 𝕄} {g a b c : ℕ} {o : Fin 1 → ℕ} {h hl} {k : (S16.Idx → Elt F .f32) → Prog (TpuEff nD τ sig (Elt F) Λ₀ (tV d i).2) β}
    (hk : ∀ v, iprop(H ∗ Stg d i x g a b c) ⊢ wp frame (wpE (defs₀ (F := F)) 𝒱₀ (tV d i) none) Set.univ (k v) Q) :
    iprop(H ∗ Stg d i x g a b c) ⊢ wp frame (wpE (defs₀ (F := F)) 𝒱₀ (tV d i) none) Set.univ
      (Prog.lift (.load stS (Rect.unit (s := S1024) o S16.size h).toLoadRect hl) >>= k) Q :=
  (first2 (H) (SA d i stS (vS d i x) (8 * g + a)) (SA d i stM (vM d i x) (8 * g + b)) (SA (F := F) d i stI (vA d i x) (8 * g + c))).trans
    (sa_load d i (m := stS) (V := vS d i x) (n := 8 * g + a) fun v => (first2 (SA d i stS (vS d i x) (8 * g + a)) (H) (SA d i stM (vM d i x) (8 * g + b)) (SA (F := F) d i stI (vA d i x) (8 * g + c))).trans (hk v))

theorem stg_storeS {β : Type} {Q : β → sProp 𝕄} {H : sProp 𝕄} {g a b c : ℕ} {o : Fin 1 → ℕ} {h hx hm} [cl : ClosedOff o] {k : PUnit → Prog (TpuEff nD τ sig (Elt F) Λ₀ (tV d i).2) β} {val : S16.Idx → Elt F .f32}
    (ho : cl.form 0 = 16 * (8 * g + a)) (hv : val = vS d i x (8 * g + a))
    (hk : iprop(H ∗ Stg d i x g (a + 1) b c) ⊢ wp frame (wpE (defs₀ (F := F)) 𝒱₀ (tV d i) none) Set.univ (k ⟨⟩) Q) :
    iprop(H ∗ Stg d i x g a b c) ⊢ wp frame (wpE (defs₀ (F := F)) 𝒱₀ (tV d i) none) Set.univ
      (Prog.lift (.store stS (Rect.unit (s := S1024) o S16.size h) val Finset.univ hx hm) >>= k) Q :=
  (first2 (H) (SA d i stS (vS d i x) (8 * g + a)) (SA d i stM (vM d i x) (8 * g + b)) (SA (F := F) d i stI (vA d i x) (8 * g + c))).trans
    (sa_store d i (m := stS) (V := vS d i x) (n := 8 * g + a) ho hv ((first2 (SA d i stS (vS d i x) (8 * g + (a + 1))) (H) (SA d i stM (vM d i x) (8 * g + b)) (SA (F := F) d i stI (vA d i x) (8 * g + c))).trans hk))

theorem stg_loadM {β : Type} {Q : β → sProp 𝕄} {H : sProp 𝕄} {g a b c : ℕ} {o : Fin 1 → ℕ} {h hl} {k : (S16.Idx → Elt F .f32) → Prog (TpuEff nD τ sig (Elt F) Λ₀ (tV d i).2) β}
    (hk : ∀ v, iprop(H ∗ Stg d i x g a b c) ⊢ wp frame (wpE (defs₀ (F := F)) 𝒱₀ (tV d i) none) Set.univ (k v) Q) :
    iprop(H ∗ Stg d i x g a b c) ⊢ wp frame (wpE (defs₀ (F := F)) 𝒱₀ (tV d i) none) Set.univ
      (Prog.lift (.load stM (Rect.unit (s := S1024) o S16.size h).toLoadRect hl) >>= k) Q :=
  (first3 (H) (SA d i stS (vS d i x) (8 * g + a)) (SA d i stM (vM d i x) (8 * g + b)) (SA (F := F) d i stI (vA d i x) (8 * g + c))).trans
    (sa_load d i (m := stM) (V := vM d i x) (n := 8 * g + b) fun v => (back3 (H) (SA d i stS (vS d i x) (8 * g + a)) (SA d i stM (vM d i x) (8 * g + b)) (SA (F := F) d i stI (vA d i x) (8 * g + c))).trans (hk v))

theorem stg_storeM {β : Type} {Q : β → sProp 𝕄} {H : sProp 𝕄} {g a b c : ℕ} {o : Fin 1 → ℕ} {h hx hm} [cl : ClosedOff o] {k : PUnit → Prog (TpuEff nD τ sig (Elt F) Λ₀ (tV d i).2) β} {val : S16.Idx → Elt F .f32}
    (ho : cl.form 0 = 16 * (8 * g + b)) (hv : val = vM d i x (8 * g + b))
    (hk : iprop(H ∗ Stg d i x g a (b + 1) c) ⊢ wp frame (wpE (defs₀ (F := F)) 𝒱₀ (tV d i) none) Set.univ (k ⟨⟩) Q) :
    iprop(H ∗ Stg d i x g a b c) ⊢ wp frame (wpE (defs₀ (F := F)) 𝒱₀ (tV d i) none) Set.univ
      (Prog.lift (.store stM (Rect.unit (s := S1024) o S16.size h) val Finset.univ hx hm) >>= k) Q :=
  (first3 (H) (SA d i stS (vS d i x) (8 * g + a)) (SA d i stM (vM d i x) (8 * g + b)) (SA (F := F) d i stI (vA d i x) (8 * g + c))).trans
    (sa_store d i (m := stM) (V := vM d i x) (n := 8 * g + b) ho hv ((back3 (H) (SA d i stS (vS d i x) (8 * g + a)) (SA d i stM (vM d i x) (8 * g + (b + 1))) (SA (F := F) d i stI (vA d i x) (8 * g + c))).trans hk))

theorem stg_loadI {β : Type} {Q : β → sProp 𝕄} {H : sProp 𝕄} {g a b c : ℕ} {o : Fin 1 → ℕ} {h hl} {k : (S16.Idx → Elt F .i32) → Prog (TpuEff nD τ sig (Elt F) Λ₀ (tV d i).2) β}
    (hk : ∀ v, iprop(H ∗ Stg d i x g a b c) ⊢ wp frame (wpE (defs₀ (F := F)) 𝒱₀ (tV d i) none) Set.univ (k v) Q) :
    iprop(H ∗ Stg d i x g a b c) ⊢ wp frame (wpE (defs₀ (F := F)) 𝒱₀ (tV d i) none) Set.univ
      (Prog.lift (.load stI (Rect.unit (s := S1024) o S16.size h).toLoadRect hl) >>= k) Q :=
  (first4 (H) (SA d i stS (vS d i x) (8 * g + a)) (SA d i stM (vM d i x) (8 * g + b)) (SA (F := F) d i stI (vA d i x) (8 * g + c))).trans
    (sa_load d i (m := stI) (V := vA (F := F) d i x) (n := 8 * g + c) fun v => (back4 (H) (SA d i stS (vS d i x) (8 * g + a)) (SA d i stM (vM d i x) (8 * g + b)) (SA (F := F) d i stI (vA d i x) (8 * g + c))).trans (hk v))

theorem stg_storeI {β : Type} {Q : β → sProp 𝕄} {H : sProp 𝕄} {g a b c : ℕ} {o : Fin 1 → ℕ} {h hx hm} [cl : ClosedOff o] {k : PUnit → Prog (TpuEff nD τ sig (Elt F) Λ₀ (tV d i).2) β} {val : S16.Idx → Elt F .i32}
    (ho : cl.form 0 = 16 * (8 * g + c)) (hv : val = vA (F := F) d i x (8 * g + c))
    (hk : iprop(H ∗ Stg d i x g a b (c + 1)) ⊢ wp frame (wpE (defs₀ (F := F)) 𝒱₀ (tV d i) none) Set.univ (k ⟨⟩) Q) :
    iprop(H ∗ Stg d i x g a b c) ⊢ wp frame (wpE (defs₀ (F := F)) 𝒱₀ (tV d i) none) Set.univ
      (Prog.lift (.store stI (Rect.unit (s := S1024) o S16.size h) val Finset.univ hx hm) >>= k) Q :=
  (first4 (H) (SA d i stS (vS d i x) (8 * g + a)) (SA d i stM (vM d i x) (8 * g + b)) (SA (F := F) d i stI (vA d i x) (8 * g + c))).trans
    (sa_store d i (m := stI) (V := vA (F := F) d i x) (n := 8 * g + c) ho hv ((back4 (H) (SA d i stS (vS d i x) (8 * g + a)) (SA d i stM (vM d i x) (8 * g + b)) (SA (F := F) d i stI (vA d i x) (8 * g + (c + 1)))).trans hk))

end Cert.Proof.Run
-- ==== Proof.Group1.lean ====
/-
  The first half of a group of rows of one tile of the first SparseCore kernel.
-/
module

public import proofs.«01_k».proof.Proof.Stage

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))
variable (xq : Fin 8 → PosShare TreeShare) {O : CellTallies nD τ sig (HIx 2)} {W : Waits sig (HIx 2)}
/-- The running values of a group's rows as the program passes them on, with the group's index word. -/
def pack (a : BitVec 32) (w : Carry F) : (Σ' (_ : BitVec 32) (_ : FVec F S16 .f32) (_ : FVec F S16 .f32) (_ : IVec S16 32) (_ : FVec F S16 .f32) (_ : FVec F S16 .f32) (_ : IVec S16 32) (_ : FVec F S16 .f32) (_ : FVec F S16 .f32) (_ : IVec S16 32) (_ : FVec F S16 .f32) (_ : FVec F S16 .f32) (_ : IVec S16 32) (_ : FVec F S16 .f32) (_ : FVec F S16 .f32) (_ : IVec S16 32) (_ : FVec F S16 .f32) (_ : FVec F S16 .f32) (_ : IVec S16 32) (_ : FVec F S16 .f32) (_ : FVec F S16 .f32) (_ : IVec S16 32) (_ : FVec F S16 .f32) (_ : FVec F S16 .f32), IVec S16 32) :=
  ⟨a, w.1, w.2.1, w.2.2.1, w.2.2.2.1, w.2.2.2.2.1, w.2.2.2.2.2.1, w.2.2.2.2.2.2.1, w.2.2.2.2.2.2.2.1, w.2.2.2.2.2.2.2.2.1, w.2.2.2.2.2.2.2.2.2.1, w.2.2.2.2.2.2.2.2.2.2.1, w.2.2.2.2.2.2.2.2.2.2.2.1, w.2.2.2.2.2.2.2.2.2.2.2.2.1, w.2.2.2.2.2.2.2.2.2.2.2.2.2.1, w.2.2.2.2.2.2.2.2.2.2.2.2.2.2.1, w.2.2.2.2.2.2.2.2.2.2.2.2.2.2.2.1, w.2.2.2.2.2.2.2.2.2.2.2.2.2.2.2.2.1, w.2.2.2.2.2.2.2.2.2.2.2.2.2.2.2.2.2.1, w.2.2.2.2.2.2.2.2.2.2.2.2.2.2.2.2.2.2.1, w.2.2.2.2.2.2.2.2.2.2.2.2.2.2.2.2.2.2.2.1, w.2.2.2.2.2.2.2.2.2.2.2.2.2.2.2.2.2.2.2.2.1, w.2.2.2.2.2.2.2.2.2.2.2.2.2.2.2.2.2.2.2.2.2.1, w.2.2.2.2.2.2.2.2.2.2.2.2.2.2.2.2.2.2.2.2.2.2.1, w.2.2.2.2.2.2.2.2.2.2.2.2.2.2.2.2.2.2.2.2.2.2.2⟩

set_option maxHeartbeats 0
set_option pp.maxSteps 400
set_option maxRecDepth 10000

/-- The first 17 chunks of a group. -/
theorem run146 {R : sProp 𝕄} {β : Type} {Q : β → sProp 𝕄} (g : Fin k0_t1_loop.trips) (v2 : BitVec 32)
    {k : _ → Prog (TpuEff nD τ sig (Elt F) Λ₀ (tV d i).2) β}
    (hk : ∀ a, iprop(Wc d i x xq O W g.val 17 5 ∗ R)
      ⊢ wp frame (wpE (defs₀ (F := F)) 𝒱₀ (tV d i) none) Set.univ (k (pack a (carry d i x g.val (200 * 17)))) Q) :
    iprop(Wc d i x xq O W g.val 0 0 ∗ R) ⊢ wp frame (wpE (defs₀ (F := F)) 𝒱₀ (tV d i) none) Set.univ
      (k0_part146 i (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scoped0 cc0_scoped1 cc0_scoped2 v2 0#32 1#32 g >>= k) Q := by
  refine c_enter (F := F) d i ?_
  unfold k0_part146
  repeat first
    | (with_reducible refine c_load d i x xq ?_ ?_ ?_ ?_ ?_ ?_) <;> [decide; decide; rfl; rfl; exact ht; skip]
    | (with_reducible refine c_waitLast d i x xq ?_ ?_ ?_) <;> [rfl; rfl; skip]
    | (with_reducible refine c_wait d i x xq ?_ ?_ ?_ ?_) <;> [decide; rfl; rfl; skip]
    | (with_reducible refine c_issue d i x xq ?_ ?_ ?_ ?_ ?_ ?_ ?_) <;> [decide; rfl; rfl; rfl; (simp [off, row, gOf, ClosedOff.form]; omega); rfl; skip]
    | with_reducible refine c_leave (F := F) d i ?_
    | (with_reducible refine c_loop d i x xq ?_ ?_ ?_ ?_) <;> [rfl; rfl; intro t R' Q' ht h; skip]
    | exact h
    | (with_reducible refine c_enter (F := F) d i ?_); (first
      | unfold k0_part1
      | unfold k0_part2
      | unfold k0_part3
      | unfold k0_part4
      | unfold k0_part5
      | unfold k0_part6
      | unfold k0_part7
      | unfold k0_part8
      | unfold k0_part9
      | unfold k0_part10
      | unfold k0_part11
      | unfold k0_part12
      | unfold k0_part13
      | unfold k0_part14
      | unfold k0_part15
      | unfold k0_part16
      | unfold k0_part17
      | unfold k0_part18
      | unfold k0_part19
      | unfold k0_part20
      | unfold k0_part21
      | unfold k0_part22
      | unfold k0_part23
      | unfold k0_part24
      | unfold k0_part25
      | unfold k0_part26
      | unfold k0_part27
      | unfold k0_part28
      | unfold k0_part29
      | unfold k0_part30
      | unfold k0_part31
      | unfold k0_part32
      | unfold k0_part33
      | unfold k0_part34
      | unfold k0_part35
      | unfold k0_part36
      | unfold k0_part37
      | unfold k0_part38
      | unfold k0_part39
      | unfold k0_part40
      | unfold k0_part41
      | unfold k0_part42
      | unfold k0_part43
      | unfold k0_part44
      | unfold k0_part45
      | unfold k0_part46
      | unfold k0_part47
      | unfold k0_part48
      | unfold k0_part49
      | unfold k0_part50
      | unfold k0_part51
      | unfold k0_part52
      | unfold k0_part53
      | unfold k0_part54
      | unfold k0_part55
      | unfold k0_part56
      | unfold k0_part57
      | unfold k0_part58
      | unfold k0_part59
      | unfold k0_part60
      | unfold k0_part61
      | unfold k0_part62
      | unfold k0_part63
      | unfold k0_part64
      | unfold k0_part65
      | unfold k0_part66
      | unfold k0_part67
      | unfold k0_part68
      | unfold k0_part69
      | unfold k0_part70
      | unfold k0_part71
      | unfold k0_part72
      | unfold k0_part73
      | unfold k0_part74
      | unfold k0_part75
      | unfold k0_part76
      | unfold k0_part77
      | unfold k0_part78
      | unfold k0_part79
      | unfold k0_part80
      | unfold k0_part81
      | unfold k0_part82
      | unfold k0_part83
      | unfold k0_part84
      | unfold k0_part85
      | unfold k0_part86
      | unfold k0_part87
      | unfold k0_part88
      | unfold k0_part89
      | unfold k0_part90
      | unfold k0_part91
      | unfold k0_part92)
  exact hk _

end Cert.Proof.Run
-- ==== Proof.Group2.lean ====
/-
  The second half of a group of rows of one tile of the first SparseCore kernel.
-/
module

public import proofs.«01_k».proof.Proof.Stage

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))
variable (xq : Fin 8 → PosShare TreeShare) {O : CellTallies nD τ sig (HIx 2)} {W : Waits sig (HIx 2)}
set_option maxHeartbeats 0
set_option pp.maxSteps 400
set_option maxRecDepth 10000

/-- The last 15 chunks of a group, and the staging of its rows up to the seventh's maxima. -/
theorem run147 {β : Type} {Q : β → sProp 𝕄} (g : Fin k0_t1_loop.trips) (v2 a : BitVec 32) (w : Carry F)
    (hw : w = carry d i x g.val (200 * 17))
    {k : (Σ' (_ : IVec S16 32) (_ : FVec F S16 .f32) (_ : FVec F S16 .f32) (_ : IVec S16 32), BitVec 32) → Prog (TpuEff nD τ sig (Elt F) Λ₀ (tV d i).2) β}
    (hk : ∀ a, iprop(Wc d i x xq O W g.val 32 0 ∗ Stg d i x g.val 7 7 6)
      ⊢ wp frame (wpE (defs₀ (F := F)) 𝒱₀ (tV d i) none) Set.univ
        (k ⟨fA d i x (row i (8 * g.val + 6)) 6250, fS d i x (row i (8 * g.val + 7)) 6250,
          fM d i x (row i (8 * g.val + 7)) 6250, fA d i x (row i (8 * g.val + 7)) 6250, a⟩) Q) :
    iprop(Wc d i x xq O W g.val 17 5 ∗ Stg d i x g.val 0 0 0) ⊢ wp frame (wpE (defs₀ (F := F)) 𝒱₀ (tV d i) none) Set.univ
      (k0_part147 i (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scoped0 cc0_scoped1 cc0_scoped2 v2 g a w.1 w.2.1 w.2.2.1 w.2.2.2.1 w.2.2.2.2.1 w.2.2.2.2.2.1 w.2.2.2.2.2.2.1 w.2.2.2.2.2.2.2.1 w.2.2.2.2.2.2.2.2.1 w.2.2.2.2.2.2.2.2.2.1 w.2.2.2.2.2.2.2.2.2.2.1 w.2.2.2.2.2.2.2.2.2.2.2.1 w.2.2.2.2.2.2.2.2.2.2.2.2.1 w.2.2.2.2.2.2.2.2.2.2.2.2.2.1 w.2.2.2.2.2.2.2.2.2.2.2.2.2.2.1 w.2.2.2.2.2.2.2.2.2.2.2.2.2.2.2.1 w.2.2.2.2.2.2.2.2.2.2.2.2.2.2.2.2.1 w.2.2.2.2.2.2.2.2.2.2.2.2.2.2.2.2.2.1 w.2.2.2.2.2.2.2.2.2.2.2.2.2.2.2.2.2.2.1 w.2.2.2.2.2.2.2.2.2.2.2.2.2.2.2.2.2.2.2.1 w.2.2.2.2.2.2.2.2.2.2.2.2.2.2.2.2.2.2.2.2.1 w.2.2.2.2.2.2.2.2.2.2.2.2.2.2.2.2.2.2.2.2.2.1 w.2.2.2.2.2.2.2.2.2.2.2.2.2.2.2.2.2.2.2.2.2.2.1 w.2.2.2.2.2.2.2.2.2.2.2.2.2.2.2.2.2.2.2.2.2.2.2 >>= k) Q := by
  subst hw
  refine c_enter (F := F) d i ?_
  unfold k0_part147
  repeat first
    | (with_reducible refine c_load d i x xq ?_ ?_ ?_ ?_ ?_ ?_) <;> [decide; decide; rfl; rfl; exact ht; skip]
    | (with_reducible refine c_waitLast d i x xq ?_ ?_ ?_) <;> [rfl; rfl; skip]
    | (with_reducible refine c_wait d i x xq ?_ ?_ ?_ ?_) <;> [decide; rfl; rfl; skip]
    | (with_reducible refine c_issue d i x xq ?_ ?_ ?_ ?_ ?_ ?_ ?_) <;> [decide; rfl; rfl; rfl; (simp [off, row, gOf, ClosedOff.form]; omega); rfl; skip]
    | (with_reducible refine stg_loadS d i x ?_); intro _
    | (with_reducible refine stg_storeS d i x ?_ ?_ ?_) <;> [(simp only [ClosedOff.form]; (try simp); omega); rfl; skip]
    | (with_reducible refine stg_loadM d i x ?_); intro _
    | (with_reducible refine stg_storeM d i x ?_ ?_ ?_) <;> [(simp only [ClosedOff.form]; (try simp); omega); rfl; skip]
    | (with_reducible refine stg_loadI d i x ?_); intro _
    | (with_reducible refine stg_storeI d i x ?_ ?_ ?_) <;> [(simp only [ClosedOff.form]; (try simp); omega); rfl; skip]
    | with_reducible refine c_leave (F := F) d i ?_
    | (with_reducible refine c_loop d i x xq ?_ ?_ ?_ ?_) <;> [rfl; rfl; intro t R' Q' ht h; skip]
    | exact h
    | (with_reducible refine c_enter (F := F) d i ?_); (first
      | unfold k0_part1
      | unfold k0_part2
      | unfold k0_part3
      | unfold k0_part4
      | unfold k0_part5
      | unfold k0_part6
      | unfold k0_part7
      | unfold k0_part8
      | unfold k0_part9
      | unfold k0_part10
      | unfold k0_part11
      | unfold k0_part12
      | unfold k0_part13
      | unfold k0_part14
      | unfold k0_part15
      | unfold k0_part16
      | unfold k0_part17
      | unfold k0_part18
      | unfold k0_part19
      | unfold k0_part20
      | unfold k0_part21
      | unfold k0_part22
      | unfold k0_part23
      | unfold k0_part24
      | unfold k0_part25
      | unfold k0_part26
      | unfold k0_part27
      | unfold k0_part28
      | unfold k0_part29
      | unfold k0_part30
      | unfold k0_part31
      | unfold k0_part32
      | unfold k0_part93
      | unfold k0_part94
      | unfold k0_part95
      | unfold k0_part96
      | unfold k0_part97
      | unfold k0_part98
      | unfold k0_part99
      | unfold k0_part100
      | unfold k0_part101
      | unfold k0_part102
      | unfold k0_part103
      | unfold k0_part104
      | unfold k0_part105
      | unfold k0_part106
      | unfold k0_part107
      | unfold k0_part108
      | unfold k0_part109
      | unfold k0_part110
      | unfold k0_part111
      | unfold k0_part112
      | unfold k0_part113
      | unfold k0_part114
      | unfold k0_part115
      | unfold k0_part116
      | unfold k0_part117
      | unfold k0_part118
      | unfold k0_part119
      | unfold k0_part120
      | unfold k0_part121
      | unfold k0_part122
      | unfold k0_part123
      | unfold k0_part124
      | unfold k0_part125
      | unfold k0_part126
      | unfold k0_part127
      | unfold k0_part128
      | unfold k0_part129
      | unfold k0_part130
      | unfold k0_part131
      | unfold k0_part132
      | unfold k0_part133
      | unfold k0_part134
      | unfold k0_part135
      | unfold k0_part136
      | unfold k0_part137
      | unfold k0_part138
      | unfold k0_part139
      | unfold k0_part140
      | unfold k0_part141
      | unfold k0_part142
      | unfold k0_part143
      | unfold k0_part144
      | unfold k0_part145)
  exact hk _

end Cert.Proof.Run
-- ==== Proof.Tile.lean ====
/-
  One tile of the first SparseCore kernel: the first chunk's copies, the loop over the groups of eight rows, the copies of
  the lanes' results to the tile's part of the outputs.
-/
module

public import proofs.«01_k».proof.Proof.Group1
public import proofs.«01_k».proof.Proof.Group2

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))
variable (xq : Fin 8 → PosShare TreeShare) {O : CellTallies nD τ sig (HIx 2)} {W : Waits sig (HIx 2)}

/-! ## The first chunk's copies -/

/-- The first `j` copies of the first chunk are issued. -/
def Pc (O : CellTallies nD τ sig (HIx 2)) (W : Waits sig (HIx 2)) (j : ℕ) : sProp 𝕄 :=
  Lst d i x xq O W bufB 0 (fun _ => 0) bufA 0 3200 (off i 0 0) j

theorem p_issue {β : Type} {Q : β → sProp 𝕄} {R : sProp 𝕄} {j : ℕ}
    {sem : DmaSem sig} {o₁ o₂ sz : Fin 1 → ℕ} {h₁ h₂ hr₁ hr₂ hsrc hdst hty} [cl : ClosedOff o₁]
    {k : PUnit → Prog (TpuEff nD τ sig (Elt F) Λ₀ (tV d i).2) β}
    (hsem : sem = cs 0) (hj : j < 8) (hw : sz 0 = 3200) (ho₁ : cl.form 0 = off i 0 0 j) (ho₂ : o₂ 0 = 3200 * j)
    (hk : iprop(Pc d i x xq O W (j + 1) ∗ R) ⊢ wp frame (wpE (defs₀ (F := F)) 𝒱₀ (tV d i) none) Set.univ (k ⟨⟩) Q) :
    iprop(Pc d i x xq O W j ∗ R)
      ⊢ wp frame (wpE (defs₀ (F := F)) 𝒱₀ (tV d i) none) Set.univ
          (Prog.lift (.enqueueDma ((xV).slice (Rect.unit (s := S204800000) o₁ sz h₁) hr₁)
            (.here (bufA.slice (Rect.unit (s := S25600) o₂ sz h₂) hr₂)) (.dma sem) hsrc hdst hty) >>= k) Q :=
  step_issue d i x xq hsem hj hw (le_refl _) ho₁ ho₂ hk

theorem rowAny_has0 (m : Memref sig .scVector .vmem S25600 .f32) (off : ℕ → ℕ) (j : Fin 8) :
    rowAny d i m j ⊢ (rowHas d i x m 0 off j : sProp 𝕄) := by
  unfold rowHas rowAny
  iintro ⟨%f, H⟩
  iexists f
  isplitr
  · ipureintro; intro y l hl; exact absurd hl (Nat.not_lt_zero l)
  iexact H

/-- The beginning: both buffers free, nothing in flight. -/
def Beg (O : CellTallies nD τ sig (HIx 2)) (W : Waits sig (HIx 2)) : sProp 𝕄 :=
  iprop(bigSep Finset.univ (rowAny d i bufA) ∗ bigSep Finset.univ (rowAny d i bufB) ∗ bigSep Finset.univ (shr d i x xq)
    ∗ bigSep Finset.univ (fun b => semVal (tV d i, .dma (cs b)) 0) ∗ Cx d i O W)

theorem beg_mst : Beg d i x xq O W ⊢ (Mst d i x xq O W bufB 0 (fun _ => 0) bufA : sProp 𝕄) := by
  unfold Beg Mst
  iintro ⟨HA, HB, H⟩
  isplitl [HB]
  · iapply (show bigSep Finset.univ (rowAny d i bufB) ⊢ (bigSep Finset.univ (rowHas d i x bufB 0 (fun _ => 0)) : sProp 𝕄) from
      BI.bigSep_mono fun j _ => rowAny_has0 d i x bufB _ j) $$ HB
  isplitl [HA]; · iexact HA
  iexact H

theorem mst_beg (w : ℕ) (off : ℕ → ℕ) : Mst d i x xq O W bufA w off bufB ⊢ (Beg d i x xq O W : sProp 𝕄) := by
  unfold Beg Mst
  iintro ⟨HA, H⟩
  isplitl [HA]
  · iapply (rowsHas_any d i x bufA w off) $$ HA
  iexact H

theorem p_begin {β : Type} {Q : β → sProp 𝕄} {R : sProp 𝕄} {p : Prog (TpuEff nD τ sig (Elt F) Λ₀ (tV d i).2) β}
    (hk : iprop(Pc d i x xq O W 0 ∗ R) ⊢ wp frame (wpE (defs₀ (F := F)) 𝒱₀ (tV d i) none) Set.univ p Q) :
    iprop(Beg d i x xq O W ∗ R) ⊢ wp frame (wpE (defs₀ (F := F)) 𝒱₀ (tV d i) none) Set.univ p Q :=
  by
  iintro ⟨H, HR⟩
  ihave H := (beg_mst d i x xq) $$ H
  iapply (step_open d i x xq 0 3200 (off i 0 0) hk)
  isplitl [H] <;> iassumption

/-! ## The loop over the groups -/

/-- Before group `n`: its first chunk's copies are in flight (past the last group, the last group's again). -/
def Gn (O : CellTallies nD τ sig (HIx 2)) (W : Waits sig (HIx 2)) (n : ℕ) : sProp 𝕄 :=
  Wst d i x xq O W bufA 0 3200 (off i (min n 7) 0) bufB 0

theorem off_next (g : ℕ) : off i g 32 = off i (min (g + 1) 7) 0 := by
  funext j
  simp [off, gOf]

theorem gn_wc {n : ℕ} (h : n < 8) : Gn d i x xq O W n = (Wc d i x xq O W n 0 0 : sProp 𝕄) := by
  unfold Gn; rw [show min n 7 = n by omega]; rfl

theorem wc_gn (n : ℕ) : Wc d i x xq O W n 32 0 = (Gn d i x xq O W (n + 1) : sProp 𝕄) := by
  unfold Gn; rw [← off_next]; rfl

theorem p_end {β : Type} {Q : β → sProp 𝕄} {R : sProp 𝕄} {p : Prog (TpuEff nD τ sig (Elt F) Λ₀ (tV d i).2) β}
    (hk : iprop(Gn d i x xq O W 0 ∗ R) ⊢ wp frame (wpE (defs₀ (F := F)) 𝒱₀ (tV d i) none) Set.univ p Q) :
    iprop(Pc d i x xq O W 8 ∗ R) ⊢ wp frame (wpE (defs₀ (F := F)) 𝒱₀ (tV d i) none) Set.univ p Q :=
  step_turn d i x xq hk

theorem g_loop {β : Type} {Q : β → sProp 𝕄} {R : sProp 𝕄} {L : Scf.Loop 32} {hL : L.OK} {init : BitVec 32}
    {body : Fin L.trips → BitVec 32 → Prog (TpuEff nD τ sig (Elt F) Λ₀ (tV d i).2) (BitVec 32)}
    {kk : BitVec 32 → Prog (TpuEff nD τ sig (Elt F) Λ₀ (tV d i).2) β}
    (htr : L.trips = 8)
    (hbody : ∀ (g : Fin L.trips) (acc : BitVec 32), iprop(Wc d i x xq O W g.val 0 0 ∗ Stg d i x g.val 0 0 0)
      ⊢ wp frame (wpE (defs₀ (F := F)) 𝒱₀ (tV d i) none) Set.univ (body g acc)
        fun _ => iprop(Wc d i x xq O W g.val 32 0 ∗ Stg d i x g.val 8 8 8))
    (hk : ∀ acc, iprop(Wc d i x xq O W 7 32 0 ∗ Stg d i x 8 0 0 0 ∗ R)
      ⊢ wp frame (wpE (defs₀ (F := F)) 𝒱₀ (tV d i) none) Set.univ (kk acc) Q) :
    iprop(Gn d i x xq O W 0 ∗ Stg d i x 0 0 0 0 ∗ R)
      ⊢ wp frame (wpE (defs₀ (F := F)) 𝒱₀ (tV d i) none) Set.univ (L.for hL init body >>= kk) Q := by
  have hb : ∀ (t : Fin L.trips) (acc : BitVec 32), iprop(Gn d i x xq O W t.val ∗ Stg d i x t.val 0 0 0)
      ⊢ wp frame (wpE (defs₀ (F := F)) 𝒱₀ (tV d i) none) Set.univ (body t acc)
        (fun _ => iprop(Gn d i x xq O W (t.val + 1) ∗ Stg d i x (t.val + 1) 0 0 0)) := by
    intro t acc
    rw [gn_wc d i x xq (show t.val < 8 from htr ▸ t.isLt), ← wc_gn]
    exact hbody t acc
  iintro ⟨HG, HS, HR⟩
  iapply (Scf.wp_for_bind frame (wpE (defs₀ (F := F)) 𝒱₀ (tV d i) none) Set.univ L.lb L.ub L.st hL init body
    (fun n _ => iprop(Gn d i x xq O W n ∗ Stg d i x n 0 0 0)) hb) $$ [HG HS]
  · isplitl [HG] <;> iassumption
  iintro %acc ⟨HG, HS⟩
  rw [show Scf.trips L.lb L.ub L.st = 8 from htr]
  ihave HG := (Entails.of_eq (wc_gn d i x xq 7).symm) $$ HG
  iapply (show iprop(Wc d i x xq O W 7 32 0 ∗ Stg d i x 8 0 0 0 ∗ R)
    ⊢ wp frame (wpE (defs₀ (F := F)) 𝒱₀ (tV d i) none) Set.univ (kk acc) Q from hk acc)
  isplitl [HG]; · iexact HG
  isplitl [HS] <;> iassumption

/-! ## The copies of the results out -/

theorem step_sync {e : EltTy} {m : Memref sig .scVector .vmem S1024 e} {V : ℕ → S16.Idx → Elt F e}
    {β : Type} {Q : β → sProp 𝕄} {R : sProp 𝕄} {dst : Memref sig .scVector .hbm S1024 e}
    {sem : DmaSem sig} {hsrc hdst hty} {s' : Shape} {e' : EltTy} {sp' : Space}
    {srcw : Memref sig (tV d i).2.kind sp' s' e'} {hsrc' hdst'}
    {k : PUnit → Prog (TpuEff nD τ sig (Elt F) Λ₀ (tV d i).2) β} {fd : Buf (Elt F) (dst.view.loc (tV d i))}
    (out : Buf (Elt F) (dst.view.loc (tV d i)))
    (hN0 : 0 < dst.view.dmaCredit)
    (hout : ∀ (z : S1024.Idx) (l : S16.Idx) (ρ : ℕ), ρ < 64 → (z 0).val = 16 * ρ + (l 0).val → dst.view.read (Elt F) out z = V ρ l)
    (hk : iprop(Cx d i O W ∗ SA d i m V 64 ∗ (dst.view.loc (tV d i) ↦[dst.view.set]{fullShare} out) ∗ semVal (tV d i, .dma sem) 0 ∗ R)
      ⊢ wp frame (wpE (defs₀ (F := F)) 𝒱₀ (tV d i) none) Set.univ (k ⟨⟩) Q) :
    iprop(Cx d i O W ∗ SA d i m V 64 ∗ (dst.view.loc (tV d i) ↦[dst.view.set]{fullShare} fd) ∗ semVal (tV d i, .dma sem) 0 ∗ R)
      ⊢ wp frame (wpE (defs₀ (F := F)) 𝒱₀ (tV d i) none) Set.univ
          (Prog.lift (.enqueueDma m (.here dst) (.dma sem) hsrc hdst hty) >>= fun _ => Prog.lift (.waitDma2 sem srcw dst hsrc' hdst') >>= k) Q := by
  show _ ⊢ wp frame _ Set.univ (.op (.enqueueDmaAs m (.here dst) .same (.dma sem) _ _ _) fun _ => .op (.waitDma2 sem srcw dst hsrc' hdst') k) Q
  unfold SA Cx Own
  iintro ⟨⟨#Hmw, ⟨%W', %hW', HO⟩⟩, ⟨%f, %hf, Hm⟩, Hd, Hs, HR⟩
  iapply (wp_dmaLocal countersEmb 𝒱₀ (tV d i) none (none : HIx 2) dst.view.dmaCredit (via := .same) (src := m) (dst := dst) (sm := .dma sem)
    (q := fullShare) (fs := f) (fd := fd) (Sd := dst.view.set) rfl hN0 (Finset.Subset.refl _)) $$ [Hm Hd Hs]
  · isplitl [Hm]; · iexact Hm
    isplitl [Hd]; · iexact Hd
    iexact Hs
  iintro HF
  ihave Hw := (MayWaits.elim (c := tV d i) (ι := (none : HIx 2)) (O := O) (.dma sem)) $$ Hmw
  iapply (wp_waitLocalO countersEmb 𝒱₀ (tV d i) none (none : HIx 2) (rfl : dst.view.dmaCredit = _)) $$ [HF HO Hw]
  · isplitl [HF]; · iexact HF
    isplitl [HO] <;> iassumption
  iintro ⟨⟨Hd, Hm⟩, Hs, HO⟩
  have hcongr : ∀ y ∈ dst.view.set, (dst.view.write (Elt F) fd (m.view.read (Elt F) f) Finset.univ) y = out y := by
    intro y hy
    obtain ⟨z, -, rfl⟩ := Finset.mem_map.mp hy
    have hz : (z 0).val < 1024 := (z 0).isLt
    have h1 : dst.view.read (Elt F) (dst.view.write (Elt F) fd (m.view.read (Elt F) f) Finset.univ) z = m.view.read (Elt F) f z := by
      rw [View.read_write_univ]
    have hl : (z 0).val % 16 < 16 := Nat.mod_lt _ (by decide)
    have h2 := hf z (fun a => ⟨(z 0).val % 16, by match a with | 0 => exact hl⟩) ((z 0).val / 16) (by omega) (by show _ = _ + (z 0).val % 16; omega)
    have h3 := hout z (fun a => ⟨(z 0).val % 16, by match a with | 0 => exact hl⟩) ((z 0).val / 16) (by omega) (by show _ = _ + (z 0).val % 16; omega)
    have h4 := h1.trans (h2.trans h3.symm)
    rw [View.read_apply, View.read_apply] at h4
    exact (cast_inj _).mp h4
  iapply hk
  unfold SA Cx Own
  isplitl [HO]
  · isplitr; · iexact Hmw
    iexists (insert (SemLoc.dma sem, (none : HIx 2)) W')
    isplitr
    · ipureintro; exact own_insert hW'
    iexact HO
  isplitl [Hm]
  · iexists f
    isplitr
    · ipureintro; exact hf
    iexact Hm
  isplitl [Hd]
  · iapply (Entails.of_eq (pointsTo_congr hcongr)) $$ Hd
  isplitl [Hs] <;> iassumption

end Cert.Proof.Run
-- ==== Proof.TileRun.lean ====
/-
  The run of one tile of the first SparseCore kernel, whole.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))
variable (xq : Fin 8 → PosShare TreeShare) {O : CellTallies nD τ sig (HIx 2)} {W : Waits sig (HIx 2)}

/-- The tile's parts of the three outputs. -/
abbrev dS (i : grid0.Coords) : Memref sig .scVector .hbm S1024 .f32 :=
  (Memref.whole main_v1_0_scv).slice (Rect.unit (s := S32768) (k0_off38 i) S1024.size (k0_off38_inb i)) (fun _ => rfl)
abbrev dM (i : grid0.Coords) : Memref sig .scVector .hbm S1024 .f32 :=
  (Memref.whole main_v1_1_scv).slice (Rect.unit (s := S32768) (k0_off38 i) S1024.size (k0_off38_inb i)) (fun _ => rfl)
abbrev dI (i : grid0.Coords) : Memref sig .scVector .hbm S1024 .i32 :=
  (Memref.whole main_v1_2_scv).slice (Rect.unit (s := S32768) (k0_off38 i) S1024.size (k0_off38_inb i)) (fun _ => rfl)

/-- The tile's parts of the outputs, and their copies' semaphores. -/
def Out (s₀ : Buf (Elt F) ((dS i).view.loc (tV d i))) (s₁ : Buf (Elt F) ((dM i).view.loc (tV d i))) (s₂ : Buf (Elt F) ((dI i).view.loc (tV d i))) : sProp 𝕄 :=
  iprop(((dS i).view.loc (tV d i) ↦[(dS i).view.set]{fullShare} s₀) ∗ ((dM i).view.loc (tV d i) ↦[(dM i).view.set]{fullShare} s₁)
    ∗ ((dI i).view.loc (tV d i) ↦[(dI i).view.set]{fullShare} s₂)
    ∗ semVal (tV d i, .dma cc0_scoped0.sem) 0 ∗ semVal (tV d i, .dma cc0_scoped1.sem) 0 ∗ semVal (tV d i, .dma cc0_scoped2.sem) 0)

/-- The outputs hold the lanes' results of the tile's rows. -/
structure OutOK (s₀ : Buf (Elt F) ((dS i).view.loc (tV d i))) (s₁ : Buf (Elt F) ((dM i).view.loc (tV d i))) (s₂ : Buf (Elt F) ((dI i).view.loc (tV d i))) : Prop where
  s : ∀ (z : S1024.Idx) (l : S16.Idx) (ρ : ℕ), ρ < 64 → (z 0).val = 16 * ρ + (l 0).val → (dS i).view.read (Elt F) s₀ z = vS d i x ρ l
  m : ∀ (z : S1024.Idx) (l : S16.Idx) (ρ : ℕ), ρ < 64 → (z 0).val = 16 * ρ + (l 0).val → (dM i).view.read (Elt F) s₁ z = vM d i x ρ l
  i : ∀ (z : S1024.Idx) (l : S16.Idx) (ρ : ℕ), ρ < 64 → (z 0).val = 16 * ρ + (l 0).val → (dI i).view.read (Elt F) s₂ z = vA (F := F) d i x ρ l

omit [FloatOps F] [Named F] in
theorem turn1 (M S0 S1 S2 D0 D1 D2 A0 A1 A2 C : sProp 𝕄) :
    iprop((C ∗ M) ∗ (S0 ∗ S1 ∗ S2) ∗ (D0 ∗ D1 ∗ D2 ∗ A0 ∗ A1 ∗ A2)) ⊢ iprop(C ∗ S0 ∗ D0 ∗ A0 ∗ M ∗ S1 ∗ S2 ∗ D1 ∗ D2 ∗ A1 ∗ A2) := by
  iintro ⟨⟨HC, HM⟩, ⟨H0, H1, H2⟩, HD0, HD1, HD2, HA0, HA1, HA2⟩
  iframe

omit [FloatOps F] [Named F] in
theorem turn2 (M S0 S1 S2 D0 D1 D2 A0 A1 A2 C : sProp 𝕄) :
    iprop(C ∗ S0 ∗ D0 ∗ A0 ∗ M ∗ S1 ∗ S2 ∗ D1 ∗ D2 ∗ A1 ∗ A2) ⊢ iprop(C ∗ S1 ∗ D1 ∗ A1 ∗ M ∗ S0 ∗ S2 ∗ D0 ∗ D2 ∗ A0 ∗ A2) := by
  iintro ⟨HC, H0, HD0, HA0, HM, H1, H2, HD1, HD2, HA1, HA2⟩
  iframe

omit [FloatOps F] [Named F] in
theorem turn3 (M S0 S1 S2 D0 D1 D2 A0 A1 A2 C : sProp 𝕄) :
    iprop(C ∗ S1 ∗ D1 ∗ A1 ∗ M ∗ S0 ∗ S2 ∗ D0 ∗ D2 ∗ A0 ∗ A2) ⊢ iprop(C ∗ S2 ∗ D2 ∗ A2 ∗ M ∗ S0 ∗ S1 ∗ D0 ∗ D1 ∗ A0 ∗ A1) := by
  iintro ⟨HC, H1, HD1, HA1, HM, H0, H2, HD0, HD2, HA0, HA2⟩
  iframe

omit [FloatOps F] [Named F] in
theorem turn4 (M S0 S1 S2 D0 D1 D2 A0 A1 A2 C : sProp 𝕄) :
    iprop(C ∗ S2 ∗ D2 ∗ A2 ∗ M ∗ S0 ∗ S1 ∗ D0 ∗ D1 ∗ A0 ∗ A1) ⊢ iprop((C ∗ M) ∗ (S0 ∗ S1 ∗ S2) ∗ (D0 ∗ D1 ∗ D2 ∗ A0 ∗ A1 ∗ A2)) := by
  iintro ⟨HC, H2, HD2, HA2, HM, H0, H1, HD0, HD1, HA0, HA1⟩
  iframe

/-- Both buffers free, the shares of the flat array, the copies' semaphores. -/
def Bg0 : sProp 𝕄 :=
  iprop(bigSep Finset.univ (rowAny d i bufA) ∗ bigSep Finset.univ (rowAny d i bufB) ∗ bigSep Finset.univ (shr d i x xq)
    ∗ bigSep Finset.univ (fun b => semVal (tV d i, .dma (cs b)) 0))

theorem beg_split : Beg d i x xq O W ⊢ (iprop(Cx d i O W ∗ Bg0 d i x xq) : sProp 𝕄) := by
  unfold Beg Bg0
  iintro ⟨H1, H2, H3, H4, H5⟩
  iframe

theorem beg_join : iprop(Cx d i O W ∗ Bg0 d i x xq) ⊢ (Beg d i x xq O W : sProp 𝕄) := by
  unfold Beg Bg0
  iintro ⟨H5, H1, H2, H3, H4⟩
  iframe

variable (f₀ s₀ : Buf (Elt F) ((dS i).view.loc (tV d i))) (f₁ s₁ : Buf (Elt F) ((dM i).view.loc (tV d i))) (f₂ s₂ : Buf (Elt F) ((dI i).view.loc (tV d i)))

theorem tail0 (w : ℕ) (off : ℕ → ℕ) : iprop(Mst d i x xq O W bufA w off bufB ∗ Stg d i x 8 0 0 0 ∗ Out d i f₀ f₁ f₂)
    ⊢ (iprop(Cx d i O W ∗ SA d i stS (vS d i x) 64 ∗ ((dS i).view.loc (tV d i) ↦[(dS i).view.set]{fullShare} f₀) ∗ semVal (tV d i, .dma cc0_scoped0.sem) 0
      ∗ Bg0 d i x xq ∗ SA d i stM (vM d i x) 64 ∗ SA (F := F) d i stI (vA d i x) 64
      ∗ ((dM i).view.loc (tV d i) ↦[(dM i).view.set]{fullShare} f₁) ∗ ((dI i).view.loc (tV d i) ↦[(dI i).view.set]{fullShare} f₂)
      ∗ semVal (tV d i, .dma cc0_scoped1.sem) 0 ∗ semVal (tV d i, .dma cc0_scoped2.sem) 0) : sProp 𝕄) := by
  iintro ⟨H, HS⟩
  ihave H := (mst_beg d i x xq w off) $$ H
  ihave H := (beg_split d i x xq) $$ H
  iapply (turn1 (Bg0 d i x xq) _ _ _ _ _ _ _ _ _ (Cx d i O W))
  isplitl [H]; · iexact H
  iexact HS

theorem tail4 : iprop(Cx d i O W ∗ SA (F := F) d i stI (vA d i x) 64 ∗ ((dI i).view.loc (tV d i) ↦[(dI i).view.set]{fullShare} f₂) ∗ semVal (tV d i, .dma cc0_scoped2.sem) 0
      ∗ Bg0 d i x xq ∗ SA d i stS (vS d i x) 64 ∗ SA d i stM (vM d i x) 64
      ∗ ((dS i).view.loc (tV d i) ↦[(dS i).view.set]{fullShare} f₀) ∗ ((dM i).view.loc (tV d i) ↦[(dM i).view.set]{fullShare} f₁)
      ∗ semVal (tV d i, .dma cc0_scoped0.sem) 0 ∗ semVal (tV d i, .dma cc0_scoped1.sem) 0)
    ⊢ (iprop(Beg d i x xq O W ∗ Stg d i x 8 0 0 0 ∗ Out d i f₀ f₁ f₂) : sProp 𝕄) := by
  iintro H
  ihave H := (turn4 (Bg0 d i x xq) (SA d i stS (vS d i x) 64) (SA d i stM (vM d i x) 64) (SA (F := F) d i stI (vA d i x) 64) _ _ _ _ _ _ (Cx d i O W)) $$ H
  icases H with ⟨H, HS⟩
  isplitl [H]; · iapply (beg_join d i x xq) $$ H
  iexact HS

set_option maxHeartbeats 0
set_option maxRecDepth 10000

theorem main_run (hout : OutOK d i x s₀ s₁ s₂) :
    iprop(Beg d i x xq O W ∗ Stg d i x 0 0 0 0 ∗ Out d i f₀ f₁ f₂) ⊢ wp frame (wpE (defs₀ (F := F)) 𝒱₀ (tV d i) none) Set.univ
      (cc0__sc_main_body i (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scoped0 cc0_scoped1 cc0_scoped2)
      fun _ => iprop(Beg d i x xq O W ∗ Stg d i x 8 0 0 0 ∗ Out d i s₀ s₁ s₂) := by
  unfold cc0__sc_main_body
  refine p_begin d i x xq ?_
  repeat first
    | (with_reducible refine p_issue d i x xq ?_ ?_ ?_ ?_ ?_ ?_) <;> [rfl; decide; rfl; (simp [off, row, gOf, ClosedOff.form]); rfl; skip]
    | with_reducible refine c_leave (F := F) d i ?_
    | (with_reducible refine c_enter (F := F) d i ?_); (first
      | unfold k0_part148
      | unfold k0_part149
      | unfold k0_part150)
  refine p_end d i x xq ?_
  refine g_loop d i x xq rfl ?_ ?_
  · intro g acc
    refine run146 d i x xq g _ ?_
    intro a
    refine run147 d i x xq g _ _ _ rfl ?_
    intro a
    repeat first
      | (with_reducible refine stg_loadS d i x ?_); intro _
      | (with_reducible refine stg_storeS d i x ?_ ?_ ?_) <;> [(simp only [ClosedOff.form]; (try simp); omega); rfl; skip]
      | (with_reducible refine stg_loadM d i x ?_); intro _
      | (with_reducible refine stg_storeM d i x ?_ ?_ ?_) <;> [(simp only [ClosedOff.form]; (try simp); omega); rfl; skip]
      | (with_reducible refine stg_loadI d i x ?_); intro _
      | (with_reducible refine stg_storeI d i x ?_ ?_ ?_) <;> [(simp only [ClosedOff.form]; (try simp); omega); rfl; skip]
      | with_reducible refine c_leave (F := F) d i ?_
    exact BI.BIBase.Entails.rfl
  intro acc
  repeat first
    | (with_reducible refine c_wait d i x xq ?_ ?_ ?_ ?_) <;> [decide; rfl; rfl; skip]
    | with_reducible refine c_leave (F := F) d i ?_
  refine step_waitLast d i x xq rfl rfl (cr_pos 32) ?_
  refine (tail0 d i x xq f₀ f₁ f₂ _ _).trans ?_
  refine step_sync d i (V := vS d i x) s₀ (show 0 < (Memref.whole main_v1_0_scv).view.ref.dmaCredit S1024 .f32 by decide) hout.s ?_
  refine (turn2 _ _ _ _ _ _ _ _ _ _ _).trans ?_
  refine step_sync d i (V := vM d i x) s₁ (show 0 < (Memref.whole main_v1_1_scv).view.ref.dmaCredit S1024 .f32 by decide) hout.m ?_
  refine (turn3 _ _ _ _ _ _ _ _ _ _ _).trans ?_
  refine step_sync d i (V := vA (F := F) d i x) s₂ (show 0 < (Memref.whole main_v1_2_scv).view.ref.dmaCredit S1024 .i32 by decide) hout.i ?_
  refine c_leave (F := F) d i ?_
  exact tail4 d i x xq s₀ s₁ s₂

end Cert.Proof.Run
-- ==== Proof.Gather.lean ====
/-
  One tile of the second SparseCore kernel: of each of its rows, the entry of the flat array at the target and the first
  one, fetched by two indexed copies.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))

variable {O : CellTallies nD τ sig (HIx 2)} {W : Waits sig (HIx 2)}

/-! ## A copy and its wait -/

theorem step_copy {e : EltTy} {s : Shape} {sp₁ sp₂ : Space} {q : PosShare TreeShare}
    {β : Type} {Q : β → sProp 𝕄} {R : sProp 𝕄} {src : Memref sig .scVector sp₁ s e} {dst : Memref sig .scVector sp₂ s e}
    {sem : DmaSem sig} {hsrc hdst hty} {s' : Shape} {e' : EltTy} {sp' : Space}
    {srcw : Memref sig (tV d i).2.kind sp' s' e'} {hsrc' hdst'}
    {k : PUnit → Prog (TpuEff nD τ sig (Elt F) Λ₀ (tV d i).2) β} {fs : Buf (Elt F) (src.view.loc (tV d i))} {fd : Buf (Elt F) (dst.view.loc (tV d i))}
    (out : Buf (Elt F) (dst.view.loc (tV d i)))
    (hN0 : 0 < dst.view.dmaCredit)
    (hout : ∀ z, dst.view.read (Elt F) out z = src.view.read (Elt F) fs z)
    (hk : iprop(Cx d i O W ∗ (src.view.loc (tV d i) ↦[src.view.set]{q} fs) ∗ (dst.view.loc (tV d i) ↦[dst.view.set]{fullShare} out) ∗ semVal (tV d i, .dma sem) 0 ∗ R)
      ⊢ wp frame (wpE (defs₀ (F := F)) 𝒱₀ (tV d i) none) Set.univ (k ⟨⟩) Q) :
    iprop(Cx d i O W ∗ (src.view.loc (tV d i) ↦[src.view.set]{q} fs) ∗ (dst.view.loc (tV d i) ↦[dst.view.set]{fullShare} fd) ∗ semVal (tV d i, .dma sem) 0 ∗ R)
      ⊢ wp frame (wpE (defs₀ (F := F)) 𝒱₀ (tV d i) none) Set.univ
          (Prog.lift (.enqueueDma src (.here dst) (.dma sem) hsrc hdst hty) >>= fun _ => Prog.lift (.waitDma2 sem srcw dst hsrc' hdst') >>= k) Q := by
  show _ ⊢ wp frame _ Set.univ (.op (.enqueueDmaAs src (.here dst) .same (.dma sem) _ _ _) fun _ => .op (.waitDma2 sem srcw dst hsrc' hdst') k) Q
  unfold Cx Own
  iintro ⟨⟨#Hmw, ⟨%W', %hW', HO⟩⟩, Hm, Hd, Hs, HR⟩
  iapply (wp_dmaLocal countersEmb 𝒱₀ (tV d i) none (none : HIx 2) dst.view.dmaCredit (via := .same) (src := src) (dst := dst) (sm := .dma sem)
    (q := q) (fs := fs) (fd := fd) (Sd := dst.view.set) rfl hN0 (Finset.Subset.refl _)) $$ [Hm Hd Hs]
  · isplitl [Hm]; · iexact Hm
    isplitl [Hd]; · iexact Hd
    iexact Hs
  iintro HF
  ihave Hw := (MayWaits.elim (c := tV d i) (ι := (none : HIx 2)) (O := O) (.dma sem)) $$ Hmw
  iapply (wp_waitLocalO countersEmb 𝒱₀ (tV d i) none (none : HIx 2) (rfl : dst.view.dmaCredit = _)) $$ [HF HO Hw]
  · isplitl [HF]; · iexact HF
    isplitl [HO] <;> iassumption
  iintro ⟨⟨Hd, Hm⟩, Hs, HO⟩
  have hcongr : ∀ y ∈ dst.view.set, (dst.view.write (Elt F) fd (src.view.read (Elt F) fs) Finset.univ) y = out y := by
    intro y hy
    obtain ⟨z, -, rfl⟩ := Finset.mem_map.mp hy
    have h1 : dst.view.read (Elt F) (dst.view.write (Elt F) fd (src.view.read (Elt F) fs) Finset.univ) z = src.view.read (Elt F) fs z := by
      rw [View.read_write_univ]
    have h4 := h1.trans (hout z).symm
    rw [View.read_apply, View.read_apply] at h4
    exact (cast_inj _).mp h4
  iapply hk
  unfold Cx Own
  isplitl [HO]
  · isplitr; · iexact Hmw
    iexists (insert (SemLoc.dma sem, (none : HIx 2)) W')
    isplitr
    · ipureintro; exact own_insert hW'
    iexact HO
  isplitl [Hm]; · iexact Hm
  isplitl [Hd]
  · iapply (Entails.of_eq (pointsTo_congr hcongr)) $$ Hd
  isplitl [Hs] <;> iassumption

/-! ## An indexed copy and its wait -/

theorem payload1 {N M : ℕ} {e : EltTy} (hg : (⟨1, ![N]⟩ : Shape).Gathers 0 ⟨1, ![M]⟩) (g : (⟨1, ![N]⟩ : Shape).Idx → Elt F e)
    (w : (⟨1, ![M]⟩ : Shape).Idx → Elt F .i32) (hn : (⟨1, ![M]⟩ : Shape).numel = (⟨1, ![M]⟩ : Shape).size hg.axis')
    (hin : ∀ y, (w y).toNat < (⟨1, ![N]⟩ : Shape).size hg.axis) (z : (⟨1, ![M]⟩ : Shape).Idx) (hz : (w z).toNat < N) :
    SparseCore.gatherPayload hg g (SparseCore.rows w hn hin) z = g (fun a => ⟨(w z).toNat, by match a with | 0 => exact hz⟩) := by
  unfold SparseCore.gatherPayload
  refine congrArg g ?_
  funext a
  match a with
  | 0 =>
    refine Fin.ext ?_
    have h := congrArg Fin.val (hg.idx_axis (SparseCore.rows w hn hin) z)
    refine h.trans ?_
    show (w ((⟨1, ![M]⟩ : Shape).rowMajor.symm _)).toNat = (w z).toNat
    congr 2
    rw [Equiv.symm_apply_eq]
    exact Fin.ext (Shape.rowMajor_val_one z).symm

theorem step_gather {q : PosShare TreeShare}
    {β : Type} {Q : β → sProp 𝕄} {R : sProp 𝕄} {src : Memref sig .scVector .hbm S204800000 .f32} {dst : Memref sig .scVector .vmem S64 .f32}
    {offs : Memref sig .scVector .vmem S64 .i32} {hn} {sem : DmaSem sig} {hp hsrc he hsp hr} {srcw : Memref sig .scVector .hbm S204800000 .f32} {hsrc' hdst'}
    {k : PUnit → Prog (TpuEff nD τ sig (Elt F) Λ₀ (tV d i).2) β} {fs : Buf (Elt F) (src.view.loc (tV d i))} {fd : Buf (Elt F) (dst.view.loc (tV d i))}
    {fo : Buf (Elt F) (offs.view.loc (tV d i))}
    (out : Buf (Elt F) (dst.view.loc (tV d i)))
    (hN : ∑ j, (dst.slice (S64.rowRect (Shape.Gathers.axis' gathers_S204800000_S64) j) (S64.stride_rowRect _ j)).view.dmaCredit = dst.view.dmaCredit)
    (hin : ∀ x, (offs.view.read (Elt F) fo x).toNat < 204800000)
    (hout : ∀ (z : S64.Idx), dst.view.read (Elt F) out z
      = src.view.read (Elt F) fs (fun a => ⟨(offs.view.read (Elt F) fo z).toNat, by match a with | 0 => exact hin z⟩))
    (hk : iprop(Cx d i O W ∗ (src.view.loc (tV d i) ↦[src.view.set]{q} fs) ∗ (dst.view.loc (tV d i) ↦[dst.view.set]{fullShare} out)
        ∗ (offs.view.loc (tV d i) ↦[offs.view.set]{fullShare} fo) ∗ semVal (tV d i, .dma sem) 0 ∗ R)
      ⊢ wp frame (wpE (defs₀ (F := F)) 𝒱₀ (tV d i) none) Set.univ (k ⟨⟩) Q) :
    iprop(Cx d i O W ∗ (src.view.loc (tV d i) ↦[src.view.set]{q} fs) ∗ (dst.view.loc (tV d i) ↦[dst.view.set]{fullShare} fd)
        ∗ (offs.view.loc (tV d i) ↦[offs.view.set]{fullShare} fo) ∗ semVal (tV d i, .dma sem) 0 ∗ R)
      ⊢ wp frame (wpE (defs₀ (F := F)) 𝒱₀ (tV d i) none) Set.univ
          (SparseCore.enqueueIndirectGather hp src dst gathers_S204800000_S64 offs hn sem hsrc he hsp hr
            >>= fun _ => SparseCore.waitIndirectGather sem srcw dst hsrc' hdst' >>= k) Q := by
  show _ ⊢ wp frame _ Set.univ (SparseCore.enqueueIndirectGather hp src dst gathers_S204800000_S64 offs hn sem hsrc he hsp hr
    >>= fun _ => .op (.waitDma2 sem srcw dst hsrc' hdst') k) Q
  unfold Cx Own
  iintro ⟨⟨#Hmw, ⟨%W', %hW', HO⟩⟩, Hs, Hd, Ho, Hz, HR⟩
  iapply (SparseCore.wp_indirectGatherLocal countersEmb 𝒱₀ (tV d i) none (none : HIx 2) dst.view.dmaCredit hN (by decide) hin) $$ [Hs Hd Ho Hz]
  · isplitl [Hs]; · iexact Hs
    isplitl [Hd]; · iexact Hd
    isplitl [Ho]; · iexact Ho
    iexact Hz
  iintro HF
  ihave Hw := (MayWaits.elim (c := tV d i) (ι := (none : HIx 2)) (O := O) (.dma sem)) $$ Hmw
  iapply (wp_waitLocalO countersEmb 𝒱₀ (tV d i) none (none : HIx 2) (rfl : dst.view.dmaCredit = _)) $$ [HF HO Hw]
  · isplitl [HF]; · iexact HF
    isplitl [HO] <;> iassumption
  iintro ⟨⟨Hd, Hs, Ho⟩, Hz, HO⟩
  have hcongr : ∀ y ∈ dst.view.set, (dst.view.write (Elt F) fd (SparseCore.gatherPayload gathers_S204800000_S64 (src.view.read (Elt F) fs)
      (SparseCore.rows (offs.view.read (Elt F) fo) hn hin)) Finset.univ) y = out y := by
    intro y hy
    obtain ⟨z, -, rfl⟩ := Finset.mem_map.mp hy
    have h1 : dst.view.read (Elt F) (dst.view.write (Elt F) fd (SparseCore.gatherPayload gathers_S204800000_S64 (src.view.read (Elt F) fs)
      (SparseCore.rows (offs.view.read (Elt F) fo) hn hin)) Finset.univ) z = SparseCore.gatherPayload gathers_S204800000_S64 (src.view.read (Elt F) fs)
      (SparseCore.rows (offs.view.read (Elt F) fo) hn hin) z := by
      rw [View.read_write_univ]
    have h2 : SparseCore.gatherPayload gathers_S204800000_S64 (src.view.read (Elt F) fs)
      (SparseCore.rows (offs.view.read (Elt F) fo) hn hin) z = dst.view.read (Elt F) out z := by
      rw [hout z]; exact payload1 _ _ _ _ _ z (hin z)
    have h4 := h1.trans h2
    rw [View.read_apply, View.read_apply] at h4
    exact (cast_inj _).mp h4
  iapply hk
  unfold Cx Own
  isplitl [HO]
  · isplitr; · iexact Hmw
    iexists (insert (SemLoc.dma sem, (none : HIx 2)) W')
    isplitr
    · ipureintro; exact own_insert hW'
    iexact HO
  isplitl [Hs]; · iexact Hs
  isplitl [Hd]
  · iapply (Entails.of_eq (pointsTo_congr hcongr)) $$ Hd
  isplitl [Ho]; · iexact Ho
  isplitl [Hz] <;> iassumption

/-! ## Arrays of sixty-four words -/

/-- The array `m` holds `V` in its first `n` blocks of sixteen. -/
def GA {e : EltTy} (m : Memref sig .scVector .vmem S64 e) (V : ℕ → Elt F e) (n : ℕ) : sProp 𝕄 :=
  iprop(∃ f, ⌜∀ y : S64.Idx, (y 0).val < 16 * n → m.view.read (Elt F) f y = V (y 0).val⌝ ∗ m.view.loc (tV d i) ↦[m.view.set]{fullShare} f)

theorem ga_load {e : EltTy} {m : Memref sig .scVector .vmem S64 e} {V : ℕ → Elt F e} {n : ℕ}
    {β : Type} {Q : β → sProp 𝕄} {R : sProp 𝕄} {o : Fin 1 → ℕ} {h hl}
    {k : (S16.Idx → Elt F e) → Prog (TpuEff nD τ sig (Elt F) Λ₀ (tV d i).2) β}
    (hk : ∀ v : S16.Idx → Elt F e, (∀ l : S16.Idx, o 0 + (l 0).val < 16 * n → v l = V (o 0 + (l 0).val)) →
      iprop(GA d i m V n ∗ R) ⊢ wp frame (wpE (defs₀ (F := F)) 𝒱₀ (tV d i) none) Set.univ (k v) Q) :
    iprop(GA d i m V n ∗ R)
      ⊢ wp frame (wpE (defs₀ (F := F)) 𝒱₀ (tV d i) none) Set.univ
          (Prog.lift (.load m (Rect.unit (s := S64) o S16.size h).toLoadRect hl) >>= k) Q := by
  show _ ⊢ wp frame _ Set.univ (.op (.load m (Rect.unit (s := S64) o S16.size h).toLoadRect hl) k) Q
  iintro ⟨H, HR⟩
  unfold GA
  icases H with ⟨%f, %hf, H⟩
  iapply (wp_load 𝒱₀ (tV d i) none Set.univ (S := m.view.set)
    (Finset.map_subset_map.mpr (Finset.subset_univ _))) $$ H
  iintro H
  have hv : ∀ l : S16.Idx, o 0 + (l 0).val < 16 * n →
      m.view.readAt (Elt F) (Rect.unit (s := S64) o S16.size h).toLoadRect f l = V (o 0 + (l 0).val) := by
    intro l hl
    rw [View.readAt_apply]
    have h0 : (((Rect.unit (s := S64) o S16.size h).emb l) 0).val = o 0 + (l 0).val := by
      rw [Rect.emb_apply]; show o 0 + 1 * (l 0).val = _; omega
    refine (hf ((Rect.unit (s := S64) o S16.size h).emb l) (by rw [h0]; exact hl)).trans ?_
    rw [h0]
  iapply (hk _ hv)
  unfold GA
  isplitl [H]
  · iexists f
    isplitr
    · ipureintro; exact hf
    iexact H
  iexact HR

theorem ga_store {e : EltTy} {m : Memref sig .scVector .vmem S64 e} {V : ℕ → Elt F e} {n : ℕ}
    {β : Type} {Q : β → sProp 𝕄} {R : sProp 𝕄} {o : Fin 1 → ℕ} {h hx hm} {val : S16.Idx → Elt F e}
    {k : PUnit → Prog (TpuEff nD τ sig (Elt F) Λ₀ (tV d i).2) β}
    (ho' : o 0 = 16 * n) (hv : ∀ l : S16.Idx, val l = V (16 * n + (l 0).val))
    (hk : iprop(GA d i m V (n + 1) ∗ R) ⊢ wp frame (wpE (defs₀ (F := F)) 𝒱₀ (tV d i) none) Set.univ (k ⟨⟩) Q) :
    iprop(GA d i m V n ∗ R)
      ⊢ wp frame (wpE (defs₀ (F := F)) 𝒱₀ (tV d i) none) Set.univ
          (Prog.lift (.store m (Rect.unit (s := S64) o S16.size h) val Finset.univ hx hm) >>= k) Q := by
  show _ ⊢ wp frame _ Set.univ (.op (.store m (Rect.unit (s := S64) o S16.size h) val Finset.univ hx hm) k) Q
  iintro ⟨H, HR⟩
  unfold GA
  icases H with ⟨%f, %hf, H⟩
  have hset : (m.access (Rect.unit (s := S64) o S16.size h)).setOn Finset.univ = m.view.setOn (Rect.unit (s := S64) o S16.size h).set :=
    set_slice' m _
  iapply (wp_store 𝒱₀ (tV d i) none Set.univ (S := m.view.set) (m := m) (r := Rect.unit (s := S64) o S16.size h) (f := f)
    (hset ▸ Finset.map_subset_map.mpr (Finset.subset_univ _))) $$ H
  iintro H
  iapply hk
  unfold GA
  isplitl [H]
  · iexists _
    isplitr
    swap
    · iexact H
    ipureintro
    intro y hy
    by_cases hlt : (y 0).val < 16 * n
    · refine Eq.trans ?_ (hf y hlt)
      rw [View.read_apply, View.read_apply]
      congr 1
      refine View.write_of_not_mem (v := m.access (Rect.unit (s := S64) o S16.size h)) f _ _ ?_
      rw [hset]
      intro hmem
      obtain ⟨z, hz, hzy⟩ := Finset.mem_map.mp hmem
      have : z = y := m.view.emb.injective hzy
      subst this
      have h0 : o 0 ≤ (z 0).val ∧ (z 0).val < o 0 + 16 := Rect.mem_set_unit.mp hz 0
      omega
    · have hl : (y 0).val - 16 * n < 16 := by omega
      have hyz : y = (Rect.unit (s := S64) o S16.size h).emb (fun a => ⟨(y 0).val - 16 * n, by match a with | 0 => exact hl⟩) := by
        funext a
        match a with
        | 0 => exact Fin.ext (by rw [Rect.emb_apply]; show (y 0).val = o 0 + 1 * ((y 0).val - 16 * n); omega)
      have e1 := View.read_slice_write_emb (v := m.view) (Val := Elt F) (Rect.unit (s := S64) o S16.size h) f val
        (Finset.mem_univ (fun a => ⟨(y 0).val - 16 * n, by match a with | 0 => exact hl⟩))
      rw [← hyz] at e1
      refine e1.trans ((hv _).trans ?_)
      congr 1
      show 16 * n + ((y 0).val - 16 * n) = (y 0).val
      omega
  iexact HR

end Cert.Proof.Run
-- ==== Proof.GatherRun.lean ====
/-
  The run of one tile of the second SparseCore kernel, whole.
-/
module

public import proofs.«01_k».proof.Proof.Gather
public import Idealize.ShloMosaic.Lib.Pipeline.Value

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (d : Dev nD) (i : grid0.Coords)
variable (x : Buf (Elt F) ((xV).view.loc (tV d i)))

variable {O : CellTallies nD τ sig (HIx 2)} {W : Waits sig (HIx 2)}

abbrev tgV : Memref sig .scVector .hbm S2048 .i32 := Memref.whole main_arg1_scv
abbrev g6 : Memref sig .scVector .vmem S64 .i32 := Memref.whole cc1_scratch0
abbrev g7 : Memref sig .scVector .vmem S64 .i32 := Memref.whole cc1_scratch1
abbrev g8 : Memref sig .scVector .vmem S64 .i32 := Memref.whole cc1_scratch2
abbrev g9 : Memref sig .scVector .vmem S64 .f32 := Memref.whole cc1_scratch3
abbrev g10 : Memref sig .scVector .vmem S64 .f32 := Memref.whole cc1_scratch4
/-- The tile's parts of the targets and of the two outputs. -/
abbrev tS (i : grid1.Coords) : Memref sig .scVector .hbm S64 .i32 :=
  tgV.slice (Rect.unit (s := S2048) (k1_off1 i) S64.size (k1_off1_inb i)) (fun _ => rfl)
abbrev eT (i : grid1.Coords) : Memref sig .scVector .hbm S64 .f32 :=
  (Memref.whole main_v2_0_scv).slice (Rect.unit (s := S2048) (k1_off1 i) S64.size (k1_off1_inb i)) (fun _ => rfl)
abbrev e0 (i : grid1.Coords) : Memref sig .scVector .hbm S64 .f32 :=
  (Memref.whole main_v2_1_scv).slice (Rect.unit (s := S2048) (k1_off1 i) S64.size (k1_off1_inb i)) (fun _ => rfl)
/-- The flat array as the indexed copies read it. -/
abbrev xAll : Memref sig .scVector .hbm S204800000 .f32 :=
  xV.slice (Rect.unit (s := S204800000) ![0] S204800000.size inb_S204800000_S204800000_0) (fun _ => rfl)

variable (t : Buf (Elt F) ((tgV).view.loc (tV d i)))

/-- The targets by position. -/
def tg (n : ℕ) : BitVec 32 := if h : n < 2048 then (tgV).view.read (Elt F) t (fun a => ⟨n, by match a with | 0 => exact h⟩) else 0#32

/-- The tile's first row. -/
def base (i : grid1.Coords) : ℕ := 128 * (i 1).val + 64 * (i 0).val

/-- The three lists of the tile: its targets, the positions of its rows' targets, the positions of its rows' first entries. -/
def V6 (ρ : ℕ) : BitVec 32 := tg (F := F) d i t (base i + ρ)
def V8 (i : grid1.Coords) (ρ : ℕ) : BitVec 32 := BitVec.ofNat 32 (100000 * (base i + ρ))
def V7 (ρ : ℕ) : BitVec 32 := V8 i ρ + V6 (F := F) d i t ρ

theorem val8 (i : grid1.Coords) (c : ℕ) (hc : c ≤ 48) (l : S16.Idx) {h₁ h₂} :
    (shapeCast S16 (muli (addi (iota .scVector S16 32 [0] h₁) (broadcast S16 (Scalar.addi (Scalar.muli (Scalar.addi (Scalar.muli (BitVec.ofNat 32 (i 1).val) 2#32)
      (BitVec.ofNat 32 (i 0).val)) 64#32) (BitVec.ofNat 32 c)))) (broadcast S16 100000#32)) h₂ : IVec S16 32) l = V8 i (c + (l 0).val) := by
  have h0 : (i 0).val < 2 := (i 0).isLt
  have h1 : (i 1).val < 16 := (i 1).isLt
  have hl : (l 0).val < 16 := (l 0).isLt
  rw [shapeCast_self]
  refine BitVec.eq_of_toNat_eq ?_
  simp [muli, addi, iota, broadcast, Scalar.addi, Scalar.muli, IntOp.addi, IntOp.muli, V8, base]
  omega

theorem val7 (c : ℕ) (hc : c ≤ 48) (l : S16.Idx) {h₁ h₂ h₃} (v : IVec S16 32) (hv : v l = V6 (F := F) d i t (c + (l 0).val)) :
    (shapeCast S16 (addi (muli (addi (iota .scVector S16 32 [0] h₁) (broadcast S16 (Scalar.addi (Scalar.muli (Scalar.addi (Scalar.muli (BitVec.ofNat 32 (i 1).val) 2#32)
      (BitVec.ofNat 32 (i 0).val)) 64#32) (BitVec.ofNat 32 c)))) (broadcast S16 100000#32)) (shapeCast S16 v h₃)) h₂ : IVec S16 32) l = V7 (F := F) d i t (c + (l 0).val) := by
  have h := val8 i c hc l (h₁ := h₁) (h₂ := h₂)
  rw [shapeCast_self] at h ⊢
  rw [shapeCast_self]
  unfold V7
  rw [← h, ← hv]
  rfl

omit [FloatOps F] [Named F] in
theorem sw2 (A B C D : sProp 𝕄) : iprop(A ∗ B ∗ C ∗ D) ⊢ iprop(B ∗ A ∗ C ∗ D) := by
  iintro ⟨HA, HB, HC, HD⟩; iframe
omit [FloatOps F] [Named F] in
theorem sw3 (A B C D : sProp 𝕄) : iprop(A ∗ B ∗ C ∗ D) ⊢ iprop(C ∗ A ∗ B ∗ D) := by
  iintro ⟨HA, HB, HC, HD⟩; iframe
omit [FloatOps F] [Named F] in
theorem sw3' (A B C D : sProp 𝕄) : iprop(C ∗ A ∗ B ∗ D) ⊢ iprop(A ∗ B ∗ C ∗ D) := by
  iintro ⟨HA, HB, HC, HD⟩; iframe

/-- The three lists, `a` blocks of the second and `b` of the third filled in. -/
abbrev Gs (a b : ℕ) (R : sProp 𝕄) : sProp 𝕄 :=
  iprop(GA (F := F) d i g6 (V6 (F := F) d i t) 4 ∗ GA (F := F) d i g7 (V7 (F := F) d i t) a ∗ GA (F := F) d i g8 (V8 i) b ∗ R)

variable {d i t}

theorem g_load6 {β : Type} {Q : β → sProp 𝕄} {R : sProp 𝕄} {a b : ℕ} {o : Fin 1 → ℕ} {h hl} {k : (S16.Idx → Elt F .i32) → Prog (TpuEff nD τ sig (Elt F) Λ₀ (tV d i).2) β}
    (hk : ∀ v : S16.Idx → Elt F .i32, (∀ l : S16.Idx, o 0 + (l 0).val < 16 * 4 → v l = V6 (F := F) d i t (o 0 + (l 0).val)) →
      Gs d i t a b R ⊢ wp frame (wpE (defs₀ (F := F)) 𝒱₀ (tV d i) none) Set.univ (k v) Q) :
    Gs d i t a b R ⊢ wp frame (wpE (defs₀ (F := F)) 𝒱₀ (tV d i) none) Set.univ
      (Prog.lift (.load g6 (Rect.unit (s := S64) o S16.size h).toLoadRect hl) >>= k) Q :=
  ga_load d i (m := g6) (V := V6 (F := F) d i t) (n := 4) hk

theorem g_load7 {β : Type} {Q : β → sProp 𝕄} {R : sProp 𝕄} {a b : ℕ} {o : Fin 1 → ℕ} {h hl} {k : (S16.Idx → Elt F .i32) → Prog (TpuEff nD τ sig (Elt F) Λ₀ (tV d i).2) β}
    (hk : ∀ v : S16.Idx → Elt F .i32, Gs d i t a b R ⊢ wp frame (wpE (defs₀ (F := F)) 𝒱₀ (tV d i) none) Set.univ (k v) Q) :
    Gs d i t a b R ⊢ wp frame (wpE (defs₀ (F := F)) 𝒱₀ (tV d i) none) Set.univ
      (Prog.lift (.load g7 (Rect.unit (s := S64) o S16.size h).toLoadRect hl) >>= k) Q :=
  (sw2 _ _ _ _).trans (ga_load d i (m := g7) (V := V7 (F := F) d i t) (n := a) fun v _ => (sw2 _ _ _ _).trans (hk v))

theorem g_load8 {β : Type} {Q : β → sProp 𝕄} {R : sProp 𝕄} {a b : ℕ} {o : Fin 1 → ℕ} {h hl} {k : (S16.Idx → Elt F .i32) → Prog (TpuEff nD τ sig (Elt F) Λ₀ (tV d i).2) β}
    (hk : ∀ v : S16.Idx → Elt F .i32, Gs d i t a b R ⊢ wp frame (wpE (defs₀ (F := F)) 𝒱₀ (tV d i) none) Set.univ (k v) Q) :
    Gs d i t a b R ⊢ wp frame (wpE (defs₀ (F := F)) 𝒱₀ (tV d i) none) Set.univ
      (Prog.lift (.load g8 (Rect.unit (s := S64) o S16.size h).toLoadRect hl) >>= k) Q :=
  (sw3 _ _ _ _).trans (ga_load d i (m := g8) (V := V8 i) (n := b) fun v _ => (sw3' _ _ _ _).trans (hk v))

theorem g_store7 {β : Type} {Q : β → sProp 𝕄} {R : sProp 𝕄} {a b : ℕ} {o : Fin 1 → ℕ} {h hx hm} {val : S16.Idx → Elt F .i32} {k : PUnit → Prog (TpuEff nD τ sig (Elt F) Λ₀ (tV d i).2) β}
    (ho : o 0 = 16 * a) (hv : ∀ l : S16.Idx, val l = V7 (F := F) d i t (16 * a + (l 0).val))
    (hk : Gs d i t (a + 1) b R ⊢ wp frame (wpE (defs₀ (F := F)) 𝒱₀ (tV d i) none) Set.univ (k ⟨⟩) Q) :
    Gs d i t a b R ⊢ wp frame (wpE (defs₀ (F := F)) 𝒱₀ (tV d i) none) Set.univ
      (Prog.lift (.store g7 (Rect.unit (s := S64) o S16.size h) val Finset.univ hx hm) >>= k) Q :=
  (sw2 _ _ _ _).trans (ga_store d i (m := g7) (V := V7 (F := F) d i t) (n := a) ho hv ((sw2 _ _ _ _).trans hk))

theorem g_store8 {β : Type} {Q : β → sProp 𝕄} {R : sProp 𝕄} {a b : ℕ} {o : Fin 1 → ℕ} {h hx hm} {val : S16.Idx → Elt F .i32} {k : PUnit → Prog (TpuEff nD τ sig (Elt F) Λ₀ (tV d i).2) β}
    (ho : o 0 = 16 * b) (hv : ∀ l : S16.Idx, val l = V8 i (16 * b + (l 0).val))
    (hk : Gs d i t a (b + 1) R ⊢ wp frame (wpE (defs₀ (F := F)) 𝒱₀ (tV d i) none) Set.univ (k ⟨⟩) Q) :
    Gs d i t a b R ⊢ wp frame (wpE (defs₀ (F := F)) 𝒱₀ (tV d i) none) Set.univ
      (Prog.lift (.store g8 (Rect.unit (s := S64) o S16.size h) val Finset.univ hx hm) >>= k) Q :=
  (sw3 _ _ _ _).trans (ga_store d i (m := g8) (V := V8 i) (n := b) ho hv ((sw3' _ _ _ _).trans hk))

variable (d i t)

/-! ## The run -/

variable (x : Buf (Elt F) ((xV).view.loc (tV d i)))

/-- The entries at the rows' targets, and the rows' first entries. -/
def xt : Buf (Elt F) ((g9).view.loc (tV d i)) := fun (y : S64.Idx) => flat d i x (V7 (F := F) d i t (y 0).val).toNat
def x0 : Buf (Elt F) ((g10).view.loc (tV d i)) := fun (y : S64.Idx) => flat d i x (V8 i (y 0).val).toNat
/-- The tile's targets, in its own memory. -/
def ts : Buf (Elt F) ((g6).view.loc (tV d i)) := fun (y : S64.Idx) => V6 (F := F) d i t (y 0).val

theorem tg_apply (y : S2048.Idx) : (tgV).view.read (Elt F) t y = tg (F := F) d i t (y 0).val := by
  have h : (y 0).val < 2048 := (y 0).isLt
  unfold tg
  rw [dif_pos h]
  exact congrArg _ (funext fun a => by match a with | 0 => rfl)

theorem ts_read (z : S64.Idx) : (g6).view.read (Elt F) (ts d i t) z = (tS i).view.read (Elt F) t z := by
  refine (show (g6).view.read (Elt F) (ts d i t) z = V6 (F := F) d i t (z 0).val from rfl).trans ?_
  refine Eq.trans ?_ (tg_apply d i t ((Rect.unit (s := S2048) (k1_off1 i) S64.size (k1_off1_inb i)).emb z)).symm
  unfold V6
  congr 1
  rw [Rect.emb_apply]
  show _ = k1_off1 i 0 + 1 * (z 0).val
  rw [k1_off1_eq]
  simp [base]

theorem all_read (y : S204800000.Idx) : (xAll).view.read (Elt F) x y = flat d i x (y 0).val := by
  refine (flat_apply d i x ((Rect.unit (s := S204800000) ![0] S204800000.size inb_S204800000_S204800000_0).emb y)).trans ?_
  congr 1
  rw [Rect.emb_apply]
  show 0 + 1 * (y 0).val = _
  omega

/-- Every target is a column. -/
def InRange : Prop := ∀ n, (tg (F := F) d i t n).toNat < 100000

theorem base_le (i : grid1.Coords) : base i ≤ 1984 := by
  have h0 : (i 0).val < 2 := (i 0).isLt
  have h1 : (i 1).val < 16 := (i 1).isLt
  unfold base; omega

theorem V8_toNat (ρ : ℕ) (h : ρ < 64) : (V8 i ρ).toNat = 100000 * (base i + ρ) := by
  have := base_le i
  unfold V8; rw [BitVec.toNat_ofNat]; omega

theorem V7_toNat (hr : InRange (F := F) d i t) (ρ : ℕ) (h : ρ < 64) :
    (V7 (F := F) d i t ρ).toNat = 100000 * (base i + ρ) + (tg (F := F) d i t (base i + ρ)).toNat := by
  have := base_le i
  have := hr (base i + ρ)
  unfold V7 V6; rw [BitVec.toNat_add, V8_toNat i ρ h]; omega

variable (q tq : PosShare TreeShare)
variable (a a' : Buf (Elt F) ((eT i).view.loc (tV d i))) (b b' : Buf (Elt F) ((e0 i).view.loc (tV d i)))

/-- What the tile holds beside its lists. -/
def Rest (A B : sProp 𝕄) (a : Buf (Elt F) ((eT i).view.loc (tV d i))) (b : Buf (Elt F) ((e0 i).view.loc (tV d i))) : sProp 𝕄 :=
  iprop(((xAll).view.loc (tV d i) ↦[(xAll).view.set]{q} x) ∗ A ∗ B
    ∗ semVal (tV d i, .dma cc1_scratch5.sem) 0
    ∗ ((eT i).view.loc (tV d i) ↦[(eT i).view.set]{fullShare} a) ∗ ((e0 i).view.loc (tV d i) ↦[(e0 i).view.set]{fullShare} b)
    ∗ semVal (tV d i, .dma cc1_scoped1.sem) 0 ∗ semVal (tV d i, .dma cc1_scoped2.sem) 0)

/-- A tile's own array, whatever it holds. -/
abbrev anyT {e : EltTy} (m : Memref sig .scVector .vmem S64 e) : sProp 𝕄 :=
  iprop(∃ f, m.view.loc (tV d i) ↦[m.view.set]{fullShare} f)

/-- All of the tile's holdings. -/
def GSt (a : Buf (Elt F) ((eT i).view.loc (tV d i))) (b : Buf (Elt F) ((e0 i).view.loc (tV d i))) : sProp 𝕄 :=
  iprop(Cx d i O W ∗ ((tS i).view.loc (tV d i) ↦[(tS i).view.set]{tq} t) ∗ ((xAll).view.loc (tV d i) ↦[(xAll).view.set]{q} x)
    ∗ (anyT d i g6 ∗ anyT d i g7 ∗ anyT d i g8 ∗ anyT d i g9 ∗ anyT d i g10)
    ∗ semVal (tV d i, .dma cc1_scratch5.sem) 0 ∗ semVal (tV d i, .dma cc1_scoped0.sem) 0
    ∗ semVal (tV d i, .dma cc1_scoped1.sem) 0 ∗ semVal (tV d i, .dma cc1_scoped2.sem) 0
    ∗ ((eT i).view.loc (tV d i) ↦[(eT i).view.set]{fullShare} a) ∗ ((e0 i).view.loc (tV d i) ↦[(e0 i).view.set]{fullShare} b))

omit [FloatOps F] [Named F] in
theorem ga_zero {e : EltTy} {m : Memref sig .scVector .vmem S64 e} (V : ℕ → Elt F e) (f) :
    (m.view.loc (tV d i) ↦[m.view.set]{fullShare} f) ⊢ (GA d i m V 0 : sProp 𝕄) := by
  unfold GA
  iintro H
  iexists f
  isplitr
  · ipureintro; intro y hy; omega
  · iexact H

variable {d i t x q tq} in
theorem g_begin {β : Type} {Q : β → sProp 𝕄} {k : Prog (TpuEff nD τ sig (Elt F) Λ₀ (tV d i).2) β}
    (hk : ∀ f6 f9 f10, iprop(Cx d i O W ∗ ((tS i).view.loc (tV d i) ↦[(tS i).view.set]{tq} t) ∗ ((g6).view.loc (tV d i) ↦[(g6).view.set]{fullShare} f6)
        ∗ semVal (tV d i, .dma cc1_scoped0.sem) 0
        ∗ GA (F := F) d i g7 (V7 (F := F) d i t) 0 ∗ GA (F := F) d i g8 (V8 i) 0
        ∗ Rest d i x q ((g9).view.loc (tV d i) ↦[(g9).view.set]{fullShare} f9) ((g10).view.loc (tV d i) ↦[(g10).view.set]{fullShare} f10) a b)
      ⊢ wp frame (wpE (defs₀ (F := F)) 𝒱₀ (tV d i) none) Set.univ k Q) :
    GSt d i t x q tq a b (O := O) (W := W) ⊢ wp frame (wpE (defs₀ (F := F)) 𝒱₀ (tV d i) none) Set.univ k Q := by
  unfold GSt
  iintro ⟨HC, Ht, Hx, ⟨⟨%f6, H6⟩, ⟨%f7, H7⟩, ⟨%f8, H8⟩, ⟨%f9, H9⟩, ⟨%f10, H10⟩⟩, Hs, Hs0, Hs1, Hs2, Ha, Hb⟩
  iapply (hk f6 f9 f10)
  ihave H7 := (ga_zero d i (V7 (F := F) d i t) f7) $$ H7
  ihave H8 := (ga_zero d i (V8 i) f8) $$ H8
  unfold Rest
  iframe

variable {d i t x q tq}

theorem g_lists {R : sProp 𝕄} : iprop(Cx d i O W ∗ ((tS i).view.loc (tV d i) ↦[(tS i).view.set]{tq} t) ∗ ((g6).view.loc (tV d i) ↦[(g6).view.set]{fullShare} ts d i t)
        ∗ semVal (tV d i, .dma cc1_scoped0.sem) 0
        ∗ GA (F := F) d i g7 (V7 (F := F) d i t) 0 ∗ GA (F := F) d i g8 (V8 i) 0 ∗ R)
      ⊢ Gs d i t 0 0 iprop(Cx d i O W ∗ ((tS i).view.loc (tV d i) ↦[(tS i).view.set]{tq} t) ∗ semVal (tV d i, .dma cc1_scoped0.sem) 0 ∗ R) := by
  iintro ⟨HC, Ht, H6, Hs0, H7, H8, HR⟩
  isplitl [H6]
  · unfold GA
    iexists ts d i t
    isplitr
    · ipureintro; intro y _; rfl
    · iexact H6
  · iframe

theorem g_full {β : Type} {Q : β → sProp 𝕄} {k : Prog (TpuEff nD τ sig (Elt F) Λ₀ (tV d i).2) β} {A B : sProp 𝕄}
    (hk : ∀ f6 f7 f8, (∀ y : S64.Idx, (g7).view.read (Elt F) f7 y = V7 (F := F) d i t (y 0).val) →
        (∀ y : S64.Idx, (g8).view.read (Elt F) f8 y = V8 i (y 0).val) →
        iprop(Cx d i O W ∗ ((xAll).view.loc (tV d i) ↦[(xAll).view.set]{q} x) ∗ A
          ∗ ((g7).view.loc (tV d i) ↦[(g7).view.set]{fullShare} f7) ∗ semVal (tV d i, .dma cc1_scratch5.sem) 0
          ∗ B ∗ ((g8).view.loc (tV d i) ↦[(g8).view.set]{fullShare} f8)
          ∗ ((g6).view.loc (tV d i) ↦[(g6).view.set]{fullShare} f6) ∗ ((tS i).view.loc (tV d i) ↦[(tS i).view.set]{tq} t) ∗ semVal (tV d i, .dma cc1_scoped0.sem) 0
          ∗ ((eT i).view.loc (tV d i) ↦[(eT i).view.set]{fullShare} a) ∗ ((e0 i).view.loc (tV d i) ↦[(e0 i).view.set]{fullShare} b)
          ∗ semVal (tV d i, .dma cc1_scoped1.sem) 0 ∗ semVal (tV d i, .dma cc1_scoped2.sem) 0)
      ⊢ wp frame (wpE (defs₀ (F := F)) 𝒱₀ (tV d i) none) Set.univ k Q) :
    Gs d i t 4 4 iprop(Cx d i O W ∗ ((tS i).view.loc (tV d i) ↦[(tS i).view.set]{tq} t) ∗ semVal (tV d i, .dma cc1_scoped0.sem) 0 ∗ Rest d i x q A B a b)
      ⊢ wp frame (wpE (defs₀ (F := F)) 𝒱₀ (tV d i) none) Set.univ k Q := by
  unfold Gs GA Rest
  iintro ⟨⟨%f6, -, H6⟩, ⟨%f7, %h7, H7⟩, ⟨%f8, %h8, H8⟩, HC, Ht, Hs0, Hx, HA, HB, Hs, Ha, Hb, Hs1, Hs2⟩
  iapply (hk f6 f7 f8 (fun y => h7 y (by have : (y 0).val < 64 := (y 0).isLt; omega)) (fun y => h8 y (by have : (y 0).val < 64 := (y 0).isLt; omega)))
  iframe

omit [FloatOps F] [Named F] in
theorem mv1 (C X A G7 S B G8 R : sProp 𝕄) : iprop(C ∗ X ∗ A ∗ G7 ∗ S ∗ B ∗ G8 ∗ R) ⊢ iprop(C ∗ X ∗ B ∗ G8 ∗ S ∗ A ∗ G7 ∗ R) := by
  iintro ⟨HC, HX, HA, H7, HS, HB, H8, HR⟩; iframe

omit [FloatOps F] [Named F] in
theorem mv2 (C X B G8 S A G7 G6 T S0 Ea Eb S1 S2 : sProp 𝕄) :
    iprop(C ∗ X ∗ B ∗ G8 ∗ S ∗ A ∗ G7 ∗ G6 ∗ T ∗ S0 ∗ Ea ∗ Eb ∗ S1 ∗ S2)
      ⊢ iprop(C ∗ A ∗ Ea ∗ S1 ∗ B ∗ Eb ∗ S2 ∗ X ∗ G8 ∗ S ∗ G7 ∗ G6 ∗ T ∗ S0) := by
  iintro ⟨HC, HX, HB, H8, HS, HA, H7, H6, HT, HS0, HEa, HEb, HS1, HS2⟩; iframe

omit [FloatOps F] [Named F] in
theorem mv3 (C A Ea S1 B Eb S2 R : sProp 𝕄) :
    iprop(C ∗ A ∗ Ea ∗ S1 ∗ B ∗ Eb ∗ S2 ∗ R) ⊢ iprop(C ∗ B ∗ Eb ∗ S2 ∗ A ∗ Ea ∗ S1 ∗ R) := by
  iintro ⟨HC, HA, HEa, HS1, HB, HEb, HS2, HR⟩; iframe

theorem g_end {f6 f7 f8 f9 f10} : iprop(Cx d i O W ∗ ((g10).view.loc (tV d i) ↦[(g10).view.set]{fullShare} f10) ∗ ((e0 i).view.loc (tV d i) ↦[(e0 i).view.set]{fullShare} b)
      ∗ semVal (tV d i, .dma cc1_scoped2.sem) 0 ∗ ((g9).view.loc (tV d i) ↦[(g9).view.set]{fullShare} f9) ∗ ((eT i).view.loc (tV d i) ↦[(eT i).view.set]{fullShare} a)
      ∗ semVal (tV d i, .dma cc1_scoped1.sem) 0 ∗ ((xAll).view.loc (tV d i) ↦[(xAll).view.set]{q} x)
      ∗ ((g8).view.loc (tV d i) ↦[(g8).view.set]{fullShare} f8) ∗ semVal (tV d i, .dma cc1_scratch5.sem) 0
      ∗ ((g7).view.loc (tV d i) ↦[(g7).view.set]{fullShare} f7) ∗ ((g6).view.loc (tV d i) ↦[(g6).view.set]{fullShare} f6)
      ∗ ((tS i).view.loc (tV d i) ↦[(tS i).view.set]{tq} t) ∗ semVal (tV d i, .dma cc1_scoped0.sem) 0)
    ⊢ GSt d i t x q tq a b (O := O) (W := W) := by
  unfold GSt
  iintro ⟨HC, H10, Hb, Hs2, H9, Ha, Hs1, Hx, H8, Hs, H7, H6, Ht, Hs0⟩
  iframe
  isplitl [H6]; · iexists f6; iexact H6
  isplitl [H7]; · iexists f7; iexact H7
  isplitl [H8]; · iexists f8; iexact H8
  isplitl [H9]; · iexists f9; iexact H9
  iexists f10; iexact H10

theorem c_join {β : Type} {Q : β → sProp 𝕄} {H : sProp 𝕄} {p : Prog (TpuEff nD τ sig (Elt F) Λ₀ (tV d i).2) PUnit}
    {k : PUnit → Prog (TpuEff nD τ sig (Elt F) Λ₀ (tV d i).2) β}
    (h : H ⊢ wp frame (wpE (defs₀ (F := F)) 𝒱₀ (tV d i) none) Set.univ (p >>= fun _ => k ⟨⟩) Q) :
    H ⊢ wp frame (wpE (defs₀ (F := F)) 𝒱₀ (tV d i) none) Set.univ (p >>= fun _ => pure ⟨⟩)
      (fun a => wp frame (wpE (defs₀ (F := F)) 𝒱₀ (tV d i) none) Set.univ (k a) Q) := by
  rw [wp_bind] at h ⊢
  refine h.trans (wp_mono frame _ _ fun _ => ?_)
  rw [wp_pure]
  exact fupd_intro

set_option maxHeartbeats 0
set_option maxRecDepth 10000

variable (d i t x q tq)

theorem gather_run (hr : InRange (F := F) d i t)
    (ha : ∀ z : S64.Idx, (eT i).view.read (Elt F) a' z = flat d i x (V7 (F := F) d i t (z 0).val).toNat)
    (hb : ∀ z : S64.Idx, (e0 i).view.read (Elt F) b' z = flat d i x (V8 i (z 0).val).toNat) :
    GSt d i t x q tq a b (O := O) (W := W) ⊢ wp frame (wpE (defs₀ (F := F)) 𝒱₀ (tV d i) none) Set.univ
      (cc1__sc_gather_body i (Memref.whole main_v0_scv) (Memref.isWhole_whole _) (Memref.whole main_arg1_scv) (Memref.isWhole_whole _) (Memref.whole main_v2_0_scv) (Memref.isWhole_whole _) (Memref.whole main_v2_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scoped0 cc1_scoped1 cc1_scoped2)
      fun _ => GSt d i t x q tq a' b' (O := O) (W := W) := by
  unfold cc1__sc_gather_body
  refine g_begin a b fun f6 f9 f10 => ?_
  refine c_enter (F := F) d i ?_
  unfold k1_part1
  refine step_copy d i (ts d i t) (show 0 < (Memref.whole cc1_scratch0).view.ref.dmaCredit S64 .i32 by decide) (ts_read d i t) ?_
  refine g_lists.trans ?_
  have h8 : ∀ n, n < 64 → (V8 i n).toNat < 204800000 := fun n hn => by rw [V8_toNat i n hn]; have := base_le i; omega
  have h7 : ∀ n, n < 64 → (V7 (F := F) d i t n).toNat < 204800000 := fun n hn => by
    rw [V7_toNat d i t hr n hn]; have := base_le i; have := hr (base i + n); omega
  repeat first
    | (with_reducible refine g_load6 ?_); intro _ _
    | (with_reducible refine g_load7 ?_); intro _
    | (with_reducible refine g_load8 ?_); intro _
    | (with_reducible refine g_store8 ?_ ?_ ?_) <;> [rfl; exact fun l => val8 i _ (by decide) l; skip]
    | (with_reducible refine g_store7 ?_ ?_ ?_) <;> [rfl; exact fun l => val7 d i t _ (by decide) l _ (by rename_i h _ _ ; exact h l (by have : (l 0).val < 16 := (l 0).isLt; simp; omega)); skip]
    | with_reducible refine c_leave (F := F) d i ?_
    | (with_reducible refine c_enter (F := F) d i ?_); unfold k1_part2
  refine g_full a b fun f6 f7 f8 e7 e8 => ?_
  refine step_gather d i (xt d i t x) (by decide) (fun z => by rw [e7]; exact h7 _ (z 0).isLt) (fun z => ?_) ?_
  · rw [all_read]
    refine (show (g9).view.read (Elt F) (xt d i t x) z = flat d i x (V7 (F := F) d i t (z 0).val).toNat from rfl).trans ?_
    congr 1
    exact (congrArg BitVec.toNat (e7 z)).symm
  refine (mv1 _ _ _ _ _ _ _ _).trans ?_
  refine c_join ?_
  refine step_gather d i (x0 d i x) (by decide) (fun z => by rw [e8]; exact h8 _ (z 0).isLt) (fun z => ?_) ?_
  · rw [all_read]
    refine (show (g10).view.read (Elt F) (x0 d i x) z = flat d i x (V8 i (z 0).val).toNat from rfl).trans ?_
    congr 1
    exact (congrArg BitVec.toNat (e8 z)).symm
  refine (mv2 _ _ _ _ _ _ _ _ _ _ _ _ _ _).trans ?_
  refine step_copy d i a' (show 0 < (Memref.whole main_v2_0_scv).view.ref.dmaCredit S64 .f32 by decide) (fun z => (ha z).trans rfl) ?_
  refine (mv3 _ _ _ _ _ _ _ _).trans ?_
  refine step_copy d i b' (show 0 < (Memref.whole main_v2_1_scv).view.ref.dmaCredit S64 .f32 by decide) (fun z => (hb z).trans rfl) ?_
  refine c_leave (F := F) d i ?_
  exact g_end a' b'

end Cert.Proof.Run
-- ==== Proof.Bodies.lean ====
/-
  One tile's run of each SparseCore kernel, from what its task carries: a share of the flat array and the tile's parts of
  the other arrays. The tile's own buffers and semaphores are taken out of its scope and put back.
-/
module

public import proofs.«01_k».proof.Proof.TileRun
public import proofs.«01_k».proof.Proof.GatherRun
public import Idealize.ShloMosaic.Lib.ShareLeaves

@[expose] public section

noncomputable section

namespace Cert.Proof.Run

open Cert.KernelIdeal Cert.KernelIdeal.Gen

open Idealize.ShloMosaic
open Idealize.ShloMosaic.ShareLeaves (leaf pointsTo_leaves)
open Idealize.ShloMosaic.SparseCore (S V T)
open Idealize.ShloMosaic.SparseCore.Cfg (HIx Pay ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## Taking the members of a list out of a product -/

/-- The members of `l`, one after the other, then the rest. -/
def taken {α : Type} [DecidableEq α] (S : Finset α) (Φ : α → sProp 𝕄) : List α → sProp 𝕄
  | [] => bigSep S Φ
  | a :: l => iprop(Φ a ∗ taken (S.erase a) Φ l)

omit [FloatOps F] [Named F] in
theorem bigSep_taken {α : Type} [DecidableEq α] (Φ : α → sProp 𝕄) : ∀ (l : List α) (S : Finset α), l.Nodup → (∀ a ∈ l, a ∈ S) →
    bigSep S Φ = taken S Φ l
  | [], _, _, _ => rfl
  | a :: l, S, hn, hs => by
    rw [taken, SparseCore.bigSep_erase' (hs a List.mem_cons_self),
      bigSep_taken Φ l (S.erase a) (List.nodup_cons.mp hn).2 fun b hb =>
        Finset.mem_erase.mpr ⟨fun e => (List.nodup_cons.mp hn).1 (e ▸ hb), hs b (List.mem_cons_of_mem _ hb)⟩]

variable (d : Dev nD) (i : grid0.Coords)

/-- The tile's own buffers that the kernels use. -/
abbrev myRefs : List (Ref sig .scVector) :=
  [cc0_scratch0, cc0_scratch1, cc0_scratch2, cc0_scratch3, cc0_scratch4, cc1_scratch0, cc1_scratch1, cc1_scratch2, cc1_scratch3, cc1_scratch4]
/-- The tile's own semaphores that the kernels use. -/
abbrev mySems : List (DmaSem sig) :=
  [cc0_scratch5.sem, cc0_scratch6.sem, cc0_scratch7.sem, cc0_scoped0.sem, cc0_scoped1.sem, cc0_scoped2.sem,
    cc1_scratch5.sem, cc1_scoped0.sem, cc1_scoped1.sem, cc1_scoped2.sem]

/-- The rest of the tile's buffers. -/
abbrev moreBufs : sProp 𝕄 := bigSep ((myRefs.map (Proc.scVector (cV i) (jV i)).devRef).foldl Finset.erase (ownRefs (τ := τ) (.scVector (cV i) (jV i))))
  fun b => iprop(∃ f, ((d, b) : Loc nD τ sig) ↦{fullShare} f)
/-- The rest of its semaphores. -/
abbrev moreSems : sProp 𝕄 := bigSep ((mySems.map fun s => ((tV d i, .dma s) : GSem nD τ sig)).foldl Finset.erase (ownCells (tV d i))) fun g => semVal g 0

omit [FloatOps F] [Named F] in
theorem ownBufs_tile : (ownBufs (tV d i) : sProp 𝕄)
    = iprop((∃ f, (tV d i).loc cc0_scratch0 ↦{fullShare} f) ∗ (∃ f, (tV d i).loc cc0_scratch1 ↦{fullShare} f)
      ∗ (∃ f, (tV d i).loc cc0_scratch2 ↦{fullShare} f) ∗ (∃ f, (tV d i).loc cc0_scratch3 ↦{fullShare} f)
      ∗ (∃ f, (tV d i).loc cc0_scratch4 ↦{fullShare} f) ∗ (∃ f, (tV d i).loc cc1_scratch0 ↦{fullShare} f)
      ∗ (∃ f, (tV d i).loc cc1_scratch1 ↦{fullShare} f) ∗ (∃ f, (tV d i).loc cc1_scratch2 ↦{fullShare} f)
      ∗ (∃ f, (tV d i).loc cc1_scratch3 ↦{fullShare} f) ∗ (∃ f, (tV d i).loc cc1_scratch4 ↦{fullShare} f) ∗ moreBufs d i) := by
  unfold SparseCore.Cfg.ownBufs
  refine (bigSep_taken _ (myRefs.map (Proc.scVector (cV i) (jV i)).devRef) _ ?_ ?_).trans rfl
  · have hnd : myRefs.Nodup := by decide
    exact List.Nodup.map (Proc.devRef_injective _) hnd
  · intro b hb
    obtain ⟨r, hr, rfl⟩ := List.mem_map.mp hb
    refine SparseCore.Cfg.mem_ownRefs_of_owner (p := Proc.scVector (cV i) (jV i)) ?_
    repeat (rcases List.mem_cons.mp hr with rfl | hr; · rfl)
    exact absurd hr List.not_mem_nil

omit [FloatOps F] [Named F] in
theorem ownSems_tile : (ownSems0 (tV d i) : sProp 𝕄)
    = iprop(semVal (tV d i, .dma cc0_scratch5.sem) 0 ∗ semVal (tV d i, .dma cc0_scratch6.sem) 0 ∗ semVal (tV d i, .dma cc0_scratch7.sem) 0
      ∗ semVal (tV d i, .dma cc0_scoped0.sem) 0 ∗ semVal (tV d i, .dma cc0_scoped1.sem) 0 ∗ semVal (tV d i, .dma cc0_scoped2.sem) 0
      ∗ semVal (tV d i, .dma cc1_scratch5.sem) 0 ∗ semVal (tV d i, .dma cc1_scoped0.sem) 0 ∗ semVal (tV d i, .dma cc1_scoped1.sem) 0
      ∗ semVal (tV d i, .dma cc1_scoped2.sem) 0 ∗ moreSems d i) := by
  unfold SparseCore.Cfg.ownSems0
  refine (bigSep_taken _ (mySems.map fun s => ((tV d i, .dma s) : GSem nD τ sig)) _ ?_ ?_).trans rfl
  · refine List.Nodup.map (fun a b h => ?_) (by decide)
    have := (Prod.mk.inj h).2
    exact SemLoc.dma.inj this
  · intro g hg
    obtain ⟨s, hs, rfl⟩ := List.mem_map.mp hg
    refine mem_ownCells.mpr ⟨rfl, ?_⟩
    show (SemLoc.dma s : SemLoc sig).isScoped .scVector = true
    have h : ∀ s ∈ mySems, (SemLoc.dma s : SemLoc sig).isScoped .scVector = true := by decide
    exact h s hs

/-! ## The tile's buffers as the runs hold them -/

omit [FloatOps F] [Named F] in
theorem rows_cover (m : Memref sig .scVector .vmem S25600 .f32) (hs : m.view.set = Finset.univ) :
    (Finset.univ : Finset (Fin 8)).biUnion (fun j => m.view.setOn (band j.val)) = Finset.univ := by
  rw [← hs]; ext y
  simp only [Finset.mem_biUnion, Finset.mem_univ, true_and, View.setOn, View.set, Finset.mem_map]
  constructor
  · rintro ⟨j, z, hz, rfl⟩; exact ⟨z, rfl⟩
  · rintro ⟨z, rfl⟩
    have hz : (z 0).val < 25600 := (z 0).isLt
    exact ⟨⟨(z 0).val / 3200, by omega⟩, z, by simp only [band, Finset.mem_filter, Finset.mem_univ, true_and]; omega, rfl⟩

omit [FloatOps F] [Named F] in
theorem rows_disjoint (m : Memref sig .scVector .vmem S25600 .f32) :
    ∀ j ∈ (Finset.univ : Finset (Fin 8)), ∀ j' ∈ (Finset.univ : Finset (Fin 8)), j ≠ j' → Disjoint (m.view.setOn (band j.val)) (m.view.setOn (band j'.val)) := by
  intro j _ j' _ hne
  refine (Finset.disjoint_map _).mpr (Finset.disjoint_left.mpr fun y hy hy' => hne (Fin.ext ?_))
  simp only [band, Finset.mem_filter, Finset.mem_univ, true_and] at hy hy'
  omega

omit [FloatOps F] [Named F] in
theorem any_of (m : Memref sig .scVector .vmem S25600 .f32) (j : Fin 8) (f : Buf (Elt F) (m.view.loc (tV d i))) :
    (m.view.loc (tV d i) ↦[m.view.setOn (band j.val)]{fullShare} f : sProp 𝕄) ⊢ rowAny d i m j := by
  unfold rowAny; iintro H; iexists f; iexact H

omit [FloatOps F] [Named F] in
/-- A chunk buffer is its eight rows. -/
theorem rows_of (m : Memref sig .scVector .vmem S25600 .f32) (hs : m.view.set = Finset.univ) :
    iprop(∃ f, m.view.loc (tV d i) ↦{fullShare} f) ⊢ (bigSep Finset.univ (rowAny d i m) : sProp 𝕄) := by
  iintro ⟨%f, H⟩
  iapply (show (m.view.loc (tV d i) ↦{fullShare} f : sProp 𝕄) ⊢ bigSep Finset.univ (rowAny d i m) from ?_) $$ H
  refine (Entails.of_eq (show (m.view.loc (tV d i) ↦{fullShare} f : sProp 𝕄)
      = bigSep Finset.univ fun j : Fin 8 => m.view.loc (tV d i) ↦[m.view.setOn (band j.val)]{fullShare} f by
    rw [← pointsTo_biUnion Finset.univ (ℓ := m.view.loc (tV d i)) (fun j : Fin 8 => m.view.setOn (band j.val)) (rows_disjoint m), rows_cover m hs])).trans ?_
  exact BI.bigSep_mono fun j _ => any_of d i m j f

omit [FloatOps F] [Named F] in
theorem of_rows (m : Memref sig .scVector .vmem S25600 .f32) [Nonempty (Buf (Elt F) (m.view.loc (tV d i)))] (hs : m.view.set = Finset.univ) :
    (bigSep Finset.univ (rowAny d i m) : sProp 𝕄) ⊢ iprop(∃ f, m.view.loc (tV d i) ↦{fullShare} f) := by
  refine (bigSep_exists_pi Finset.univ (fun (j : Fin 8) (f : Buf (Elt F) (m.view.loc (tV d i))) => (m.view.loc (tV d i) ↦[m.view.setOn (band j.val)]{fullShare} f : sProp 𝕄))).trans ?_
  iintro ⟨%fs, H⟩
  ihave H := (pointsTo_biUnion_join (ℓ := m.view.loc (tV d i)) (q := fullShare) (Val := Elt F) Finset.univ (fun j : Fin 8 => m.view.setOn (band j.val)) fs (fs 0) (rows_disjoint m)) $$ H
  icases H with ⟨%g, -, H⟩
  rw [rows_cover m hs]
  iexists g; iexact H

theorem sa_of {e : EltTy} (m : Memref sig .scVector .vmem S1024 e) (hs : m.view.set = Finset.univ) (V : ℕ → S16.Idx → Elt F e) :
    iprop(∃ f, m.view.loc (tV d i) ↦{fullShare} f) ⊢ (SA d i m V 0 : sProp 𝕄) := by
  iintro ⟨%f, H⟩
  unfold SA
  iexists f
  isplitr
  · ipureintro; intro _ _ _ h; exact absurd h (Nat.not_lt_zero _)
  · rw [hs]; iexact H

theorem of_sa {e : EltTy} (m : Memref sig .scVector .vmem S1024 e) (hs : m.view.set = Finset.univ) (V : ℕ → S16.Idx → Elt F e) (n : ℕ) :
    (SA d i m V n : sProp 𝕄) ⊢ iprop(∃ f, m.view.loc (tV d i) ↦{fullShare} f) := by
  unfold SA
  iintro ⟨%f, -, H⟩
  rw [hs]
  iexists f; iexact H

/-! ## What a tile carries -/

abbrev xL (d : Dev nD) : Loc nD τ sig := (SparseCore.T d).loc main_v0
abbrev sL (d : Dev nD) : Loc nD τ sig := (SparseCore.T d).loc main_v1_0
abbrev mL (d : Dev nD) : Loc nD τ sig := (SparseCore.T d).loc main_v1_1
abbrev iL (d : Dev nD) : Loc nD τ sig := (SparseCore.T d).loc main_v1_2
abbrev tL (d : Dev nD) : Loc nD τ sig := (SparseCore.T d).loc main_arg1
abbrev eL (d : Dev nD) : Loc nD τ sig := (SparseCore.T d).loc main_v2_0
abbrev zL (d : Dev nD) : Loc nD τ sig := (SparseCore.T d).loc main_v2_1

/-- The tile's 1024 words of the lanes' results. -/
def b32 (i : grid0.Coords) : Finset S32768.Idx := Finset.univ.filter fun y => (y 0).val / 1024 = 2 * (i 1).val + (i 0).val
/-- The tile's 64 rows. -/
def b2 (i : grid0.Coords) : Finset S2048.Idx := Finset.univ.filter fun y => (y 0).val / 64 = 2 * (i 1).val + (i 0).val

theorem unit_set32 {o : Fin 1 → ℕ} {h} (ho : o 0 = 2048 * (i 1).val + 1024 * (i 0).val) :
    (Rect.unit (s := S32768) o S1024.size h).set = b32 i := by
  ext y
  rw [Rect.mem_set_unit]
  simp only [b32, Finset.mem_filter, Finset.mem_univ, _root_.true_and]
  constructor
  · intro hy
    have h1 := (hy 0).1; have h2 : (y 0).val < o 0 + 1024 := (hy 0).2
    omega
  · intro hy a
    match a with
    | 0 => exact ⟨by omega, show (y 0).val < o 0 + 1024 by omega⟩

theorem unit_set2 {o : Fin 1 → ℕ} {h} (ho : o 0 = 128 * (i 1).val + 64 * (i 0).val) :
    (Rect.unit (s := S2048) o S64.size h).set = b2 i := by
  ext y
  rw [Rect.mem_set_unit]
  simp only [b2, Finset.mem_filter, Finset.mem_univ, _root_.true_and]
  constructor
  · intro hy
    have h1 := (hy 0).1; have h2 : (y 0).val < o 0 + 64 := (hy 0).2
    omega
  · intro hy a
    match a with
    | 0 => exact ⟨by omega, show (y 0).val < o 0 + 64 by omega⟩

theorem dS_set : (dS i).view.set = b32 i := by
  show ((View.whole main_v1_0_scv).slice (Rect.unit (s := S32768) (k0_off38 i) S1024.size (k0_off38_inb i))).set = _
  rw [View.set_slice_whole]; exact unit_set32 i (by rw [k0_off38_eq]; rfl)
theorem dM_set : (dM i).view.set = b32 i := by
  show ((View.whole main_v1_1_scv).slice (Rect.unit (s := S32768) (k0_off38 i) S1024.size (k0_off38_inb i))).set = _
  rw [View.set_slice_whole]; exact unit_set32 i (by rw [k0_off38_eq]; rfl)
theorem dI_set : (dI i).view.set = b32 i := by
  show ((View.whole main_v1_2_scv).slice (Rect.unit (s := S32768) (k0_off38 i) S1024.size (k0_off38_inb i))).set = _
  rw [View.set_slice_whole]; exact unit_set32 i (by rw [k0_off38_eq]; rfl)
theorem tS_set : (tS i).view.set = b2 i := by
  show ((View.whole main_arg1_scv).slice (Rect.unit (s := S2048) (k1_off1 i) S64.size (k1_off1_inb i))).set = _
  rw [View.set_slice_whole]; exact unit_set2 i (by rw [k1_off1_eq]; rfl)
theorem eT_set : (eT i).view.set = b2 i := by
  show ((View.whole main_v2_0_scv).slice (Rect.unit (s := S2048) (k1_off1 i) S64.size (k1_off1_inb i))).set = _
  rw [View.set_slice_whole]; exact unit_set2 i (by rw [k1_off1_eq]; rfl)
theorem e0_set : (e0 i).view.set = b2 i := by
  show ((View.whole main_v2_1_scv).slice (Rect.unit (s := S2048) (k1_off1 i) S64.size (k1_off1_inb i))).set = _
  rw [View.set_slice_whole]; exact unit_set2 i (by rw [k1_off1_eq]; rfl)

/-- Of the first call: a share of the flat array, the tile's parts of the three arrays of the lanes' results. -/
def G0 (x : Buf (Elt F) (xL d)) (q : PosShare TreeShare) (f₀ : Buf (Elt F) (sL d)) (f₁ : Buf (Elt F) (mL d)) (f₂ : Buf (Elt F) (iL d)) : sProp 𝕄 :=
  iprop((xL d ↦{q} x) ∗ (sL d ↦[b32 i]{fullShare} f₀) ∗ (mL d ↦[b32 i]{fullShare} f₁) ∗ (iL d ↦[b32 i]{fullShare} f₂))

/-- Of the second call: a share of the flat array, the tile's rows of the targets and of the two arrays it fills. -/
def G1 (x : Buf (Elt F) (xL d)) (q : PosShare TreeShare) (t : Buf (Elt F) (tL d)) (f₀ : Buf (Elt F) (eL d)) (f₁ : Buf (Elt F) (zL d)) : sProp 𝕄 :=
  iprop((xL d ↦{q} x) ∗ (tL d ↦[b2 i]{fullShare} t) ∗ (eL d ↦[b2 i]{fullShare} f₀) ∗ (zL d ↦[b2 i]{fullShare} f₁))

instance G0_storable (x : Buf (Elt F) (xL d)) (q f₀ f₁ f₂) : BI.Storable (upEmb : UEmb _ 𝕄) (G0 d i x q f₀ f₁ f₂) := by unfold G0; infer_instance
instance G1_storable (x : Buf (Elt F) (xL d)) (q t f₀ f₁) : BI.Storable (upEmb : UEmb _ 𝕄) (G1 d i x q t f₀ f₁) := by unfold G1; infer_instance

/-- The evidence for the tile's waits, and its tallies. -/
theorem cx_of (O : CellTallies nD τ sig (HIx 2)) (W : Waits sig (HIx 2)) (hO : ∀ g, O g none = 0) :
    iprop(levAts (K (F := F)).L (K (F := F)).lev ∗ owes (tV d i) O W) ⊢ (Cx d i O W : sProp 𝕄) := by
  unfold Cx Own
  iintro ⟨#Hlv, HO⟩
  ihave Hmw := (show levAts (K (F := F)).L (K (F := F)).lev ⊢ Transfers.MayWaits (tV d i) (none : HIx 2) O from
    (K (F := F)).mayWaits_none (thr := tV d i) hO) $$ Hlv
  isplitl [Hmw]; · iexact Hmw
  iexists W
  isplitr; · ipureintro; exact fun p hp => .inl hp
  iexact HO

theorem of_cx (O : CellTallies nD τ sig (HIx 2)) (W : Waits sig (HIx 2)) :
    (Cx d i O W : sProp 𝕄) ⊢ iprop(∃ W', ⌜∀ p ∈ W', p ∈ W ∨ p.2 = none⌝ ∗ owes (tV d i) O W') := by
  unfold Cx Own
  iintro ⟨-, H⟩
  iexact H

theorem shares_of (x : Buf (Elt F) (xL d)) (q : PosShare TreeShare) :
    (xL d ↦{q} x : sProp 𝕄) = bigSep Finset.univ (shr d i x (leaf 3 q)) :=
  pointsTo_leaves (ℓ := xL d) Finset.univ x 3 q

theorem three (Φ : Fin 3 → sProp 𝕄) : bigSep Finset.univ Φ = iprop(Φ 0 ∗ Φ 1 ∗ Φ 2) :=
  bigSep_eq_bigSepL_of_eq (S := Finset.univ) ([0, 1, 2] : List (Fin 3)) (by decide) (by decide) Φ

variable (x : Buf (Elt F) (xL d)) (q : PosShare TreeShare)
variable (O : CellTallies nD τ sig (HIx 2)) (W : Waits sig (HIx 2))

instance : Nonempty (Buf (Elt F) ((bufA).view.loc (tV d i))) := ⟨fun _ => (Scalar.ofBits .f32 0#32 : F .f32)⟩
instance : Nonempty (Buf (Elt F) ((bufB).view.loc (tV d i))) := ⟨fun _ => (Scalar.ofBits .f32 0#32 : F .f32)⟩

set_option maxHeartbeats 0 in
/-- One tile of the first kernel. -/
theorem tile_body0 (hF : (K (F := F)).Facts) (f₀ s₀ : Buf (Elt F) (sL d)) (f₁ s₁ : Buf (Elt F) (mL d)) (f₂ s₂ : Buf (Elt F) (iL d))
    (hout : OutOK d i x s₀ s₁ s₂) (hO : ∀ g, O g none = 0) :
    iprop(levAts (K (F := F)).L (K (F := F)).lev ∗ emp ∗ G0 d i x q f₀ f₁ f₂ ∗ scopedBufs (tV d i) ∗ scopedSems0 (tV d i) ∗ owes (tV d i) O W)
      ⊢ wp frame (wpE (defs₀ (F := F)) 𝒱₀ (tV d i) none) Set.univ
      (cc0__sc_main_body i (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scoped0 cc0_scoped1 cc0_scoped2)
      fun _ => iprop(G0 d i x q s₀ s₁ s₂ ∗ scopedBufs (tV d i) ∗ scopedSems0 (tV d i) ∗ ∃ W', ⌜∀ p ∈ W', p ∈ W ∨ p.2 = none⌝ ∗ owes (tV d i) O W') := by
  rw [(K (F := F)).scopedBufs_V hF d (cV i) (jV i), SparseCore.Cfg.scopedSems0_V (Val := Elt F) d (cV i) (jV i), ownSems_tile, ownBufs_tile]
  unfold G0
  rw [shares_of d i x q]
  iintro ⟨Hlv, -, ⟨Hx, H0, H1, H2⟩, ⟨HbA, HbB, HbS, HbM, HbI, Hc0, Hc1, Hc2, Hc3, Hc4, Hbufs⟩, ⟨Hs5, Hs6, Hs7, Hd0, Hd1, Hd2, Ht5, Hu0, Hu1, Hu2, Hsems⟩, HO⟩
  ihave HC := (cx_of d i O W hO) $$ [Hlv HO]
  · isplitl [Hlv] <;> iassumption
  ihave HA := (rows_of d i bufA (View.set_whole _)) $$ HbA
  ihave HB := (rows_of d i bufB (View.set_whole _)) $$ HbB
  ihave HS := (sa_of d i stS (View.set_whole _) (vS d i x)) $$ HbS
  ihave HM := (sa_of d i stM (View.set_whole _) (vM d i x)) $$ HbM
  ihave HI := (sa_of d i stI (View.set_whole _) (vA (F := F) d i x)) $$ HbI
  ihave H := (show iprop((bigSep Finset.univ (rowAny d i bufA) ∗ bigSep Finset.univ (rowAny d i bufB) ∗ bigSep Finset.univ (shr d i x (leaf 3 q))
        ∗ (semVal (tV d i, .dma cc0_scratch5.sem) 0 ∗ semVal (tV d i, .dma cc0_scratch6.sem) 0 ∗ semVal (tV d i, .dma cc0_scratch7.sem) 0) ∗ Cx d i O W)
      ∗ (SA d i stS (vS d i x) 0 ∗ SA d i stM (vM d i x) 0 ∗ SA (F := F) d i stI (vA d i x) 0)
      ∗ (sL d ↦[b32 i]{fullShare} f₀) ∗ (mL d ↦[b32 i]{fullShare} f₁) ∗ (iL d ↦[b32 i]{fullShare} f₂)
      ∗ semVal (tV d i, .dma cc0_scoped0.sem) 0 ∗ semVal (tV d i, .dma cc0_scoped1.sem) 0 ∗ semVal (tV d i, .dma cc0_scoped2.sem) 0)
      ⊢ (iprop(Beg d i x (leaf 3 q) O W ∗ Stg d i x 0 0 0 0 ∗ Out d i f₀ f₁ f₂) : sProp 𝕄) from by
    unfold Beg Stg Out
    rw [three, dS_set, dM_set, dI_set]) $$ [HA HB Hx Hs5 Hs6 Hs7 HC HS HM HI H0 H1 H2 Hd0 Hd1 Hd2]
  · iframe
  ihave H := (main_run d i x (leaf 3 q) f₀ s₀ f₁ s₁ f₂ s₂ hout) $$ H
  iapply (wp_wand_r frame _)
  isplitl [H]; · iexact H
  iintro %_ H
  ihave H := (show (iprop(Beg d i x (leaf 3 q) O W ∗ Stg d i x 8 0 0 0 ∗ Out d i s₀ s₁ s₂) : sProp 𝕄)
    ⊢ iprop((bigSep Finset.univ (rowAny d i bufA) ∗ bigSep Finset.univ (rowAny d i bufB) ∗ bigSep Finset.univ (shr d i x (leaf 3 q))
        ∗ (semVal (tV d i, .dma cc0_scratch5.sem) 0 ∗ semVal (tV d i, .dma cc0_scratch6.sem) 0 ∗ semVal (tV d i, .dma cc0_scratch7.sem) 0) ∗ Cx d i O W)
      ∗ (SA d i stS (vS d i x) 64 ∗ SA d i stM (vM d i x) 64 ∗ SA (F := F) d i stI (vA d i x) 64)
      ∗ (sL d ↦[b32 i]{fullShare} s₀) ∗ (mL d ↦[b32 i]{fullShare} s₁) ∗ (iL d ↦[b32 i]{fullShare} s₂)
      ∗ semVal (tV d i, .dma cc0_scoped0.sem) 0 ∗ semVal (tV d i, .dma cc0_scoped1.sem) 0 ∗ semVal (tV d i, .dma cc0_scoped2.sem) 0) from by
    unfold Beg Stg Out
    rw [three, dS_set, dM_set, dI_set]) $$ H
  icases H with ⟨⟨HA, HB, Hx, ⟨Hs5, Hs6, Hs7⟩, HC⟩, ⟨HS, HM, HI⟩, H0, H1, H2, Hd0, Hd1, Hd2⟩
  ihave HA := (of_rows d i bufA (View.set_whole _)) $$ HA
  ihave HB := (of_rows d i bufB (View.set_whole _)) $$ HB
  ihave HS := (of_sa d i stS (View.set_whole _) (vS d i x) 64) $$ HS
  ihave HM := (of_sa d i stM (View.set_whole _) (vM d i x) 64) $$ HM
  ihave HI := (of_sa d i stI (View.set_whole _) (vA (F := F) d i x) 64) $$ HI
  ihave HC := (of_cx d i O W) $$ HC
  isplitl [Hx H0 H1 H2]; · iframe
  isplitl [HA HB HS HM HI Hc0 Hc1 Hc2 Hc3 Hc4 Hbufs]
  · isplitl [HA]; · iexact HA
    isplitl [HB]; · iexact HB
    isplitl [HS]; · iexact HS
    isplitl [HM]; · iexact HM
    isplitl [HI]; · iexact HI
    iframe
  isplitl [Hs5 Hs6 Hs7 Hd0 Hd1 Hd2 Ht5 Hu0 Hu1 Hu2 Hsems]; · iframe
  iexact HC

/-- A scratch buffer of the second kernel, whole, and as its run holds it. -/
theorem anyT_eq {e : EltTy} (m : Memref sig .scVector .vmem S64 e) (hs : m.view.set = Finset.univ) :
    (anyT d i m : sProp 𝕄) = iprop(∃ f, m.view.loc (tV d i) ↦{fullShare} f) := by
  unfold anyT; rw [hs]

theorem xAll_set : (xAll).view.set = Finset.univ := by
  show ((View.whole main_v0_scv).slice (Rect.unit (s := S204800000) ![0] S204800000.size inb_S204800000_S204800000_0)).set = _
  rw [View.set_slice_whole]
  exact Rect.set_eq_univ_of_whole _ fun a => match a with | 0 => ⟨rfl, rfl, rfl⟩

set_option maxHeartbeats 0 in
/-- One tile of the second kernel. -/
theorem tile_body1 (hF : (K (F := F)).Facts) (t : Buf (Elt F) (tL d)) (a a' : Buf (Elt F) (eL d)) (b b' : Buf (Elt F) (zL d))
    (hr : InRange (F := F) d i t)
    (ha : ∀ z : S64.Idx, (eT i).view.read (Elt F) a' z = flat d i x (V7 (F := F) d i t (z 0).val).toNat)
    (hb : ∀ z : S64.Idx, (e0 i).view.read (Elt F) b' z = flat d i x (V8 i (z 0).val).toNat) (hO : ∀ g, O g none = 0) :
    iprop(levAts (K (F := F)).L (K (F := F)).lev ∗ emp ∗ G1 d i x q t a b ∗ scopedBufs (tV d i) ∗ scopedSems0 (tV d i) ∗ owes (tV d i) O W)
      ⊢ wp frame (wpE (defs₀ (F := F)) 𝒱₀ (tV d i) none) Set.univ
      (cc1__sc_gather_body i (Memref.whole main_v0_scv) (Memref.isWhole_whole _) (Memref.whole main_arg1_scv) (Memref.isWhole_whole _) (Memref.whole main_v2_0_scv) (Memref.isWhole_whole _) (Memref.whole main_v2_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scoped0 cc1_scoped1 cc1_scoped2)
      fun _ => iprop(G1 d i x q t a' b' ∗ scopedBufs (tV d i) ∗ scopedSems0 (tV d i) ∗ ∃ W', ⌜∀ p ∈ W', p ∈ W ∨ p.2 = none⌝ ∗ owes (tV d i) O W') := by
  rw [(K (F := F)).scopedBufs_V hF d (cV i) (jV i), SparseCore.Cfg.scopedSems0_V (Val := Elt F) d (cV i) (jV i), ownSems_tile, ownBufs_tile]
  unfold G1
  have hG (a : Buf (Elt F) (eL d)) (b : Buf (Elt F) (zL d)) : (GSt d i t x q fullShare a b (O := O) (W := W) : sProp 𝕄)
      = iprop(Cx d i O W ∗ (tL d ↦[b2 i]{fullShare} t) ∗ (xL d ↦{q} x)
        ∗ ((∃ f, (tV d i).loc cc1_scratch0 ↦{fullShare} f) ∗ (∃ f, (tV d i).loc cc1_scratch1 ↦{fullShare} f)
          ∗ (∃ f, (tV d i).loc cc1_scratch2 ↦{fullShare} f) ∗ (∃ f, (tV d i).loc cc1_scratch3 ↦{fullShare} f) ∗ (∃ f, (tV d i).loc cc1_scratch4 ↦{fullShare} f))
        ∗ semVal (tV d i, .dma cc1_scratch5.sem) 0 ∗ semVal (tV d i, .dma cc1_scoped0.sem) 0
        ∗ semVal (tV d i, .dma cc1_scoped1.sem) 0 ∗ semVal (tV d i, .dma cc1_scoped2.sem) 0
        ∗ (eL d ↦[b2 i]{fullShare} a) ∗ (zL d ↦[b2 i]{fullShare} b)) := by
    unfold GSt
    rw [tS_set, xAll_set, eT_set, e0_set, anyT_eq d i g6 (View.set_whole _), anyT_eq d i g7 (View.set_whole _), anyT_eq d i g8 (View.set_whole _), anyT_eq d i g9 (View.set_whole _), anyT_eq d i g10 (View.set_whole _)]
  iintro ⟨Hlv, -, ⟨Hx, H0, H1, H2⟩, ⟨HbA, HbB, HbS, HbM, HbI, Hc0, Hc1, Hc2, Hc3, Hc4, Hbufs⟩, ⟨Hs5, Hs6, Hs7, Hd0, Hd1, Hd2, Ht5, Hu0, Hu1, Hu2, Hsems⟩, HO⟩
  ihave HC := (cx_of d i O W hO) $$ [Hlv HO]
  · isplitl [Hlv] <;> iassumption
  ihave H := (Entails.of_eq (hG a b).symm) $$ [HC H0 Hx Hc0 Hc1 Hc2 Hc3 Hc4 Ht5 Hu0 Hu1 Hu2 H1 H2]
  · iframe
  ihave H := (gather_run d i t x q fullShare a a' b b' hr ha hb) $$ H
  iapply (wp_wand_r frame _)
  isplitl [H]; · iexact H
  iintro %_ H
  ihave H := (Entails.of_eq (hG a' b')) $$ H
  icases H with ⟨HC, H0, Hx, ⟨Hc0, Hc1, Hc2, Hc3, Hc4⟩, Ht5, Hu0, Hu1, Hu2, H1, H2⟩
  ihave HC := (of_cx d i O W) $$ HC
  isplitl [Hx H0 H1 H2]; · iframe
  isplitl [HbA HbB HbS HbM HbI Hc0 Hc1 Hc2 Hc3 Hc4 Hbufs]; · iframe
  isplitl [Hs5 Hs6 Hs7 Hd0 Hd1 Hd2 Ht5 Hu0 Hu1 Hu2 Hsems]; · iframe
  iexact HC

end Cert.Proof.Run

end
-- ==== Proof.Values.lean ====
/-
  What the two SparseCore calls leave in their arrays, by position.
-/
module

public import proofs.«01_k».proof.Proof.Bodies
public import Idealize.ShloMosaic.Lib.Pipeline.Value

@[expose] public section

noncomputable section

namespace Cert.Proof.Run

open Cert.KernelIdeal Cert.KernelIdeal.Gen

open Idealize.ShloMosaic
open Idealize.ShloMosaic.SparseCore (S V T)

variable {F : FTy → Type} [FloatOps F] [Named F]

/-- The tile with SparseCore `c`'s number and subcore `s`'s. -/
def coordsV (c : Fin 2) (s : Fin 16) : grid0.Coords :=
  fun | 0 => c | 1 => s | ⟨_ + 2, h⟩ => absurd h (Nat.not_lt.2 (Nat.le_add_left _ _))

/-- A lane. -/
def lane (n : ℕ) : S16.Idx := fun a => ⟨n % 16, by match a with | 0 => exact Nat.mod_lt _ (by decide)⟩

variable (d : Dev nD) (x : Buf (Elt F) (xL d))

/-- The lanes' sums, maxima and positions of every row, sixteen words a row. -/
def oS : Buf (Elt F) (sL d) := fun (y : S32768.Idx) => fS d (coordsV 0 0) x (100000 * ((y 0).val / 16)) 6250 (lane (y 0).val)
def oM : Buf (Elt F) (mL d) := fun (y : S32768.Idx) => fM d (coordsV 0 0) x (100000 * ((y 0).val / 16)) 6250 (lane (y 0).val)
def oI : Buf (Elt F) (iL d) := fun (y : S32768.Idx) => fA d (coordsV 0 0) x (100000 * ((y 0).val / 16)) 6250 (lane (y 0).val)

/-- Every row's value at its target, and at column zero. -/
def oE (t : Buf (Elt F) (tL d)) : Buf (Elt F) (eL d) := fun (y : S2048.Idx) => flat d (coordsV 0 0) x (100000 * (y 0).val + BitVec.toNat (w := 32) (t y))
def oZ : Buf (Elt F) (zL d) := fun (y : S2048.Idx) => flat d (coordsV 0 0) x (100000 * (y 0).val)

variable (i j : grid0.Coords)

theorem flat_any (o : ℕ) : flat d i x o = flat d j x o := rfl
theorem vec_any (o : ℕ) : vec d i x o = vec d j x o := rfl

theorem fS_any (o : ℕ) : ∀ n, fS d i x o n = fS d j x o n
  | 0 => rfl
  | n + 1 => by rw [fS, fS, fS_any o n, vec_any d x i j]
theorem fM_any (o : ℕ) : ∀ n, fM d i x o n = fM d j x o n
  | 0 => rfl
  | n + 1 => by rw [fM, fM, fM_any o n, vec_any d x i j]
theorem fA_any (o : ℕ) : ∀ n, fA d i x o n = fA d j x o n
  | 0 => rfl
  | n + 1 => by rw [fA, fA, fA_any o n, fM_any d x i j o n, vec_any d x i j]

theorem dS_read (f : Buf (Elt F) (sL d)) (z : S1024.Idx) : (dS i).view.read (Elt F) f z = f ((dS i).view.emb z) := (View.read_apply _ _).trans (cast_eq _ _)
theorem dM_read (f : Buf (Elt F) (mL d)) (z : S1024.Idx) : (dM i).view.read (Elt F) f z = f ((dM i).view.emb z) := (View.read_apply _ _).trans (cast_eq _ _)
theorem dI_read (f : Buf (Elt F) (iL d)) (z : S1024.Idx) : (dI i).view.read (Elt F) f z = f ((dI i).view.emb z) := (View.read_apply _ _).trans (cast_eq _ _)
theorem eT_read (f : Buf (Elt F) (eL d)) (z : S64.Idx) : (eT i).view.read (Elt F) f z = f ((eT i).view.emb z) := (View.read_apply _ _).trans (cast_eq _ _)
theorem e0_read (f : Buf (Elt F) (zL d)) (z : S64.Idx) : (e0 i).view.read (Elt F) f z = f ((e0 i).view.emb z) := (View.read_apply _ _).trans (cast_eq _ _)

theorem emb32 (z : S1024.Idx) : (((dS i).view.emb z : S32768.Idx) 0).val = 2048 * (i 1).val + 1024 * (i 0).val + (z 0).val := by
  show ((Rect.unit (s := S32768) (k0_off38 i) S1024.size (k0_off38_inb i)).emb z 0).val = _
  rw [Rect.emb_apply]
  show k0_off38 i 0 + 1 * (z 0).val = _
  rw [k0_off38_eq]
  show 2048 * (i 1).val + 1024 * (i 0).val + 1 * (z 0).val = _
  omega
theorem emb2 (z : S64.Idx) : (((eT i).view.emb z : S2048.Idx) 0).val = base i + (z 0).val := by
  show ((Rect.unit (s := S2048) (k1_off1 i) S64.size (k1_off1_inb i)).emb z 0).val = _
  rw [Rect.emb_apply]
  show k1_off1 i 0 + 1 * (z 0).val = _
  rw [k1_off1_eq]
  show 128 * (i 1).val + 64 * (i 0).val + 1 * (z 0).val = _
  unfold base; omega

theorem place (y : S32768.Idx) (l : S16.Idx) (ρ : ℕ) (h : (y 0).val = 2048 * (i 1).val + 1024 * (i 0).val + (16 * ρ + (l 0).val)) :
    100000 * ((y 0).val / 16) = row i ρ ∧ lane (y 0).val = l := by
  have hl : (l 0).val < 16 := (l 0).isLt
  constructor
  · unfold row; omega
  · funext a
    match a with
    | 0 => exact Fin.ext (show (y 0).val % 16 = (l 0).val by omega)

theorem out_ok : OutOK d i x (oS d x) (oM d x) (oI d x) where
  s z l ρ hρ hz := by
    obtain ⟨h1, h2⟩ := place i ((dS i).view.emb z) l ρ (by rw [emb32, hz])
    rw [dS_read]; unfold oS vS
    rw [shapeCast_self, h1, h2, fS_any d x (coordsV 0 0) i]
  m z l ρ hρ hz := by
    obtain ⟨h1, h2⟩ := place i ((dS i).view.emb z) l ρ (by rw [emb32, hz])
    rw [dM_read, show (dM i).view.emb z = (dS i).view.emb z from rfl]; unfold oM vM
    rw [shapeCast_self, h1, h2, fM_any d x (coordsV 0 0) i]
  i z l ρ hρ hz := by
    obtain ⟨h1, h2⟩ := place i ((dS i).view.emb z) l ρ (by rw [emb32, hz])
    rw [dI_read, show (dI i).view.emb z = (dS i).view.emb z from rfl]; unfold oI vA
    rw [shapeCast_self, h1, h2, fA_any d x (coordsV 0 0) i]

variable (t : Buf (Elt F) (tL d))

/-- The targets are columns. -/
def Targets : Prop := ∀ y : S2048.Idx, BitVec.toNat (w := 32) (t y) < 100000

theorem tg_eq (n : ℕ) (y : S2048.Idx) (h : (y 0).val = n) : tg (F := F) d i t n = t y := by
  subst h
  unfold tg
  rw [dif_pos (show (y 0).val < 2048 from (y 0).isLt)]
  refine ((View.read_apply _ _).trans (cast_eq _ _)).trans ?_
  congr 1
  funext a
  match a with
  | 0 => rfl

theorem in_range (ht : Targets d t) : InRange (F := F) d i t := by
  intro n
  by_cases h : n < 2048
  · rw [tg_eq d i t n (fun a => ⟨n, by match a with | 0 => exact h⟩) rfl]; exact ht _
  · unfold tg; rw [dif_neg h]; decide

theorem gather_e (ht : Targets d t) (z : S64.Idx) : (eT i).view.read (Elt F) (oE d x t) z = flat d i x (V7 (F := F) d i t (z 0).val).toNat := by
  rw [eT_read, V7_toNat d i t (in_range d i t ht) _ (z 0).isLt, tg_eq d i t _ ((eT i).view.emb z) (emb2 i z)]
  unfold oE
  rw [emb2, flat_any d x (coordsV 0 0) i]

theorem gather_z (z : S64.Idx) : (e0 i).view.read (Elt F) (oZ d x) z = flat d i x (V8 i (z 0).val).toNat := by
  rw [e0_read, V8_toNat i _ (z 0).isLt, show (e0 i).view.emb z = (eT i).view.emb z from rfl]
  unfold oZ
  rw [emb2, flat_any d x (coordsV 0 0) i]

end Cert.Proof.Run

end
-- ==== Proof.Launch.lean ====
/-
  What the two SparseCore calls carry: to each SparseCore its tiles' parts, to each tile its own. Every tile's obligation,
  and the split of whole arrays into the tiles' parts.
-/
module

public import proofs.«01_k».proof.Proof.Values

@[expose] public section

noncomputable section

namespace Cert.Proof.Run

open Cert.KernelIdeal Cert.KernelIdeal.Gen

open Idealize.ShloMosaic
open Idealize.ShloMosaic.ShareLeaves (leaf pointsTo_leaves)
open Idealize.ShloMosaic.SparseCore (S V T)
open Idealize.ShloMosaic.SparseCore.Cfg (HIx Pay ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-- The tiles, numbered. -/
def tileNo : Fin 2 × Fin 16 ≃ Fin (2 ^ 5) := (finProdFinEquiv (m := 2) (n := 16)).trans (finCongr (by decide))
/-- The share of the flat array tile `(c, s)` reads through. -/
def xs (c : Fin 2) (s : Fin 16) : PosShare TreeShare := leaf 5 fullShare (tileNo (c, s))

variable (m : (ℓ : Loc nD τ sig) → Buf (Elt F) ℓ) (X : (d : Dev nD) → Buf (Elt F) (xL d))

/-- A tile's part at the first call's start and end, -/
abbrev A0 (d : Dev nD) (c : Fin 2) (s : Fin 16) : sProp 𝕄 := G0 d (coordsV c s) (X d) (xs c s) (m (sL d)) (m (mL d)) (m (iL d))
abbrev Z0 (d : Dev nD) (c : Fin 2) (s : Fin 16) : sProp 𝕄 := G0 d (coordsV c s) (X d) (xs c s) (oS d (X d)) (oM d (X d)) (oI d (X d))
/-- and at the second's. -/
abbrev A1 (d : Dev nD) (c : Fin 2) (s : Fin 16) : sProp 𝕄 := G1 d (coordsV c s) (X d) (xs c s) (m (tL d)) (m (eL d)) (m (zL d))
abbrev Z1 (d : Dev nD) (c : Fin 2) (s : Fin 16) : sProp 𝕄 := G1 d (coordsV c s) (X d) (xs c s) (m (tL d)) (oE d (X d) (m (tL d))) (oZ d (X d))

/-- What the handshakes of the two calls carry. -/
def P : (K (F := F)).Pay (nD := nD) (Val := Elt F) (Name := ℕ) (U := UU) where
  st := fun q d c => match q with
    | 0 => bigSep Finset.univ fun s : Fin ((K (F := F)).nSub 0) => A0 m X d c s
    | 1 => bigSep Finset.univ fun s : Fin ((K (F := F)).nSub 1) => A1 m X d c s
  dn := fun q d c => match q with
    | 0 => bigSep Finset.univ fun s : Fin ((K (F := F)).nSub 0) => Z0 X d c s
    | 1 => bigSep Finset.univ fun s : Fin ((K (F := F)).nSub 1) => Z1 m X d c s
  go := fun q d c s => match q with | 0 => A0 m X d c s | 1 => A1 m X d c s
  td := fun q d c s => match q with | 0 => Z0 X d c s | 1 => Z1 m X d c s
  x := fun _ _ => iprop(emp)

instance P_storable : (P (F := F) m X).IsStorable where
  st q d c := match q with
    | 0 => (inferInstance : BI.Storable (upEmb : UEmb _ 𝕄) (bigSep Finset.univ fun s : Fin ((K (F := F)).nSub 0) => A0 m X d c s))
    | 1 => (inferInstance : BI.Storable (upEmb : UEmb _ 𝕄) (bigSep Finset.univ fun s : Fin ((K (F := F)).nSub 1) => A1 m X d c s))
  dn q d c := match q with
    | 0 => (inferInstance : BI.Storable (upEmb : UEmb _ 𝕄) (bigSep Finset.univ fun s : Fin ((K (F := F)).nSub 0) => Z0 X d c s))
    | 1 => (inferInstance : BI.Storable (upEmb : UEmb _ 𝕄) (bigSep Finset.univ fun s : Fin ((K (F := F)).nSub 1) => Z1 m X d c s))
  go q d c s := match q with
    | 0 => (inferInstance : BI.Storable (upEmb : UEmb _ 𝕄) (A0 m X d c s))
    | 1 => (inferInstance : BI.Storable (upEmb : UEmb _ 𝕄) (A1 m X d c s))
  td q d c s := match q with
    | 0 => (inferInstance : BI.Storable (upEmb : UEmb _ 𝕄) (Z0 X d c s))
    | 1 => (inferInstance : BI.Storable (upEmb : UEmb _ 𝕄) (Z1 m X d c s))

/-! ## The tiles' obligations -/

theorem defs₀_vector0 (c : Fin τ.nSC) (s : Fin τ.nSub) :
    defs₀ (F := F) (.scVector c s) 0 ()
      = SparseCore.onTile hcore0 hsub0 (fun c s => cc0__sc_main_body (coordsV c s) (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scoped0 cc0_scoped1 cc0_scoped2) ⟨⟩ c s := rfl

theorem defs₀_vector1 (c : Fin τ.nSC) (s : Fin τ.nSub) :
    defs₀ (F := F) (.scVector c s) 1 ()
      = SparseCore.onTile hcore1 hsub1 (fun c s => cc1__sc_gather_body (coordsV c s) (Memref.whole main_v0_scv) (Memref.isWhole_whole _) (Memref.whole main_arg1_scv) (Memref.isWhole_whole _) (Memref.whole main_v2_0_scv) (Memref.isWhole_whole _) (Memref.whole main_v2_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scoped0 cc1_scoped1 cc1_scoped2) ⟨⟩ c s := rfl

omit [FloatOps F] [Named F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 : (K (F := F)).TileObl (D (F := F)) 𝒱 (P m X) v₀ 0 := by
  intro d c i O W hO _ _
  simp only [show (P m X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) (X d) _ O W facts _ _ _ _ _ _ (out_ok d (X d) _) hO).trans (wp_mono frame _ _ fun _ => obl_post)

set_option maxRecDepth 16384 in
theorem tileObl1 (ht : ∀ d, Targets d (m (tL d))) : (K (F := F)).TileObl (D (F := F)) 𝒱 (P m X) v₀ 1 := by
  intro d c i O W hO _ _
  simp only [show (P m X).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body1 d (coordsV ⟨_, hci.1⟩ ⟨_, hci.2⟩) (X d) _ O W facts _ _ _ _ _ (in_range d _ _ (ht d))
    (gather_e d (X d) _ _ (ht d)) (gather_z d (X d) _) hO).trans (wp_mono frame _ _ fun _ => obl_post)

theorem vecSplit0 : (K (F := F)).VecSplit' (P m X) 0 := by
  intro d c
  show (bigSep Finset.univ fun s : Fin ((K (F := F)).nSub 0) => A0 m X d c s) ⊢ |={Set.univ}=> iprop(
      (bigSep Finset.univ fun s : Fin ((K (F := F)).nSub 0) => A0 m X d c s)
      ∗ ((bigSep Finset.univ fun s : Fin ((K (F := F)).nSub 0) => Z0 X d c s) -∗ bigSep Finset.univ fun s : Fin ((K (F := F)).nSub 0) => Z0 X d c s))
  iintro H; imodintro
  isplitl [H]; · iexact H
  iintro H; iexact H

theorem vecSplit1 : (K (F := F)).VecSplit' (P m X) 1 := by
  intro d c
  show (bigSep Finset.univ fun s : Fin ((K (F := F)).nSub 1) => A1 m X d c s) ⊢ |={Set.univ}=> iprop(
      (bigSep Finset.univ fun s : Fin ((K (F := F)).nSub 1) => A1 m X d c s)
      ∗ ((bigSep Finset.univ fun s : Fin ((K (F := F)).nSub 1) => Z1 m X d c s) -∗ bigSep Finset.univ fun s : Fin ((K (F := F)).nSub 1) => Z1 m X d c s))
  iintro H; imodintro
  isplitl [H]; · iexact H
  iintro H; iexact H

/-! ## Whole arrays and the tiles' parts -/

omit [FloatOps F] [Named F] in
theorem tiles (Φ : Fin 2 → Fin 16 → sProp 𝕄) :
    (bigSep Finset.univ fun c => bigSep Finset.univ fun s => Φ c s) = bigSep Finset.univ fun p : Fin 2 × Fin 16 => Φ p.1 p.2 :=
  (bigSep_univ_prod fun p : Fin 2 × Fin 16 => Φ p.1 p.2).symm

omit [FloatOps F] [Named F] in
theorem x_parts (d : Dev nD) (x : Buf (Elt F) (xL d)) :
    (xL d ↦{fullShare} x : sProp 𝕄) = bigSep Finset.univ fun p : Fin 2 × Fin 16 => xL d ↦{xs p.1 p.2} x := by
  rw [pointsTo_leaves (ℓ := xL d) Finset.univ x 5 fullShare, bigSep_univ_equiv tileNo]
  unfold xs
  rfl

theorem b32_cover : (Finset.univ : Finset (Fin 2 × Fin 16)).biUnion (fun p => b32 (coordsV p.1 p.2)) = Finset.univ := by
  ext y
  simp only [Finset.mem_biUnion, Finset.mem_univ, _root_.true_and, _root_.iff_true, b32, Finset.mem_filter]
  have hy : (y 0).val < 32768 := (y 0).isLt
  exact ⟨(⟨(y 0).val / 1024 % 2, by omega⟩, ⟨(y 0).val / 1024 / 2, by omega⟩),
    show (y 0).val / 1024 = 2 * ((y 0).val / 1024 / 2) + (y 0).val / 1024 % 2 by omega⟩
theorem b32_disjoint : ∀ p ∈ (Finset.univ : Finset (Fin 2 × Fin 16)), ∀ p' ∈ (Finset.univ : Finset (Fin 2 × Fin 16)), p ≠ p' →
    Disjoint (b32 (coordsV p.1 p.2)) (b32 (coordsV p'.1 p'.2)) := by
  rintro ⟨c, s⟩ _ ⟨c', s'⟩ _ hne
  refine Finset.disjoint_left.mpr fun y hy hy' => hne ?_
  have h1 : (y 0).val / 1024 = 2 * s.val + c.val := (Finset.mem_filter.mp hy).2
  have h2 : (y 0).val / 1024 = 2 * s'.val + c'.val := (Finset.mem_filter.mp hy').2
  exact Prod.ext (Fin.ext (show c.val = c'.val by omega)) (Fin.ext (show s.val = s'.val by omega))
theorem b2_cover : (Finset.univ : Finset (Fin 2 × Fin 16)).biUnion (fun p => b2 (coordsV p.1 p.2)) = Finset.univ := by
  ext y
  simp only [Finset.mem_biUnion, Finset.mem_univ, _root_.true_and, _root_.iff_true, b2, Finset.mem_filter]
  have hy : (y 0).val < 2048 := (y 0).isLt
  exact ⟨(⟨(y 0).val / 64 % 2, by omega⟩, ⟨(y 0).val / 64 / 2, by omega⟩),
    show (y 0).val / 64 = 2 * ((y 0).val / 64 / 2) + (y 0).val / 64 % 2 by omega⟩
theorem b2_disjoint : ∀ p ∈ (Finset.univ : Finset (Fin 2 × Fin 16)), ∀ p' ∈ (Finset.univ : Finset (Fin 2 × Fin 16)), p ≠ p' →
    Disjoint (b2 (coordsV p.1 p.2)) (b2 (coordsV p'.1 p'.2)) := by
  rintro ⟨c, s⟩ _ ⟨c', s'⟩ _ hne
  refine Finset.disjoint_left.mpr fun y hy hy' => hne ?_
  have h1 : (y 0).val / 64 = 2 * s.val + c.val := (Finset.mem_filter.mp hy).2
  have h2 : (y 0).val / 64 = 2 * s'.val + c'.val := (Finset.mem_filter.mp hy').2
  exact Prod.ext (Fin.ext (show c.val = c'.val by omega)) (Fin.ext (show s.val = s'.val by omega))

omit [FloatOps F] [Named F] in
theorem parts32 (ℓ : Loc nD τ sig) (B : Fin 2 × Fin 16 → Finset (Idx ℓ)) (hc : (Finset.univ : Finset (Fin 2 × Fin 16)).biUnion B = Finset.univ)
    (hd : ∀ p ∈ (Finset.univ : Finset (Fin 2 × Fin 16)), ∀ p' ∈ (Finset.univ : Finset (Fin 2 × Fin 16)), p ≠ p' → Disjoint (B p) (B p')) (f : Buf (Elt F) ℓ) :
    (ℓ ↦{fullShare} f : sProp 𝕄) = bigSep Finset.univ fun p : Fin 2 × Fin 16 => ℓ ↦[B p]{fullShare} f := by
  rw [← pointsTo_biUnion Finset.univ (ℓ := ℓ) B hd, hc]

theorem whole0 (d : Dev nD) (x : Buf (Elt F) (xL d)) (f₀ : Buf (Elt F) (sL d)) (f₁ : Buf (Elt F) (mL d)) (f₂ : Buf (Elt F) (iL d)) :
    (bigSep Finset.univ fun c : Fin 2 => bigSep Finset.univ fun s : Fin 16 => G0 d (coordsV c s) x (xs c s) f₀ f₁ f₂)
      = (iprop((xL d ↦{fullShare} x) ∗ (sL d ↦{fullShare} f₀) ∗ (mL d ↦{fullShare} f₁) ∗ (iL d ↦{fullShare} f₂)) : sProp 𝕄) := by
  rw [tiles (fun c s => G0 d (coordsV c s) x (xs c s) f₀ f₁ f₂)]
  unfold G0
  rw [bigSep_sep', bigSep_sep', bigSep_sep', x_parts,
    parts32 (sL d) (fun p => b32 (coordsV p.1 p.2)) b32_cover b32_disjoint f₀,
    parts32 (mL d) (fun p => b32 (coordsV p.1 p.2)) b32_cover b32_disjoint f₁,
    parts32 (iL d) (fun p => b32 (coordsV p.1 p.2)) b32_cover b32_disjoint f₂]

theorem whole1 (d : Dev nD) (x : Buf (Elt F) (xL d)) (t : Buf (Elt F) (tL d)) (f₀ : Buf (Elt F) (eL d)) (f₁ : Buf (Elt F) (zL d)) :
    (bigSep Finset.univ fun c : Fin 2 => bigSep Finset.univ fun s : Fin 16 => G1 d (coordsV c s) x (xs c s) t f₀ f₁)
      = (iprop((xL d ↦{fullShare} x) ∗ (tL d ↦{fullShare} t) ∗ (eL d ↦{fullShare} f₀) ∗ (zL d ↦{fullShare} f₁)) : sProp 𝕄) := by
  rw [tiles (fun c s => G1 d (coordsV c s) x (xs c s) t f₀ f₁)]
  unfold G1
  rw [bigSep_sep', bigSep_sep', bigSep_sep', x_parts,
    parts32 (tL d) (fun p => b2 (coordsV p.1 p.2)) b2_cover b2_disjoint t,
    parts32 (eL d) (fun p => b2 (coordsV p.1 p.2)) b2_cover b2_disjoint f₀,
    parts32 (zL d) (fun p => b2 (coordsV p.1 p.2)) b2_cover b2_disjoint f₁]

theorem st0_eq (d : Dev nD) : (bigSep Finset.univ fun c : Fin ((K (F := F)).nCore 0) => (P m X).st 0 d c)
    = (iprop((xL d ↦{fullShare} X d) ∗ (sL d ↦{fullShare} m (sL d)) ∗ (mL d ↦{fullShare} m (mL d)) ∗ (iL d ↦{fullShare} m (iL d))) : sProp 𝕄) :=
  whole0 d (X d) _ _ _
theorem dn0_eq (d : Dev nD) : (bigSep Finset.univ fun c : Fin ((K (F := F)).nCore 0) => (P m X).dn 0 d c)
    = (iprop((xL d ↦{fullShare} X d) ∗ (sL d ↦{fullShare} oS d (X d)) ∗ (mL d ↦{fullShare} oM d (X d)) ∗ (iL d ↦{fullShare} oI d (X d))) : sProp 𝕄) :=
  whole0 d (X d) _ _ _
theorem st1_eq (d : Dev nD) : (bigSep Finset.univ fun c : Fin ((K (F := F)).nCore 1) => (P m X).st 1 d c)
    = (iprop((xL d ↦{fullShare} X d) ∗ (tL d ↦{fullShare} m (tL d)) ∗ (eL d ↦{fullShare} m (eL d)) ∗ (zL d ↦{fullShare} m (zL d))) : sProp 𝕄) :=
  whole1 d (X d) _ _ _
theorem dn1_eq (d : Dev nD) : (bigSep Finset.univ fun c : Fin ((K (F := F)).nCore 1) => (P m X).dn 1 d c)
    = (iprop((xL d ↦{fullShare} X d) ∗ (tL d ↦{fullShare} m (tL d)) ∗ (eL d ↦{fullShare} oE d (X d) (m (tL d))) ∗ (zL d ↦{fullShare} oZ d (X d))) : sProp 𝕄) :=
  whole1 d (X d) _ _ _

end Cert.Proof.Run

end
-- ==== Proof.Finalize.lean ====
/-
  The finalising TensorCore kernel, pipeline 0 of @main: its body run, and its region as a step of the TensorCore's thread.
-/
module

public import proofs.«01_k».proof.Proof.Launch
public import proofs.«01_k».proof.Proof.Gen.KernelIdeal.Launch
public import proofs.«01_k».proof.Proof.Gen.KernelIdeal.Points
public import Idealize.ShloMosaic.Lib.Pipeline.RegionsLoop
public import Idealize.ShloMosaic.Lib.Tactic

@[expose] public section

noncomputable section

namespace Cert.Proof.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat BodyObligation)

variable {F : FTy → Type} [FloatOps F] [Named F]

local notation "𝕄" => MM F

/-- The contents of the buffer of a TensorCore's memref, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in its three result buffers, over the contents of its six operands, with the proof that it runs to it. -/
def finRun (c : Dev nD) (f0 : Bf (F := F) c (stage2_0 0)) (f1 : Bf (F := F) c (stage2_1 0)) (f2 : Bf (F := F) c (stage2_2 0))
    (f3 : Bf (F := F) c (stage2_3 0)) (f4 : Bf (F := F) c (stage2_4 0)) (f5 : Bf (F := F) c (stage2_5 0)) :
    { W : Bf (F := F) c (stage2_6 0) × Bf (F := F) c (stage2_7 0) × Bf (F := F) c (stage2_8 0) //
      ∀ (f6 : Bf (F := F) c (stage2_6 0)) (f7 : Bf (F := F) c (stage2_7 0)) (f8 : Bf (F := F) c (stage2_8 0)) (E : Set ℕ) (Q : PUnit → sProp 𝕄),
        iprop(pt c (stage2_0 0) f0 ∗ pt c (stage2_1 0) f1 ∗ pt c (stage2_2 0) f2 ∗ pt c (stage2_3 0) f3 ∗ pt c (stage2_4 0) f4 ∗ pt c (stage2_5 0) f5
            ∗ pt c (stage2_6 0) f6 ∗ pt c (stage2_7 0) f7 ∗ pt c (stage2_8 0) f8
            ∗ (iprop(pt c (stage2_0 0) f0 ∗ pt c (stage2_1 0) f1 ∗ pt c (stage2_2 0) f2 ∗ pt c (stage2_3 0) f3 ∗ pt c (stage2_4 0) f4 ∗ pt c (stage2_5 0) f5
                ∗ pt c (stage2_6 0) W.1 ∗ pt c (stage2_7 0) W.2.1 ∗ pt c (stage2_8 0) W.2.2) -∗ Q ⟨⟩))
          ⊢ wp frame (wpE (defs₀ (F := F)) Variants.none c none) E
              (cc2__fin_body (stage2_0 0) (hstage2_0 0) (stage2_1 0) (hstage2_1 0) (stage2_2 0) (hstage2_2 0) (stage2_3 0) (hstage2_3 0) (stage2_4 0) (hstage2_4 0)
                (stage2_5 0) (hstage2_5 0) (stage2_6 0) (hstage2_6 0) (stage2_7 0) (hstage2_7 0) (stage2_8 0) (hstage2_8 0)) Q } := by
  refine ⟨⟨?_, ?_, ?_⟩, fun f6 f7 f8 E Q => ?run⟩
  case run =>
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The region -/

variable (V : (c : Dev nD) → (b : Ref sig .tc) → Buf (Elt F) ((c : Thread nD τ).loc b))

/-- What the operands' windows stage before the body, the arrays at `V`. -/
abbrev stg0 (c : Dev nD) : (cfg2.win 0).block.Idx → Elt F (cfg2.win 0).elt := ((cfg2.win 0).blk t2_0).view.read (Elt F) (V c (Pipeline.arrRef spec2 0))
abbrev stg1 (c : Dev nD) : (cfg2.win 1).block.Idx → Elt F (cfg2.win 1).elt := ((cfg2.win 1).blk t2_0).view.read (Elt F) (V c (Pipeline.arrRef spec2 1))
abbrev stg2 (c : Dev nD) : (cfg2.win 2).block.Idx → Elt F (cfg2.win 2).elt := ((cfg2.win 2).blk t2_0).view.read (Elt F) (V c (Pipeline.arrRef spec2 2))
abbrev stg3 (c : Dev nD) : (cfg2.win 3).block.Idx → Elt F (cfg2.win 3).elt := ((cfg2.win 3).blk t2_0).view.read (Elt F) (V c (Pipeline.arrRef spec2 3))
abbrev stg4 (c : Dev nD) : (cfg2.win 4).block.Idx → Elt F (cfg2.win 4).elt := ((cfg2.win 4).blk t2_0).view.read (Elt F) (V c (Pipeline.arrRef spec2 4))
abbrev stg5 (c : Dev nD) : (cfg2.win 5).block.Idx → Elt F (cfg2.win 5).elt := ((cfg2.win 5).blk t2_0).view.read (Elt F) (V c (Pipeline.arrRef spec2 5))

abbrev finK (c : Dev nD) := finRun (F := F) c (stg0 V c) (stg1 V c) (stg2 V c) (stg3 V c) (stg4 V c) (stg5 V c)

abbrev Φc (c : Dev nD) : sProp 𝕄 := Pipeline.scopedRest (Ix := HIx 2) (Name := ℕ) (U := UU) (Lvl := ℕ) (Val := Elt F) spec2 c

/-- The region's proof data from the arrays at `V`: the operands stay as staged, the results are the run's. -/
def dat (c : Dev nD) : Dat τ (Elt F) (HIx 2) ℕ UU ℕ cfg2 c where
  A w := V c (Pipeline.arrRef spec2 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => (finK V c).1.1
    | ⟨7, _⟩ => (finK V c).1.2.1
    | ⟨8, _⟩ => (finK V c).1.2.2
  Φ _ := Φc c
  q _ := fullShare
  owed _ := 0
  recorded _ := {p | (K (F := F)).lev ((c : Thread nD τ), p.1) p.2 ≤ 8 * 2}

abbrev adm : (p : Fin 1) → (pcfgs (F := F) p).Adm := fun p => (cfgs p).toPCfg_adm

def pdats : (p : Fin 1) → (c : Dev nD) → Dat τ (Elt F) (HIx 2) ℕ UU ℕ (Pipeline.pin (pcfgs (F := F)) adm p) c
  | ⟨0, _⟩ => fun c => dat V c

theorem before0 (c : Dev nD) (d : (cfg2.win 0).block.Idx → Elt F (cfg2.win 0).elt) : (dat V c).before 0 t2_0 d = stg0 V c := by
  unfold Dat.before; rw [if_pos (fetch2_0 _)]; rfl
theorem before1 (c : Dev nD) (d : (cfg2.win 1).block.Idx → Elt F (cfg2.win 1).elt) : (dat V c).before 1 t2_0 d = stg1 V c := by
  unfold Dat.before; rw [if_pos (fetch2_1 _)]; rfl
theorem before2 (c : Dev nD) (d : (cfg2.win 2).block.Idx → Elt F (cfg2.win 2).elt) : (dat V c).before 2 t2_0 d = stg2 V c := by
  unfold Dat.before; rw [if_pos (fetch2_2 _)]; rfl
theorem before3 (c : Dev nD) (d : (cfg2.win 3).block.Idx → Elt F (cfg2.win 3).elt) : (dat V c).before 3 t2_0 d = stg3 V c := by
  unfold Dat.before; rw [if_pos (fetch2_3 _)]; rfl
theorem before4 (c : Dev nD) (d : (cfg2.win 4).block.Idx → Elt F (cfg2.win 4).elt) : (dat V c).before 4 t2_0 d = stg4 V c := by
  unfold Dat.before; rw [if_pos (fetch2_4 _)]; rfl
theorem before5 (c : Dev nD) (d : (cfg2.win 5).block.Idx → Elt F (cfg2.win 5).elt) : (dat V c).before 5 t2_0 d = stg5 V c := by
  unfold Dat.before; rw [if_pos (fetch2_5 _)]; rfl

/-- The body's obligation: the nine buffers taken apart, the run applied, the buffers handed back. -/
theorem body_obligation (c : Dev nD) : BodyObligation (dat V c) (defs₀ (F := F)) 𝒱₀ (none : HIx 2) Set.univ := fun t => by
  obtain rfl := fin_N2 t
  rw [bigSep_W2, bigSep_W2]
  simp only [owns_whole_eq]
  rw [show (dat V c).Φ t2_0.castSucc = Φc c from rfl, show (dat V c).Φ t2_0.succ = Φc c from rfl,
    show (dat V c).owesAt (none : HIx 2) t2_0.succ = (dat V c).owesAt (none : HIx 2) t2_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩,
    ⟨%d6, %f6, -, H6⟩, ⟨%d7, %f7, -, H7⟩, ⟨%d8, %f8, -, H8⟩⟩
  rw [before0] at h0; rw [before1] at h1; rw [before2] at h2; rw [before3] at h3; rw [before4] at h4; rw [before5] at h5
  subst h0 h1 h2 h3 h4 h5
  iapply ((finK V c).2 f6 f7 f8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  iexists _; isplitr; swap; (· iexact H8); ipureintro; dsimp only [dat]

/-- The three results' arrays after the region. -/
def fin0 (c : Dev nD) : Buf (Elt F) ((c : Thread nD τ).loc main_v9_0) := (dat V c).arrAt 6 cfg2.N
def fin1 (c : Dev nD) : Buf (Elt F) ((c : Thread nD τ).loc main_v9_1) := (dat V c).arrAt 7 cfg2.N
def fin2 (c : Dev nD) : Buf (Elt F) ((c : Thread nD τ).loc main_v9_2) := (dat V c).arrAt 8 cfg2.N

variable (Vp : (c : Dev nD) → (b : Ref sig .tc) → Buf (Elt F) ((c : Thread nD τ).loc b))

/-- What the TensorCore owes before and after the region: nothing, its recorded waits of a level below the calls' end. -/
abbrev paid (c : Dev nD) : sProp 𝕄 := iprop(∃ W, ⌜(K (F := F)).WBelow (c : Thread nD τ) W (8 * 2)⌝ ∗ owes (c : Thread nD τ) (0 : CellTallies nD τ sig (HIx 2)) W)

set_option backward.isDefEq.respectTransparency.types false in
/-- The region over the unscoped buffers at `V`, left at `Vp`. -/
def reg (h0 : ∀ c, Vp c main_v9_0 = fin0 V c) (h1 : ∀ c, Vp c main_v9_1 = fin1 V c) (h2 : ∀ c, Vp c main_v9_2 = fin2 V c)
    (hne : ∀ c (b : Ref sig .tc), b ≠ main_v9_0 → b ≠ main_v9_1 → b ≠ main_v9_2 → Vp c b = V c b) :
    Pipeline.RegionSeg (pcfgs (F := F)) adm (pdats V) (none : HIx 2) defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ paid c)
  post c := iprop(unscopedBufs c (Vp c) ∗ paid c)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 0) (pcfgs (F := F)) adm (pdats V) launch2.win launch2.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch2.win launch2.arr_whole c
      (pdats V) ((pdats V 0 c).share_full fun _ => rfl) (V c) (Vp c) ((pdats V 0 c).arrAt · cfg2.N)
      (fun w => by
        fin_cases w
        · exact ((pdats V 0 c).arrAt_in 0 rfl _).trans (hne c main_v3 (by decide) (by decide) (by decide)).symm
        · exact ((pdats V 0 c).arrAt_in 1 rfl _).trans (hne c main_v4 (by decide) (by decide) (by decide)).symm
        · exact ((pdats V 0 c).arrAt_in 2 rfl _).trans (hne c main_v5 (by decide) (by decide) (by decide)).symm
        · exact ((pdats V 0 c).arrAt_in 3 rfl _).trans (hne c main_v6 (by decide) (by decide) (by decide)).symm
        · exact ((pdats V 0 c).arrAt_in 4 rfl _).trans (hne c main_v7 (by decide) (by decide) (by decide)).symm
        · exact ((pdats V 0 c).arrAt_in 5 rfl _).trans (hne c main_v8 (by decide) (by decide) (by decide)).symm
        · exact (h0 c).symm
        · exact (h1 c).symm
        · exact (h2 c).symm)
      (fun b hb => hne c b (fun h => hb (h ▸ Finset.mem_image.mpr ⟨6, Finset.mem_univ _, rfl⟩)) (fun h => hb (h ▸ Finset.mem_image.mpr ⟨7, Finset.mem_univ _, rfl⟩))
        (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Run
-- ==== Proof.Main.lean ====
/-
  The whole run: @main on the TensorCore, and the launch.
-/
module

public import proofs.«01_k».proof.Proof.Finalize

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## The buffers of the TensorCore, at a valuation -/

/-- The TensorCore's unscoped buffers. -/
def ucRefs : Finset (DevRef τ sig) := (StableHlo.tcRefs τ sig).filter fun b => ¬ b.isScoped

theorem unscopedBufs_held (d : Dev nD) (W : Valuation τ sig (Elt F)) :
    (unscopedBufs d (fun b => W b) : sProp 𝕄) = held (SparseCore.T d) ucRefs W := by
  unfold unscopedBufs held ucRefs StableHlo.tcRefs
  rw [Finset.filter_map, bigSep_map]
  rfl

variable (m : (ℓ : Loc nD τ sig) → Buf (Elt F) ℓ)

/-- The valuation at the launch, -/
def V0 (d : Dev nD) : Valuation τ sig (Elt F) := fun b => m (d, b)
/-- after the flattening of the first argument, -/
def V1 (d : Dev nD) : Valuation τ sig (Elt F) :=
  (StableHlo.reshape main_arg0 main_v0 (rfl : (.f32 : EltTy) = .f32) shapeCasts_S2048x100000_S204800000).result (V0 m d)
/-- The flat array the SparseCore calls read. -/
def X (d : Dev nD) : Buf (Elt F) (xL d) := V1 m d main_v0
/-- after the first SparseCore call, -/
def V2 (d : Dev nD) : Valuation τ sig (Elt F) :=
  Function.update (Function.update (Function.update (V1 m d) main_v1_0 (oS d (X m d))) main_v1_1 (oM d (X m d))) main_v1_2 (oI d (X m d))
/-- after the second, -/
def V3 (d : Dev nD) : Valuation τ sig (Elt F) :=
  Function.update (Function.update (V2 m d) main_v2_0 (oE d (X m d) (m (tL d)))) main_v2_1 (oZ d (X m d))
/-- after the reshapes of the calls' results, -/
def V4 (d : Dev nD) : Valuation τ sig (Elt F) :=
  (StableHlo.reshape main_v2_1 main_v8 (rfl : (.f32 : EltTy) = .f32) shapeCasts_S2048_S2048x1).result <|
  (StableHlo.reshape main_v2_0 main_v7 (rfl : (.f32 : EltTy) = .f32) shapeCasts_S2048_S2048x1).result <|
  (StableHlo.reshape main_arg1 main_v6 (rfl : (.i32 : EltTy) = .i32) shapeCasts_S2048_S2048x1).result <|
  (StableHlo.reshape main_v1_2 main_v5 (rfl : (.i32 : EltTy) = .i32) shapeCasts_S32768_S2048x16).result <|
  (StableHlo.reshape main_v1_1 main_v4 (rfl : (.f32 : EltTy) = .f32) shapeCasts_S32768_S2048x16).result <|
  (StableHlo.reshape main_v1_0 main_v3 (rfl : (.f32 : EltTy) = .f32) shapeCasts_S32768_S2048x16).result (V3 m d)
/-- the same, read at the TensorCore's references, -/
abbrev W4 (d : Dev nD) (b : Ref sig .tc) : Buf (Elt F) ((d : Thread nD τ).loc b) := V4 m d b
/-- after the finalising kernel, -/
def V5 (d : Dev nD) : Valuation τ sig (Elt F) :=
  Function.update (Function.update (Function.update (V4 m d) main_v9_0 (fin0 (W4 m) d)) main_v9_1 (fin1 (W4 m) d)) main_v9_2 (fin2 (W4 m) d)
/-- and at the end. -/
def VE (d : Dev nD) : Valuation τ sig (Elt F) :=
  (StableHlo.reshape main_v9_2 main_v12 (rfl : (.i32 : EltTy) = .i32) shapeCasts_S1x1_S_).result <|
  (StableHlo.reshape main_v9_1 main_v11 (rfl : (.i32 : EltTy) = .i32) shapeCasts_S1x1_S_).result <|
  (StableHlo.reshape main_v9_0 main_v10 (rfl : (.f32 : EltTy) = .f32) shapeCasts_S1x1_S_).result (V5 m d)

/-- The buffers of the first SparseCore call, and of the second. -/
def R0 : Finset (DevRef τ sig) := {(main_v0 : DevRef τ sig), (main_v1_0 : DevRef τ sig), (main_v1_1 : DevRef τ sig), (main_v1_2 : DevRef τ sig)}
def R1 : Finset (DevRef τ sig) := {(main_v0 : DevRef τ sig), (main_arg1 : DevRef τ sig), (main_v2_0 : DevRef τ sig), (main_v2_1 : DevRef τ sig)}
theorem R0_sub : R0 ⊆ ucRefs := by decide
theorem R1_sub : R1 ⊆ ucRefs := by decide

theorem held_R0 (d : Dev nD) (W : Valuation τ sig (Elt F)) : (held (SparseCore.T d) R0 W : sProp 𝕄)
    = iprop((xL d ↦{fullShare} W main_v0) ∗ (sL d ↦{fullShare} W main_v1_0) ∗ (mL d ↦{fullShare} W main_v1_1) ∗ (iL d ↦{fullShare} W main_v1_2)) := by
  unfold held R0
  rw [SparseCore.bigSep_insert' (by decide), SparseCore.bigSep_insert' (by decide), SparseCore.bigSep_insert' (by decide), bigSep_singleton]
theorem held_R1 (d : Dev nD) (W : Valuation τ sig (Elt F)) : (held (SparseCore.T d) R1 W : sProp 𝕄)
    = iprop((xL d ↦{fullShare} W main_v0) ∗ (tL d ↦{fullShare} W main_arg1) ∗ (eL d ↦{fullShare} W main_v2_0) ∗ (zL d ↦{fullShare} W main_v2_1)) := by
  unfold held R1
  rw [SparseCore.bigSep_insert' (by decide), SparseCore.bigSep_insert' (by decide), SparseCore.bigSep_insert' (by decide), bigSep_singleton]

/-- A reshape leaves every buffer but its result. -/
theorem V1_ne (d : Dev nD) (r : Ref sig .tc) (h : r ≠ main_v0) : V1 m d r = m ((SparseCore.T d).loc r) :=
  StableHlo.reshape_result_ne _ _ _ _ _ _ _ h

/-- What the first call takes, what is left of it, and what it hands back. -/
theorem split0 (d : Dev nD) : (held (SparseCore.T d) ucRefs (V1 m d) : sProp 𝕄)
    = iprop(((xL d ↦{fullShare} X m d) ∗ (sL d ↦{fullShare} m (sL d)) ∗ (mL d ↦{fullShare} m (mL d)) ∗ (iL d ↦{fullShare} m (iL d)))
        ∗ held (SparseCore.T d) (ucRefs \ R0) (V1 m d)) := by
  rw [StableHlo.held_sub_split (SparseCore.T d) R0_sub (V1 m d), held_R0, V1_ne m d main_v1_0 (by decide), V1_ne m d main_v1_1 (by decide), V1_ne m d main_v1_2 (by decide)]
  rfl

theorem V2_v0 (d : Dev nD) : V2 m d main_v0 = X m d := by
  unfold V2; rw [Function.update_of_ne (by decide), Function.update_of_ne (by decide), Function.update_of_ne (by decide)]; rfl
theorem V2_s (d : Dev nD) : V2 m d main_v1_0 = oS d (X m d) := by
  unfold V2; rw [Function.update_of_ne (by decide), Function.update_of_ne (by decide), Function.update_self]
theorem V2_m (d : Dev nD) : V2 m d main_v1_1 = oM d (X m d) := by
  unfold V2; rw [Function.update_of_ne (by decide), Function.update_self]
theorem V2_i (d : Dev nD) : V2 m d main_v1_2 = oI d (X m d) := by
  unfold V2; rw [Function.update_self]
theorem V2_ne (d : Dev nD) (b : DevRef τ sig) (h : b ∉ R0) : V2 m d b = V1 m d b := by
  simp only [R0, Finset.mem_insert, Finset.mem_singleton, not_or] at h
  unfold V2; rw [Function.update_of_ne h.2.2.2, Function.update_of_ne h.2.2.1, Function.update_of_ne h.2.1]

theorem join0 (d : Dev nD) :
    iprop(((xL d ↦{fullShare} X m d) ∗ (sL d ↦{fullShare} oS d (X m d)) ∗ (mL d ↦{fullShare} oM d (X m d)) ∗ (iL d ↦{fullShare} oI d (X m d)))
        ∗ held (SparseCore.T d) (ucRefs \ R0) (V1 m d)) = (held (SparseCore.T d) ucRefs (V2 m d) : sProp 𝕄) := by
  rw [StableHlo.held_sub_split (SparseCore.T d) R0_sub (V2 m d), held_R0, V2_v0, V2_s, V2_m, V2_i,
    StableHlo.held_congr (SparseCore.T d) (S := ucRefs \ R0) fun b hb => V2_ne m d b (Finset.mem_sdiff.mp hb).2]

theorem split1 (d : Dev nD) : (held (SparseCore.T d) ucRefs (V2 m d) : sProp 𝕄)
    = iprop(((xL d ↦{fullShare} X m d) ∗ (tL d ↦{fullShare} m (tL d)) ∗ (eL d ↦{fullShare} m (eL d)) ∗ (zL d ↦{fullShare} m (zL d)))
        ∗ held (SparseCore.T d) (ucRefs \ R1) (V2 m d)) := by
  rw [StableHlo.held_sub_split (SparseCore.T d) R1_sub (V2 m d), held_R1, V2_v0, V2_ne m d main_arg1 (by decide), V2_ne m d main_v2_0 (by decide),
    V2_ne m d main_v2_1 (by decide), V1_ne m d main_arg1 (by decide), V1_ne m d main_v2_0 (by decide), V1_ne m d main_v2_1 (by decide)]

theorem V3_ne' (d : Dev nD) (b : DevRef τ sig) (h₁ : b ≠ (main_v2_0 : DevRef τ sig)) (h₂ : b ≠ (main_v2_1 : DevRef τ sig)) : V3 m d b = V2 m d b := by
  unfold V3; rw [Function.update_of_ne h₂, Function.update_of_ne h₁]
theorem V3_e (d : Dev nD) : V3 m d main_v2_0 = oE d (X m d) (m (tL d)) := by
  unfold V3; rw [Function.update_of_ne (by decide), Function.update_self]
theorem V3_z (d : Dev nD) : V3 m d main_v2_1 = oZ d (X m d) := by
  unfold V3; rw [Function.update_self]
theorem V3_ne (d : Dev nD) (b : DevRef τ sig) (h : b ∉ R1) : V3 m d b = V2 m d b := by
  simp only [R1, Finset.mem_insert, Finset.mem_singleton, not_or] at h
  exact V3_ne' m d b h.2.2.1 h.2.2.2
theorem V3_arg1 (d : Dev nD) : V3 m d main_arg1 = m (tL d) := by
  rw [V3_ne' m d main_arg1 (by decide) (by decide), V2_ne m d main_arg1 (by decide), V1_ne m d main_arg1 (by decide)]

theorem join1 (d : Dev nD) :
    iprop(((xL d ↦{fullShare} X m d) ∗ (tL d ↦{fullShare} m (tL d)) ∗ (eL d ↦{fullShare} oE d (X m d) (m (tL d))) ∗ (zL d ↦{fullShare} oZ d (X m d)))
        ∗ held (SparseCore.T d) (ucRefs \ R1) (V2 m d)) = (held (SparseCore.T d) ucRefs (V3 m d) : sProp 𝕄) := by
  rw [StableHlo.held_sub_split (SparseCore.T d) R1_sub (V3 m d), held_R1, V3_ne' m d main_v0 (by decide) (by decide), V2_v0, V3_arg1, V3_e, V3_z,
    StableHlo.held_congr (SparseCore.T d) (S := ucRefs \ R1) fun b hb => V3_ne m d b (Finset.mem_sdiff.mp hb).2]

/-- The finalising kernel's region, between the valuations before and after it. -/
def region : Pipeline.RegionSeg (pcfgs (F := F)) adm (pdats (W4 m)) (none : HIx 2) defs₀ 𝒱₀ (K (F := F)).L (K (F := F)).lev 0 :=
  reg (W4 m) (fun d b => V5 m d b)
    (fun d => by
      show V5 m d main_v9_0 = _
      unfold V5; rw [Function.update_of_ne (by decide), Function.update_of_ne (by decide), Function.update_self])
    (fun d => by
      show V5 m d main_v9_1 = _
      unfold V5; rw [Function.update_of_ne (by decide), Function.update_self])
    (fun d => by
      show V5 m d main_v9_2 = _
      unfold V5; rw [Function.update_self])
    (fun d b h0 h1 h2 => by
      show V5 m d b = V4 m d b
      have ne (r : Ref sig .tc) (h : b ≠ r) : (b : DevRef τ sig) ≠ (r : DevRef τ sig) := StableHlo.devRef_ne_of_ne h
      unfold V5
      rw [Function.update_of_ne (ne _ h2), Function.update_of_ne (ne _ h1), Function.update_of_ne (ne _ h0)])

/-! ## The ghost state -/

/-- The pipeline's copies, as the launch counts them. -/
abbrev pcells : Finset (GSem nD τ sig) := Pipeline.cells (nD := nD) (τ := τ) cfgs cellOf_inj
abbrev u₀ : UU := (initOf (K (F := F)).hsCells (K (F := F)).hsToks, (initOf (Pipeline.cells (nD := nD) (τ := τ) cfgs cellOf_inj) (Pipeline.launchToks cfgs cellOf_inj), 1))
/-- What the finalising kernel's region takes of the launch's ghost state. -/
def G (d : Dev nD) : sProp 𝕄 := iprop(Pipeline.cellsGhost cfgs EP 0 d ∗ Pipeline.toksInit cfgs EP 0 d)

theorem own_EP (a : UB) (b : Counters) : (BI.own ((embR : Emb (UB × Counters) 𝕄) (a, b)) : sProp 𝕄) ⊢ BI.own ((EP (F := F)) a) := by
  refine BIBase.Entails.trans (BI.own_op_elim ((embR : Emb (UB × Counters) 𝕄).op_of_mem (Prod.mk_mem_op (URA.mem_op_one a) (URA.mem_one_op b)))) ?_
  exact sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m (X m)).x q thr) := by
  iintro Hu
  ihave H := (ownU_pair (initOf (K (F := F)).hsCells (K (F := F)).hsToks)
    ((initOf (Pipeline.cells (nD := nD) (τ := τ) cfgs cellOf_inj) (Pipeline.launchToks cfgs cellOf_inj), 1) : UB × Counters)) $$ Hu
  icases H with ⟨HH, HR⟩
  ihave HR := (own_EP (F := F) _ _) $$ HR
  imod (Pipeline.fund_ghost cfgs (EP (F := F)) cellOf_inj) $$ HR with ⟨HC, HT⟩
  imodintro
  isplitl [HH]; · iexact HH
  isplitl [HC HT]
  · unfold G
    rw [bigSep_sep']
    isplitl [HC]
    · iapply (Entails.of_eq (bigSep_congr fun d _ => bigSep_univ_of_subsingleton (Φ := fun p : Fin 1 => (Pipeline.cellsGhost cfgs (EP (F := F)) p d : sProp 𝕄)) (0 : Fin 1))) $$ HC
    iapply (Entails.of_eq (bigSep_congr fun d _ => bigSep_univ_of_subsingleton (Φ := fun p : Fin 1 => (Pipeline.toksInit cfgs (EP (F := F)) p d : sProp 𝕄)) (0 : Fin 1))) $$ HT
  rw [show (bigSep Finset.univ fun thr : Thread nD τ => bigSep Finset.univ fun q : Fin 2 => (P (F := F) m (X m)).x q thr) = (iprop(emp) : sProp 𝕄) from
    (bigSep_congr fun _ _ => bigSep_emp_const _).trans (bigSep_emp_const _)]
  iempintro

/-! ## @main on the TensorCore -/

variable (ρ : Dev nD → PrngReg)

/-- What @main leaves. -/
abbrev FIN (d : Dev nD) : sProp 𝕄 := held (SparseCore.T d) ucRefs (VE m d)

theorem levels (κ : GSem nD τ sig → ℕ) : (K (F := F)).ctx EH (P m (X m)) κ ⊢ (levAts (K (F := F)).L (K (F := F)).lev : sProp 𝕄) := by
  unfold SparseCore.Cfg.ctx; exact sep_elim_left

theorem region_pre (d : Dev nD) : (region m).pre d = (iprop(held (SparseCore.T d) ucRefs (V4 m d) ∗ paid d) : sProp 𝕄) := by
  rw [← unscopedBufs_held]; rfl
theorem region_post (d : Dev nD) : (region m).post d = (iprop(held (SparseCore.T d) ucRefs (V5 m d) ∗ paid d) : sProp 𝕄) := by
  rw [← unscopedBufs_held]; rfl

/-- The finalising kernel on the TensorCore, among the SparseCore calls' threads. -/
theorem region_run (d : Dev nD) (Q : PUnit → sProp 𝕄) :
    iprop((iprop(boundary (SparseCore.T d) ∗ held (SparseCore.T d) ucRefs (V5 m d) ∗ paid (F := F) d) -∗ Q ⟨⟩)
        ∗ boundary (SparseCore.T d) ∗ (held (SparseCore.T d) ucRefs (V4 m d) ∗ paid (F := F) d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  refine BIBase.Entails.trans ?_ ((K (F := F)).wp_liftProg (D (F := F)) 𝒱 (SparseCore.T d) Set.univ none
    (Prog.op (.customCall (Pipeline.entry (0 : Fin 1)) ()) .ret) Q)
  refine BIBase.Entails.trans ?_ (Pipeline.RegionSeg.wp (pcfgs (F := F)) adm (pdats (W4 m)) (none : HIx 2) cellOf_inj EP defs₀ 𝒱₀ (K (F := F)).L (K (F := F)).lev
    (region m) d none (fun _ h => nomatch h) .ret Q)
  rw [region_pre, region_post]
  unfold G
  iintro ⟨Hk, Hb, Hp, Hl, Hc, Ht⟩
  isplitl [Hk]
  · rw [wp_ret]
    iintro H
    imodintro
    iapply Hk
    iexact H
  isplitl [Hb]; · iexact Hb
  isplitl [Hp]; · iexact Hp
  isplitl [Hl]; · iexact Hl
  isplitl [Hc]; · iexact Hc
  iexact Ht

theorem sub2 (x y : Ref sig .tc) (hx : (x : DevRef τ sig) ∈ ucRefs) (hy : (y : DevRef τ sig) ∈ ucRefs) : ({(x : DevRef τ sig), (y : DevRef τ sig)} : Finset (DevRef τ sig)) ⊆ ucRefs := by
  intro b hb
  rcases Finset.mem_insert.mp hb with rfl | hb
  · exact hx
  · exact Finset.mem_singleton.mp hb ▸ hy

/-- One reshape of @main, over the buffers at a valuation. -/
theorem step {x y : Ref sig .tc} (he hn hx hy) (hx' : (x : DevRef τ sig) ∈ ucRefs) (hy' : (y : DevRef τ sig) ∈ ucRefs) (d : Dev nD) (W W' : Valuation τ sig (Elt F))
    (hW : (StableHlo.reshape (τ := τ) (Val := Elt F) x y he hn hx hy).result W = W') (Q : PUnit → sProp 𝕄) :
    iprop((iprop(boundary (SparseCore.T d) ∗ held (SparseCore.T d) ucRefs W') -∗ Q ⟨⟩)
        ∗ boundary (SparseCore.T d) ∗ held (SparseCore.T d) ucRefs W)
      ⊢ wp frame (wpE ((K (F := F)).defs (D (F := F))) 𝒱 (SparseCore.T d) none) Set.univ
          (hlo rfl (StableHlo.reshape (τ := τ) (Val := Elt F) x y he hn hx hy) (fun _ => .ret ⟨⟩)) Q := by
  subst hW
  iintro ⟨Hk, Hb, Hh⟩
  iapply (StableHlo.wp_hlo_within 𝒱 (SparseCore.T d) none Set.univ (op := StableHlo.reshape (τ := τ) (Val := Elt F) x y he hn hx hy) (S := ucRefs) (sub2 x y hx' hy') (V := W)) $$ [Hb Hh]
  · isplitl [Hb]; · iexact Hb
    iexact Hh
  iintro H
  rw [wp_ret]
  imodintro
  iapply Hk
  iexact H

theorem hmain (κ : GSem nD τ sig → ℕ) (d : Dev nD) :
    iprop((K (F := F)).ctx EH (P m (X m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d fun b => m ((SparseCore.T d).loc b) : sProp 𝕄) = held (SparseCore.T d) ucRefs (V0 m d) from unscopedBufs_held d (V0 m d)]
  simp only [main, wp_bind, wp_pure]
  iintro ⟨#Hctx, Hst, ⟨Hb, Hh, Hts, -⟩, HG⟩
  iapply (step _ _ _ _ (by decide) (by decide) d (V0 m d) (V1 m d) rfl); isplitr [Hb Hh]; swap; (isplitl [Hb]; (· iexact Hb); iexact Hh); iintro ⟨Hb, Hh⟩
  ihave Hh := (Entails.of_eq (split0 m d)) $$ Hh
  icases Hh with ⟨H0, Hrest⟩
  iapply ((K (F := F)).wp_run (D (F := F)) 𝒱 (EH := EH) (P := P m (X m)) κ d 0)
  isplitr; · iexact Hctx
  isplitl [Hst]; · iexact Hst
  isplitl [H0]; · rw [st0_eq]; iexact H0
  iintro ⟨Hst, H0⟩
  ihave H0 := (Entails.of_eq (dn0_eq m (X m) d)) $$ H0
  ihave Hh := (Entails.of_eq (join0 m d)) $$ [H0 Hrest]
  · isplitl [H0]; · iexact H0
    iexact Hrest
  ihave Hh := (Entails.of_eq (split1 m d)) $$ Hh
  icases Hh with ⟨H0, Hrest⟩
  iapply ((K (F := F)).wp_run (D (F := F)) 𝒱 (EH := EH) (P := P m (X m)) κ d 1)
  isplitr; · iexact Hctx
  isplitl [Hst]; · iexact Hst
  isplitl [H0]; · rw [st1_eq]; iexact H0
  iintro ⟨Hst, H0⟩
  ihave H0 := (Entails.of_eq (dn1_eq m (X m) d)) $$ H0
  ihave Hh := (Entails.of_eq (join1 m d)) $$ [H0 Hrest]
  · isplitl [H0]; · iexact H0
    iexact Hrest
  iapply (step _ _ _ _ (by decide) (by decide) d _ _ rfl); isplitr [Hb Hh]; swap; (isplitl [Hb]; (· iexact Hb); iexact Hh); iintro ⟨Hb, Hh⟩
  iapply (step _ _ _ _ (by decide) (by decide) d _ _ rfl); isplitr [Hb Hh]; swap; (isplitl [Hb]; (· iexact Hb); iexact Hh); iintro ⟨Hb, Hh⟩
  iapply (step _ _ _ _ (by decide) (by decide) d _ _ rfl); isplitr [Hb Hh]; swap; (isplitl [Hb]; (· iexact Hb); iexact Hh); iintro ⟨Hb, Hh⟩
  iapply (step _ _ _ _ (by decide) (by decide) d _ _ rfl); isplitr [Hb Hh]; swap; (isplitl [Hb]; (· iexact Hb); iexact Hh); iintro ⟨Hb, Hh⟩
  iapply (step _ _ _ _ (by decide) (by decide) d _ _ rfl); isplitr [Hb Hh]; swap; (isplitl [Hb]; (· iexact Hb); iexact Hh); iintro ⟨Hb, Hh⟩
  iapply (step _ _ _ _ (by decide) (by decide) d _ (V4 m d) rfl); isplitr [Hb Hh]; swap; (isplitl [Hb]; (· iexact Hb); iexact Hh); iintro ⟨Hb, Hh⟩
  unfold SparseCore.Cfg.tcSt
  icases Hst with ⟨⟨%W, %hW, HO⟩, Hst⟩
  rw [show (K (F := F)).Otc d ((1 : Fin 2).val + 1) = 0 from (K (F := F)).Otc_end d le_rfl]
  ihave Hl := (levels m κ) $$ Hctx
  iapply (region_run m d)
  isplitr [Hb Hh HO HG]
  swap
  · isplitl [Hb]; · iexact Hb
    isplitl [Hh HO]
    · isplitl [Hh]; · iexact Hh
      iexists W
      isplitr; · ipureintro; exact hW
      iexact HO
    isplitr; · iexact Hl
    iexact HG
  iintro ⟨Hb, Hh, HO⟩
  iapply (step _ _ _ _ (by decide) (by decide) d _ _ rfl); isplitr [Hb Hh]; swap; (isplitl [Hb]; (· iexact Hb); iexact Hh); iintro ⟨Hb, Hh⟩
  iapply (step _ _ _ _ (by decide) (by decide) d _ _ rfl); isplitr [Hb Hh]; swap; (isplitl [Hb]; (· iexact Hb); iexact Hh); iintro ⟨Hb, Hh⟩
  iapply (step _ _ _ _ (by decide) (by decide) d _ (VE m d) rfl); isplitr [Hb Hh]; swap; (isplitl [Hb]; (· iexact Hb); iexact Hh); iintro ⟨Hb, Hh⟩
  imodintro
  rw [show (K (F := F)).Otc d 2 = 0 from (K (F := F)).Otc_end d le_rfl]
  isplitl [HO Hst]
  · isplitl [HO]
    · icases HO with ⟨%W', %hW', HO⟩
      iexists W'
      isplitr; · ipureintro; exact hW'
      iexact HO
    iexact Hst
  isplitl [Hh]; · iexact Hh
  isplitl [Hb]; · iexact Hb
  iexact Hts

/-! ## The launch -/

/-- What the launch leaves in the TensorCore's buffers outside the kernels. -/
def fq (d : Dev nD) (s' : Phys nD τ sig (Elt F)) : Prop := ∀ b : {b // b ∈ ucRefs}, s'.mem.mem (d, b.1) = VE m d b.1

theorem hfin (d : Dev nD) (s' : Phys nD τ sig (Elt F)) : (iprop(FIN m d ∗ SI s') : sProp 𝕄) ⊢ ⌜fq m d s'⌝ := by
  have one (b : {b // b ∈ ucRefs}) : (iprop(FIN m d ∗ SI s') : sProp 𝕄) ⊢ ⌜s'.mem.mem (d, b.1) = VE m d b.1⌝ := by
    refine BIBase.Entails.trans (sep_mono_left (bigSep_elim b.2)) ?_
    iintro ⟨Hb, HSI⟩
    ihave H := (SI_pointsTo_agree (st := s') (ℓ := (d, b.1)) (I := Finset.univ) (q := fullShare) (f := VE m d b.1)) $$ [HSI Hb]
    · isplitl [HSI] <;> iassumption
    icases H with %h
    ipureintro; exact funext fun i => h i (Finset.mem_univ i)
  exact (Laws.forall_intro one).trans Laws.pure_forall.2

/-- What the launch ends with: the buffers at the last valuation, every semaphore at zero. -/
def QC : PUnit × MemSt nD τ sig (Elt F) → Prop := fun r => (∀ (d : Dev nD) (b : {b // b ∈ ucRefs}), r.2.mem (d, b.1) = VE m d b.1) ∧ r.2.sem = fun _ => 0

/-- The launch runs to its end from any memory whose targets are in range. -/
theorem run_main [∀ e, Nonempty (Elt F e)] (ht : ∀ d, Targets d (m (tL d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (X m)) (A := ∅) facts v₀
    (fun q hq => match q with | 0 => nomatch hq | 1 => nomatch hq)
    (fun q _ => match q with | 0 => tileObl0 m (X m) | 1 => tileObl1 m (X m) ht)
    (fun q _ => match q with | 0 => SparseCore.Cfg.VecSplit.of_plain (vecSplit0 m (X m)) | 1 => SparseCore.Cfg.VecSplit.of_plain (vecSplit1 m (X m)))
    m ρ main (G (F := F)) (FIN m) (u₀ (F := F)) (sep_elim_left.trans (hu₀ m)) (hmain m ρ) (fq m) (hfin m) (QC m) (fun _ h hz => ⟨h, hz⟩)

end Cert.Proof.Run

end
-- ==== Proof.Frames.lean ====
/-
  The frames of the idealized kernel: every execution ends with the arguments unchanged and every semaphore at
  zero. They are read off the one run (`run_main`, over any float values). The labels' range comes from the printed preconditions.
-/
module

public import proofs.«01_k».proof.Proof.Main
public import proofs.«01_k».proof.Proof.Gen.Pre_targets_in_range
public import proofs.«01_k».proof.Defs
public import Idealize.ShloMosaic.Lib.ReduceAll

@[expose] public section

noncomputable section

namespace Cert.Proof.Run

open Cert.KernelIdeal Cert.KernelIdeal.Gen

open Idealize.ShloMosaic Idealize.ShloMosaic.TcCoe Idealize.SL.Sem

/-! ## The arguments at the end -/

section Args
variable {F : FTy → Type} [FloatOps F] [Named F]
variable (m : (ℓ : Loc nD τ sig) → Buf (Elt F) ℓ)

theorem V5_ne (d : Dev nD) (r : Ref sig .tc) (h₀ : (r : DevRef τ sig) ≠ (main_v9_0 : DevRef τ sig)) (h₁ : (r : DevRef τ sig) ≠ (main_v9_1 : DevRef τ sig))
    (h₂ : (r : DevRef τ sig) ≠ (main_v9_2 : DevRef τ sig)) : V5 m d r = V4 m d r := by
  unfold V5; rw [Function.update_of_ne h₂, Function.update_of_ne h₁, Function.update_of_ne h₀]

theorem VE_arg0 (d : Dev nD) : VE m d main_arg0 = m ((d.tc : Thread nD τ).loc main_arg0) := by
  unfold VE
  rw [StableHlo.reshape_result_ne _ _ _ _ _ _ _ (by decide), StableHlo.reshape_result_ne _ _ _ _ _ _ _ (by decide),
    StableHlo.reshape_result_ne _ _ _ _ _ _ _ (by decide), V5_ne m d main_arg0 (by decide) (by decide) (by decide)]
  unfold V4
  rw [StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    V3_ne' m d main_arg0 (by decide) (by decide), V2_ne m d main_arg0 (by decide), V1_ne m d main_arg0 (by decide)]

theorem V4_arg1 (d : Dev nD) : V4 m d main_arg1 = m ((d.tc : Thread nD τ).loc main_arg1) := by
  unfold V4
  rw [StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide), V3_arg1]

theorem VE_arg1 (d : Dev nD) : VE m d main_arg1 = m ((d.tc : Thread nD τ).loc main_arg1) := by
  unfold VE
  rw [StableHlo.reshape_result_ne _ _ _ _ _ _ _ (by decide), StableHlo.reshape_result_ne _ _ _ _ _ _ _ (by decide),
    StableHlo.reshape_result_ne _ _ _ _ _ _ _ (by decide), V5_ne m d main_arg1 (by decide) (by decide) (by decide), V4_arg1]

theorem ucRef (r : Ref sig .tc) (h : r.isScoped = false) : (r : DevRef τ sig) ∈ ucRefs :=
  Finset.mem_filter.mpr ⟨StableHlo.devRef_mem_tcRefs r, by simpa using h⟩

/-- What the run says of the arguments and the semaphores. -/
theorem QC_args {r : PUnit × MemSt nD τ sig (Elt F)} (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  ⟨fun c => ⟨(h.1 c ⟨_, ucRef main_arg0 rfl⟩).trans (VE_arg0 m c), (h.1 c ⟨_, ucRef main_arg1 rfl⟩).trans (VE_arg1 m c)⟩, h.2⟩

end Args

/-! ## The labels' range -/

/-- A word between zero and a hundred thousand, read without a sign. -/
theorem word_lt (w : BitVec 32) (h : IntOp.andi (IntOp.cmpi .sge w 0#32) (IntOp.cmpi .slt w 100000#32) = 1#1) : w.toNat < 100000 := by
  obtain ⟨h₀, h₁⟩ := IntOp.andi_eq_one.mp h
  rw [IntOp.cmpi_sge] at h₀
  rw [IntOp.cmpi_slt] at h₁
  have e₀ : (0#32 : BitVec 32).toInt = 0 := by decide
  have e₁ : (100000#32 : BitVec 32).toInt = 100000 := by decide
  rw [e₀, BitVec.toInt_eq_toNat_cond] at h₀
  rw [e₁, BitVec.toInt_eq_toNat_cond] at h₁
  split at h₁ <;> omega

instance : Subsingleton (Cert.Pre_targets_in_range.S_).Idx := ⟨fun a b => funext fun i => i.elim0⟩

theorem lt_of_pre {F : FTy → Type} [FloatOps F] (x : FVec F Cert.Pre_targets_in_range.S2048x100000 .f32) (t : IVec Cert.Pre_targets_in_range.S2048 32)
    (h : Cert.Pre_targets_in_range.fn (F := F) x t = fun _ => 1#1) (y : Cert.Pre_targets_in_range.S2048.Idx) : BitVec.toNat (t y) < 100000 := by
  have e := congrFun h (fun i => i.elim0)
  unfold Cert.Pre_targets_in_range.fn at e
  exact word_lt (t y) (Host.reduce_andi_all _ _ _ _ _ e y)

/-! ## The frames -/

instance elt_nonempty_ideal : ∀ e, Nonempty (Elt Ideal e) := fun e => by cases e <;> first | exact ⟨(0 : EReal)⟩ | exact ⟨BitVec.ofNat _ 0⟩

theorem frame_kernelIdeal : Cert.quiescent_KernelIdeal := fun m ρ hpre =>
  (θ_run Cert.KernelIdeal.defs _ _).mono (fun _ h => QC_args m h) (run_main m ρ fun d y => lt_of_pre _ _ (hpre d) y)

end Cert.Proof.Run

end
-- ==== Proof.FrameBits.lean ====
/-
  The frame of the kernel itself: the idealized kernel over machine floats, its named constants read as the words they were
  printed from, is the kernel.
-/
module

public import proofs.«01_k».proof.Proof.Frames
public import proofs.«01_k».proof.Proof.Gen.Kernel

@[expose] public section

noncomputable section

namespace Cert.Proof.Run

open Cert.KernelIdeal Cert.KernelIdeal.Gen

open Idealize.ShloMosaic Idealize.ShloMosaic.TcCoe Idealize.SL.Sem

/-- The words the kernel prints for its constants, as the named constants' values at the words. -/
local instance namedBits : Named Bits := ⟨fun _ _ _ w => Scalar.ofBits _ w⟩

instance elt_nonempty_bits : ∀ e, Nonempty (Elt Bits e) := fun e => by cases e <;> exact ⟨BitVec.ofNat _ 0⟩

/-! ## The two programs are one

Body by body, then the table of bodies, @main, and what runs. -/

theorem fin_eq (a) : Cert.Kernel.defs₀ (F := Bits) .tc 2 a = Cert.KernelIdeal.defs₀ (F := Bits) .tc 2 a := rfl
theorem main_body_eq (c s a) : Cert.Kernel.defs₀ (F := Bits) (.scVector c s) 0 a = Cert.KernelIdeal.defs₀ (F := Bits) (.scVector c s) 0 a := rfl
theorem gather_body_eq (c s a) : Cert.Kernel.defs₀ (F := Bits) (.scVector c s) 1 a = Cert.KernelIdeal.defs₀ (F := Bits) (.scVector c s) 1 a := rfl

theorem defs₀_eq : Cert.Kernel.defs₀ (F := Bits) = Cert.KernelIdeal.defs₀ (F := Bits) := by
  funext p ℓ a
  cases p <;> fin_cases ℓ <;> first | exact fin_eq a | exact main_body_eq _ _ a | exact gather_body_eq _ _ a | rfl

theorem defs_eq : Cert.Kernel.defs (F := Bits) = Cert.KernelIdeal.defs (F := Bits) := by
  unfold Cert.Kernel.defs Cert.KernelIdeal.defs
  rw [defs₀_eq]
  rfl

-- the two programs' lists of host lines and launches, compared line by line
set_option maxHeartbeats 3000000 in
theorem main_eq (d) : Cert.Kernel.main (F := Bits) d = Cert.KernelIdeal.main (F := Bits) d := by
  unfold Cert.Kernel.main Cert.KernelIdeal.main
  rfl

theorem threads_eq : Cert.Kernel.threads (F := Bits) = Cert.KernelIdeal.threads (F := Bits) := by
  unfold Cert.Kernel.threads Cert.KernelIdeal.threads
  rw [funext main_eq]
  rfl

theorem frame_kernel : Cert.quiescent_Kernel := by
  intro m ρ hpre
  rw [defs_eq, threads_eq]
  exact (θ_run Cert.KernelIdeal.defs _ _).mono (fun _ h => QC_args m h)
    (run_main (F := Bits) m ρ fun d y => lt_of_pre (F := Bits) _ _ (hpre d) y)

end Cert.Proof.Run

end
-- ==== Proof.RefRun.lean ====
/-
  The run of the reference. Its @main is a straight line of host operations, once the module-local functions (three uses of
  `where`, and `argmax`) are unfolded at their call sites: `ops` lists them, `main_eq` says so, and the library's `run_seq`
  runs the list. `loss`, `correct` and `nonPadding` are the three results as terms over the two arguments; `loss_eq`,
  `correct_eq` and `nonPadding_eq` say that the line leaves them.
-/
module

public import proofs.«01_k».proof.Proof.Gen.ReferenceIdeal
public import Idealize.ShloMosaic.Lib.StableHlo.Run
public import Idealize.ShloMosaic.Lib.Quiescent

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The results as terms -/

/-- Each position's word index, as one row. -/
abbrev words : IVec S1x100000 32 := broadcastInDim S1x100000 ![1] bcast_S100000_S1x100000_1 (iotaInDim S100000 32 0)

/-- The labels, as one column. -/
abbrev labels (t : IVec S2048 32) : IVec S2048x1 32 := broadcastInDim S2048x1 ![0] bcast_S2048_S2048x1_0 t

/-- The smoothing mass, a tenth. -/
abbrev mass : FVec F S_ .f32 := Host.divf (constant S_ .f32 0x3F800000#32) (constant S_ .f32 0x41200000#32)

/-- The confidence, what the smoothing leaves of one. -/
abbrev confidence : FVec F S_ .f32 := subf (constant S_ .f32 0x3F800000#32) (mass (F := F))

/-- The mass of one word that is not the label. -/
abbrev smoothing : FVec F S_ .f32 := Host.divf (mass (F := F)) (constant S_ .f32 0x47C34F00#32)

/-- A scalar at every position of the table. -/
abbrev everywhere (x : FVec F S_ .f32) : FVec F S2048x100000 .f32 := broadcastInDim S2048x100000 ![] bcast_S_S2048x100000 x

/-- The smoothed distribution before padding is cleared. -/
abbrev smoothed (t : IVec S2048 32) : FVec F S2048x100000 .f32 :=
  select (cmpi .eq (broadcastInDim S2048x100000 ![0, 1] bcast_S1x100000_S2048x100000_0_1 words)
      (broadcastInDim S2048x100000 ![0, 1] bcast_S2048x1_S2048x100000_0_1 (labels t)))
    (everywhere confidence) (everywhere smoothing)

/-- Where the word or the label is the padding index. -/
abbrev padded (t : IVec S2048 32) : IVec S2048x100000 1 :=
  ori (broadcastInDim S2048x100000 ![0, 1] bcast_S1x100000_S2048x100000_0_1
      (cmpi .eq words (broadcastInDim S1x100000 ![] bcast_S_S1x100000 (constantI S_ 32 0#32))))
    (broadcastInDim S2048x100000 ![0, 1] bcast_S2048x1_S2048x100000_0_1
      (cmpi .eq (labels t) (broadcastInDim S2048x1 ![] bcast_S_S2048x1 (constantI S_ 32 0#32))))

/-- The model distribution. -/
abbrev prob (t : IVec S2048 32) : FVec F S2048x100000 .f32 :=
  select (padded t) (everywhere (constant S_ .f32 0x00000000#32)) (smoothed t)

/-- Where the model distribution is positive. -/
abbrev positive (t : IVec S2048 32) : IVec S2048x100000 1 :=
  cmpf .ogt (prob (F := F) t) (everywhere (constant S_ .f32 0x00000000#32))

/-- Each position's term of the divergence. -/
abbrev term (x : FVec F S2048x100000 .f32) (t : IVec S2048 32) : FVec F S2048x100000 .f32 :=
  select (positive (F := F) t)
    (mulf (prob t) (subf (Host.log (select (positive (F := F) t) (prob t) (everywhere (constant S_ .f32 0x3F800000#32)))) x))
    (everywhere (constant S_ .f32 0x00000000#32))

/-- The loss: the sum of every position's term. -/
def loss (x : FVec F S2048x100000 .f32) (t : IVec S2048 32) : FVec F S_ .f32 :=
  Host.reduceAdd (term x t) (constant S_ .f32 0x00000000#32) reducesTo_S2048x100000_S_d0_1 h_S_

/-- Each row's predicted word. -/
abbrev predicted (x : FVec F S2048x100000 .f32) : IVec S2048 32 := fun j =>
  (Host.argReduce reducer_argmax_f32_i32 x (iotaInDim S2048x100000 32 1) (constant S_ .f32 0xFF800000#32) (constantI S_ 32 0#32)
    reducesTo_S2048x100000_S2048_d1 h_S_ j).2

/-- The rows whose label is not the padding index. -/
abbrev labelled (t : IVec S2048 32) : IVec S2048 1 :=
  cmpi .ne t (broadcastInDim S2048 ![] bcast_S_S2048 (constantI S_ 32 0#32))

/-- The number of labelled rows whose predicted word is the label. -/
def correct (x : FVec F S2048x100000 .f32) (t : IVec S2048 32) : IVec S_ 32 :=
  Host.reduce IntOp.addi (extui 32 (andi (cmpi .eq (predicted x) t) (labelled t)) natLt_1_32) (constantI S_ 32 0#32)
    reducesTo_S2048_S_d0 h_S_

/-- The number of labelled rows. -/
def nonPadding (t : IVec S2048 32) : IVec S_ 32 :=
  Host.reduce IntOp.addi (extui 32 (labelled t) natLt_1_32) (constantI S_ 32 0#32) reducesTo_S2048_S_d0 h_S_

/-! ## The run -/

/-- @main's operations in order, the module-local functions' own among them. -/
abbrev ops : List (HloOp τ sig (Elt F)) :=
  [ nullary main_cst (constant S_ .f32 0x3F800000#32),
    nullary main_cst_0 (constant S_ .f32 0x41200000#32),
    binary main_cst main_cst_0 main_v0 Host.divf,
    nullary main_cst_1 (constant S_ .f32 0x3F800000#32),
    binary main_cst_1 main_v0 main_v1 subf,
    nullary main_cst_2 (constant S_ .f32 0x47C34F00#32),
    binary main_v0 main_cst_2 main_v2 Host.divf,
    nullary main_v3 (iotaInDim S100000 32 0),
    unary main_v3 main_v4 (broadcastInDim S1x100000 ![1] bcast_S100000_S1x100000_1),
    unary main_arg1 main_v5 (broadcastInDim S2048x1 ![0] bcast_S2048_S2048x1_0),
    unary main_v4 main_v6 (broadcastInDim S2048x100000 ![0, 1] bcast_S1x100000_S2048x100000_0_1),
    unary main_v5 main_v7 (broadcastInDim S2048x100000 ![0, 1] bcast_S2048x1_S2048x100000_0_1),
    binary main_v6 main_v7 main_v8 (cmpi .eq),
    TRef.unary (.of main_v1 : TRef sig ⟨S_, .f32⟩) main_call0.v0 (broadcastInDim S2048x100000 ![] bcast_S_S2048x100000),
    TRef.unary (.of main_v2 : TRef sig ⟨S_, .f32⟩) main_call0.v1 (broadcastInDim S2048x100000 ![] bcast_S_S2048x100000),
    TRef.ternary (.of main_v8 : TRef sig ⟨S2048x100000, .i1⟩) main_call0.v0 main_call0.v1 main_call0.v2 select,
    nullary main_c (constantI S_ 32 0#32),
    unary main_c main_v10 (broadcastInDim S1x100000 ![] bcast_S_S1x100000),
    binary main_v4 main_v10 main_v11 (cmpi .eq),
    nullary main_c_3 (constantI S_ 32 0#32),
    unary main_c_3 main_v12 (broadcastInDim S2048x1 ![] bcast_S_S2048x1),
    binary main_v5 main_v12 main_v13 (cmpi .eq),
    unary main_v11 main_v14 (broadcastInDim S2048x100000 ![0, 1] bcast_S1x100000_S2048x100000_0_1),
    unary main_v13 main_v15 (broadcastInDim S2048x100000 ![0, 1] bcast_S2048x1_S2048x100000_0_1),
    binary main_v14 main_v15 main_v16 ori,
    nullary main_cst_4 (constant S_ .f32 0x00000000#32),
    TRef.unary (.of main_cst_4 : TRef sig ⟨S_, .f32⟩) main_call1.v0 id,
    TRef.unary main_call1.v0 main_call1.v1 (broadcastInDim S2048x100000 ![] bcast_S_S2048x100000),
    TRef.ternary (.of main_v16 : TRef sig ⟨S2048x100000, .i1⟩) main_call1.v1 (.of main_v9 : TRef sig ⟨S2048x100000, .f32⟩) main_call1.v2 select,
    nullary main_cst_5 (constant S_ .f32 0x00000000#32),
    unary main_cst_5 main_v18 (broadcastInDim S2048x100000 ![] bcast_S_S2048x100000),
    binary main_v17 main_v18 main_v19 (cmpf .ogt),
    nullary main_cst_6 (constant S_ .f32 0x3F800000#32),
    TRef.unary (.of main_cst_6 : TRef sig ⟨S_, .f32⟩) main_call2.v0 id,
    TRef.unary main_call2.v0 main_call2.v1 (broadcastInDim S2048x100000 ![] bcast_S_S2048x100000),
    TRef.ternary (.of main_v19 : TRef sig ⟨S2048x100000, .i1⟩) (.of main_v17 : TRef sig ⟨S2048x100000, .f32⟩) main_call2.v1 main_call2.v2 select,
    unary main_v20 main_v21 Host.log,
    binary main_v21 main_arg0 main_v22 subf,
    binary main_v17 main_v22 main_v23 mulf,
    nullary main_cst_7 (constant S_ .f32 0x00000000#32),
    TRef.unary (.of main_cst_7 : TRef sig ⟨S_, .f32⟩) main_call3.v0 id,
    TRef.unary main_call3.v0 main_call3.v1 (broadcastInDim S2048x100000 ![] bcast_S_S2048x100000),
    TRef.ternary (.of main_v19 : TRef sig ⟨S2048x100000, .i1⟩) (.of main_v23 : TRef sig ⟨S2048x100000, .f32⟩) main_call3.v1 main_call3.v2 select,
    nullary main_cst_8 (constant S_ .f32 0x00000000#32),
    binary main_v24 main_cst_8 main_v25 (fun x v => Host.reduceAdd x v reducesTo_S2048x100000_S_d0_1 h_S_),
    TRef.nullary main_call4.v0 (iotaInDim S2048x100000 32 1),
    TRef.nullary main_call4.cst (constant S_ .f32 0xFF800000#32),
    TRef.nullary main_call4.c (constantI S_ 32 0#32),
    TRef.quaternary (.of main_arg0 : TRef sig ⟨S2048x100000, .f32⟩) main_call4.v0 main_call4.cst main_call4.c main_call4.v1_0 (fun x y u v j => (Host.argReduce reducer_argmax_f32_i32 x y u v reducesTo_S2048x100000_S2048_d1 h_S_ j).1),
    TRef.quaternary (.of main_arg0 : TRef sig ⟨S2048x100000, .f32⟩) main_call4.v0 main_call4.cst main_call4.c main_call4.v1_1 (fun x y u v j => (Host.argReduce reducer_argmax_f32_i32 x y u v reducesTo_S2048x100000_S2048_d1 h_S_ j).2),
    nullary main_c_9 (constantI S_ 32 0#32),
    unary main_c_9 main_v27 (broadcastInDim S2048 ![] bcast_S_S2048),
    binary main_arg1 main_v27 main_v28 (cmpi .ne),
    binary main_v26 main_arg1 main_v29 (cmpi .eq),
    binary main_v29 main_v28 main_v30 andi,
    unary main_v30 main_v31 (extui 32 · natLt_1_32),
    nullary main_c_10 (constantI S_ 32 0#32),
    binary main_v31 main_c_10 main_v32 (fun x v => Host.reduce IntOp.addi x v reducesTo_S2048_S_d0 h_S_),
    unary main_v28 main_v33 (extui 32 · natLt_1_32),
    nullary main_c_11 (constantI S_ 32 0#32),
    binary main_v33 main_c_11 main_v34 (fun x v => Host.reduce IntOp.addi x v reducesTo_S2048_S_d0 h_S_) ]

theorem main_eq (c : Dev nD) : main (F := F) c = seq ops := by
  simp only [main, fn_where.body, fn_where_0.body, fn_where_1.body, fn_argmax.body, seq, bind_assoc, pure_bind]
  rfl

theorem loss_eq (V : Valuation τ sig (Elt F)) :
    after ops V (main_v25 : DevRef τ sig) = loss (V (main_arg0 : DevRef τ sig)) (V (main_arg1 : DevRef τ sig)) := by
  after_results_simp
  rfl

theorem correct_eq (V : Valuation τ sig (Elt F)) :
    after ops V (main_v32 : DevRef τ sig) = correct (V (main_arg0 : DevRef τ sig)) (V (main_arg1 : DevRef τ sig)) := by
  after_results_simp
  rfl

theorem nonPadding_eq (V : Valuation τ sig (Elt F)) :
    after ops V (main_v34 : DevRef τ sig) = nonPadding (V (main_arg1 : DevRef τ sig)) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., binary_bufs_sub ..,
    nullary_bufs_sub .., binary_bufs_sub .., nullary_bufs_sub .., unary_bufs_sub .., unary_bufs_sub .., unary_bufs_sub
    .., unary_bufs_sub .., binary_bufs_sub .., unary_bufs_sub .., unary_bufs_sub .., ternary_bufs_sub ..,
    nullary_bufs_sub .., unary_bufs_sub .., binary_bufs_sub .., nullary_bufs_sub .., unary_bufs_sub .., binary_bufs_sub
    .., unary_bufs_sub .., unary_bufs_sub .., binary_bufs_sub .., nullary_bufs_sub .., unary_bufs_sub .., unary_bufs_sub
    .., ternary_bufs_sub .., nullary_bufs_sub .., unary_bufs_sub .., binary_bufs_sub .., nullary_bufs_sub ..,
    unary_bufs_sub .., unary_bufs_sub .., ternary_bufs_sub .., unary_bufs_sub .., binary_bufs_sub .., binary_bufs_sub
    .., nullary_bufs_sub .., unary_bufs_sub .., unary_bufs_sub .., ternary_bufs_sub .., nullary_bufs_sub ..,
    binary_bufs_sub .., nullary_bufs_sub .., nullary_bufs_sub .., nullary_bufs_sub .., quaternary_bufs_sub ..,
    quaternary_bufs_sub .., nullary_bufs_sub .., unary_bufs_sub .., binary_bufs_sub .., binary_bufs_sub ..,
    binary_bufs_sub .., unary_bufs_sub .., nullary_bufs_sub .., binary_bufs_sub .., unary_bufs_sub .., nullary_bufs_sub
    .., binary_bufs_sub ..⟩

/-- Every execution of the reference terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.Finite.lean ====
/-
  What the precondition of the value claim says: each label is a column of the table, and each entry of the table is a real
  number. The frame under it.
-/
module

public import proofs.«01_k».proof.Proof.Frames
public import proofs.«01_k».proof.Proof.Gen.Pre_targets_in_range_finite

@[expose] public section

noncomputable section

namespace Cert.Proof.Run

open Idealize.ShloMosaic Idealize.ShloMosaic.TcCoe Idealize.SL.Sem

instance : Subsingleton (Cert.Pre_targets_in_range_finite.S_).Idx := ⟨fun a b => funext fun i => i.elim0⟩

theorem pre_finite {F : FTy → Type} [FloatOps F] (x : FVec F Cert.Pre_targets_in_range_finite.S2048x100000 .f32) (t : IVec Cert.Pre_targets_in_range_finite.S2048 32)
    (h : Cert.Pre_targets_in_range_finite.fn (F := F) x t = fun _ => 1#1) :
    (∀ y : Cert.Pre_targets_in_range_finite.S2048.Idx, BitVec.toNat (t y) < 100000)
      ∧ ∀ y : Cert.Pre_targets_in_range_finite.S2048x100000.Idx, cmpf .olt (Host.absf x)
          (broadcastInDim Cert.Pre_targets_in_range_finite.S2048x100000 ![] Cert.Pre_targets_in_range_finite.Gen.bcast_S_S2048x100000
            (constant (F := F) Cert.Pre_targets_in_range_finite.S_ .f32 0x7F800000#32)) y = 1#1 := by
  have e := congrFun h (fun i => i.elim0)
  unfold Cert.Pre_targets_in_range_finite.fn at e
  obtain ⟨e₀, e₁⟩ := IntOp.andi_eq_one.mp e
  exact ⟨fun y => word_lt (t y) (Host.reduce_andi_all _ _ _ _ _ e₀ y), fun y => Host.reduce_andi_all _ _ _ _ _ e₁ y⟩

/-- The word of infinity, read ideally. -/
theorem infinity_eq : Ideal.ofBits .f32 0x7F800000#32 = (⊤ : EReal) := by simp [Ideal.ofBits, Ideal.ieee]

/-- A number whose absolute value is under infinity is real. -/
theorem real_of_abs_lt (v : EReal) (h : Ideal.cmp .olt (max v (-v) : EReal) (⊤ : EReal) = 1#1) : v = ((v.toReal : ℝ) : EReal) := by
  have h' : max v (-v) < ⊤ := by
    by_contra hn
    have : Ideal.cmp .olt (max v (-v) : EReal) (⊤ : EReal) = 0#1 := by
      show BitVec.ofBool (decide (max v (-v) < (⊤ : EReal))) = 0#1
      rw [decide_eq_false hn]; rfl
    rw [this] at h
    exact absurd h (by decide)
  obtain ⟨h₀, h₁⟩ := max_lt_iff.mp h'
  refine (EReal.coe_toReal h₀.ne fun e => ?_).symm
  rw [e] at h₁
  exact absurd h₁ (by simp)

theorem real_of_pre (x : FVec Ideal Cert.Pre_targets_in_range_finite.S2048x100000 .f32) (t : IVec Cert.Pre_targets_in_range_finite.S2048 32)
    (h : Cert.Pre_targets_in_range_finite.fn (F := Ideal) x t = fun _ => 1#1) (y : Cert.Pre_targets_in_range_finite.S2048x100000.Idx) :
    x y = (((x y : EReal).toReal : ℝ) : EReal) := by
  refine real_of_abs_lt (x y) (Eq.trans ?_ ((pre_finite x t h).2 y))
  show Ideal.cmp .olt _ (⊤ : EReal) = Ideal.cmp .olt _ (Ideal.ofBits .f32 0x7F800000#32)
  rw [infinity_eq]
  rfl

theorem frame_kernelIdeal_finite : Cert.quiescent_KernelIdeal_pre_targets_in_range_finite := fun m ρ hpre =>
  (θ_run Cert.KernelIdeal.defs _ _).mono (fun _ h => QC_args m h) (run_main m ρ fun d y => (pre_finite _ _ (hpre d)).1 y)

end Cert.Proof.Run

end
-- ==== Proof.Arith.lean ====
/-
  The arithmetic that joins the two programs, over a row of extended reals: sums regrouped by lane, the first position of a
  row's greatest value kept lane by lane, and the row's share of the loss.
-/
module

public import Idealize.ShloMosaic.PureOps.Reduce
public import Idealize.ShloMosaic.PureOps.Ideal
public import Idealize.ShloMosaic.PureOps.Ideal.Laws

@[expose] public section

noncomputable section

namespace Cert.Proof.Arith

open Idealize.ShloMosaic

/-! ## Sums -/

/-- A running sum is the sum of what it ran over. -/
theorem running_sum (g s : ℕ → EReal) (h0 : s 0 = 0) (hs : ∀ n, s (n + 1) = s n + g n) : ∀ n, s n = ∑ k ∈ Finset.range n, g k
  | 0 => by rw [h0, Finset.sum_range_zero]
  | n + 1 => by rw [hs, Finset.sum_range_succ, running_sum g s h0 hs n]

/-- The lanes' sums add up to the row's. -/
theorem lanes_sum (f : ℕ → EReal) : ∀ n, ∑ l : Fin 16, ∑ k ∈ Finset.range n, f (16 * k + l.val) = ∑ w ∈ Finset.range (16 * n), f w
  | 0 => by simp
  | n + 1 => by
    rw [show 16 * (n + 1) = 16 * n + 16 from rfl, Finset.sum_range_add, ← lanes_sum f n,
      ← Fin.sum_univ_eq_sum_range (fun x => f (16 * n + x)) 16, ← Finset.sum_add_distrib]
    exact Finset.sum_congr rfl fun l _ => Finset.sum_range_succ _ _

/-! ## The first greatest value -/

/-- `p` is the first position below `N` at which `f` is greatest. -/
def First (f : ℕ → EReal) (N p : ℕ) : Prop := p < N ∧ (∀ w < N, f w ≤ f p) ∧ ∀ w < p, f w < f p

/-- One more position. -/
theorem First.succ {f : ℕ → EReal} {N p : ℕ} (h : First f N p) : First f (N + 1) (if f p < f N then N else p) := by
  obtain ⟨h0, h1, h2⟩ := h
  split
  · rename_i hlt
    refine ⟨Nat.lt_succ_self N, fun w hw => ?_, fun w hw => lt_of_le_of_lt (h1 w hw) hlt⟩
    rcases Nat.lt_succ_iff_lt_or_eq.mp hw with hw | rfl
    · exact le_of_lt (lt_of_le_of_lt (h1 w hw) hlt)
    · exact le_rfl
  · rename_i hle
    refine ⟨Nat.lt_succ_of_lt h0, fun w hw => ?_, h2⟩
    rcases Nat.lt_succ_iff_lt_or_eq.mp hw with hw | rfl
    · exact h1 w hw
    · exact not_lt.mp hle

theorem First.one (f : ℕ → EReal) : First f 1 0 :=
  ⟨Nat.one_pos, fun w hw => by rw [Nat.lt_one_iff.mp hw], fun w hw => absurd hw (Nat.not_lt_zero w)⟩

theorem exists_first (f : ℕ → EReal) : ∀ N, ∃ p, First f (N + 1) p
  | 0 => ⟨0, First.one f⟩
  | N + 1 => let ⟨_, hp⟩ := exists_first f N; ⟨_, hp.succ⟩

/-- A running maximum with the position that brought it. -/
theorem running_max (g M : ℕ → EReal) (A : ℕ → BitVec 32) (hg : ⊥ < g 0) (M0 : M 0 = ⊥) (hM : ∀ n, M (n + 1) = max (M n) (g n))
    (hA : ∀ n, A (n + 1) = if M n < g n then BitVec.ofNat 32 n else A n) :
    ∀ n, ∃ a, First g (n + 1) a ∧ M (n + 1) = g a ∧ A (n + 1) = BitVec.ofNat 32 a
  | 0 => ⟨0, First.one g, by rw [hM, M0, max_eq_right bot_le], by rw [hA, M0, if_pos hg]⟩
  | n + 1 => by
    obtain ⟨a, ha, hMa, hAa⟩ := running_max g M A hg M0 hM hA n
    refine ⟨_, ha.succ, ?_, ?_⟩
    · rw [hM, hMa]
      split
      · rename_i h; exact max_eq_right (le_of_lt h)
      · rename_i h; exact max_eq_left (not_lt.mp h)
    · rw [hA, hMa, hAa]
      split <;> rfl

/-! ## Folds that one element decides -/

section Fold
variable {α ι : Type} (op : α → α → α) [Std.Commutative op] [Std.Associative op]

theorem fold_absorbed (g : ι → α) (b c : α) (hb : op c b = c) (s : Finset ι) (h : ∀ k ∈ s, op c (g k) = c) : op c (s.fold op b g) = c := by
  classical
  induction s using Finset.cons_induction with
  | empty => exact hb
  | cons a s ha ih =>
    rw [Finset.fold_cons, ← Std.Associative.assoc (op := op), h a (Finset.mem_cons_self a s)]
    exact ih fun k hk => h k (Finset.mem_cons_of_mem hk)

theorem fold_decided (g : ι → α) (b c : α) (hb : op c b = c) (s : Finset ι) (h : ∀ k ∈ s, op c (g k) = c) (k : ι) (hk : k ∈ s) (hc : g k = c) :
    s.fold op b g = c := by
  classical
  rw [← Finset.insert_erase hk, Finset.fold_insert (Finset.notMem_erase k s), hc]
  exact fold_absorbed op g b c hb _ fun j hj => h j (Finset.mem_of_mem_erase hj)

end Fold

theorem foldl_decided {α : Type} (op : α → α → α) (D : α → Prop) (P : α) (hP : D P) (hD : ∀ a b, D a → D b → D (op a b))
    (hl : ∀ b, D b → op P b = P) (hr : ∀ a, D a → op a P = P) :
    ∀ (L : List α) (acc : α), D acc → (∀ a ∈ L, D a) → (acc = P ∨ P ∈ L) → L.foldl op acc = P
  | [], acc, _, _, h => h.elim id fun h => nomatch h
  | a :: L, acc, hacc, hL, h => by
    have ha := hL a List.mem_cons_self
    refine foldl_decided op D P hP hD hl hr L (op acc a) (hD _ _ hacc ha) (fun b hb => hL b (List.mem_cons_of_mem a hb)) ?_
    rcases h with rfl | h
    · exact Or.inl (hl a ha)
    · rcases List.mem_cons.mp h with rfl | h
      · exact Or.inl (hr acc hacc)
      · exact Or.inr h

/-! ## The lanes' maxima joined -/

theorem slt_ofNat (p q : ℕ) (hp : p < 2147483648) (hq : q < 2147483648) : (BitVec.ofNat 32 p).slt (BitVec.ofNat 32 q) = decide (p < q) := by
  have e (n : ℕ) (hn : n < 2147483648) : (BitVec.ofNat 32 n).toInt = n := by
    rw [BitVec.toInt_eq_toNat_of_lt (by rw [BitVec.toNat_ofNat]; omega), BitVec.toNat_ofNat]; omega
  unfold BitVec.slt
  rw [e p hp, e q hq]
  simp

theorem minsi_ofNat (p q : ℕ) (hpq : p ≤ q) (hq : q < 2147483648) : IntOp.minsi (BitVec.ofNat 32 p) (BitVec.ofNat 32 q) = BitVec.ofNat 32 p := by
  unfold IntOp.minsi
  rw [slt_ofNat p q (by omega) hq]
  split
  · rfl
  · rename_i h
    rw [show p = q from le_antisymm hpq (by simpa using h)]

/-- The greatest of the lanes' maxima is the row's, and the least position among the lanes that hold it is the row's first. -/
theorem lanes_first (f : ℕ → EReal) (n p : ℕ) (hn : 16 * n ≤ 1073741824) (hp : First f (16 * n) p) (M : Fin 16 → EReal) (A : Fin 16 → BitVec 32)
    (h : ∀ l : Fin 16, ∃ a, First (fun k => f (16 * k + l.val)) n a ∧ M l = f (16 * a + l.val) ∧ A l = BitVec.ofNat 32 a) :
    (Finset.univ : Finset (Fin 16)).fold max ⊥ M = f p
      ∧ (Finset.univ : Finset (Fin 16)).fold IntOp.minsi 2147483647#32
          (fun l => if M l = f p then A l * 16#32 + BitVec.ofNat 32 l.val else 1073741824#32) = BitVec.ofNat 32 p := by
  obtain ⟨hpn, hmax, hfirst⟩ := hp
  have hk : p / 16 < n := by omega
  obtain ⟨a, ⟨han, hamax, hafirst⟩, hMa, hAa⟩ := h ⟨p % 16, Nat.mod_lt _ (by decide)⟩
  dsimp only at han hamax hafirst hMa hAa
  have hple : f p ≤ f (16 * a + p % 16) := by
    have := hamax (p / 16) hk
    rwa [show 16 * (p / 16) + p % 16 = p by omega] at this
  have hwn : 16 * a + p % 16 < 16 * n := by omega
  have heq : f (16 * a + p % 16) = f p := le_antisymm (hmax _ hwn) hple
  have hap : a = p / 16 := by
    rcases lt_trichotomy a (p / 16) with hlt | he | hgt
    · exact absurd (hfirst (16 * a + p % 16) (by omega)) (by rw [heq]; exact lt_irrefl _)
    · exact he
    · have := hafirst (p / 16) hgt
      rw [show 16 * (p / 16) + p % 16 = p by omega, heq] at this
      exact absurd this (lt_irrefl _)
  have word (a l : ℕ) : BitVec.ofNat 32 a * 16#32 + BitVec.ofNat 32 l = BitVec.ofNat 32 (16 * a + l) := by
    rw [Nat.mul_comm, BitVec.ofNat_add, BitVec.ofNat_mul]
  have hM (l : Fin 16) : M l ≤ f p := by
    obtain ⟨b, ⟨hb, -, -⟩, hMb, -⟩ := h l
    rw [hMb]; exact hmax _ (by have := l.isLt; omega)
  refine ⟨?_, ?_⟩
  · refine fold_decided max M ⊥ (f p) (max_eq_left bot_le) Finset.univ (fun l _ => max_eq_left (hM l)) ⟨p % 16, Nat.mod_lt _ (by decide)⟩ (Finset.mem_univ _) ?_
    rw [hMa, heq]
  · refine fold_decided IntOp.minsi _ _ (BitVec.ofNat 32 p) (minsi_ofNat p 2147483647 (by omega) (by decide)) Finset.univ (fun l _ => ?_)
      ⟨p % 16, Nat.mod_lt _ (by decide)⟩ (Finset.mem_univ _) ?_
    · split
      · rename_i hl
        obtain ⟨b, ⟨hb, -, -⟩, hMb, hAb⟩ := h l
        have hlt := l.isLt
        rw [hAb, word]
        refine minsi_ofNat p _ ?_ (by omega)
        by_contra hlt'
        exact absurd (hfirst (16 * b + l.val) (by omega)) (by rw [← hMb, hl]; exact lt_irrefl _)
      · exact minsi_ofNat p 1073741824 (by omega) (by decide)
    · rw [if_pos (by rw [hMa, heq]), hAa, word, hap]
      congr 1; dsimp only; omega

/-! ## The loss of a row -/

/-- The terms of a row with label `t`, summed. -/
theorem row_sum (y : ℕ → ℝ) (N t : ℕ) (ht0 : t ≠ 0) (ht : t < N) (sv conf ls lc : ℝ) :
    ∑ w ∈ Finset.range N, (if w = 0 then 0 else if w = t then conf * (lc - y t) else sv * (ls - y w))
      = conf * lc + sv * ((N - 2) * ls) - sv * (∑ w ∈ Finset.range N, y w - y 0 - y t) - conf * y t := by
  have e (w : ℕ) : (if w = 0 then 0 else if w = t then conf * (lc - y t) else sv * (ls - y w))
      = (sv * ls - sv * y w) + (if w = 0 then -(sv * (ls - y 0)) else 0) + (if w = t then conf * (lc - y t) - sv * (ls - y t) else 0) := by
    by_cases h0 : w = 0
    · subst h0; rw [if_pos rfl, if_pos rfl, if_neg (Ne.symm ht0)]; ring
    · by_cases h1 : w = t
      · subst h1; rw [if_neg h0, if_pos rfl, if_neg h0, if_pos rfl]; ring
      · rw [if_neg h0, if_neg h1, if_neg h0, if_neg h1]; ring
  rw [Finset.sum_congr rfl fun w _ => e w, Finset.sum_add_distrib, Finset.sum_add_distrib, Finset.sum_sub_distrib, Finset.sum_const,
    Finset.card_range, ← Finset.mul_sum, Finset.sum_ite_eq' _ 0, Finset.sum_ite_eq' _ t, if_pos (Finset.mem_range.mpr (by omega)),
    if_pos (Finset.mem_range.mpr ht), nsmul_eq_mul]
  ring

/-- The entropy of a row's smoothed distribution, as the kernel's one constant. -/
theorem entropy : (9 / 10 : ℝ) * Real.log (9 / 10) + 1 / 999980 * ((100000 - 2) * Real.log (1 / 999980))
    = 1 / 10 * Real.log (387420489 / 999980000000000) := by
  have e : (387420489 / 999980000000000 : ℝ) = (9 / 10) ^ 9 * (1 / 999980) := by norm_num
  rw [e, Real.log_mul (by norm_num) (by norm_num), Real.log_pow]
  push_cast
  ring

/-- A sum of reals, among the extended ones. -/
theorem coe_sum {ι : Type} (s : Finset ι) (y : ι → ℝ) : ((∑ w ∈ s, y w : ℝ) : EReal) = ∑ w ∈ s, (y w : EReal) := by
  classical
  induction s using Finset.cons_induction with
  | empty => rfl
  | cons a s ha ih => rw [Finset.sum_cons, Finset.sum_cons, EReal.coe_add, ih]

/-! ## The results -/

/-- The loss of the table `y` with labels `t`: nothing from a row labelled with the padding index. -/
def lossOf (y : Fin 2048 → ℕ → ℝ) (t : Fin 2048 → BitVec 32) : EReal :=
  ∑ r : Fin 2048, if t r = 0#32 then 0 else
    ((1 / 10 * Real.log (387420489 / 999980000000000)
      - 1 / 999980 * (∑ w ∈ Finset.range 100000, y r w - y r 0 - y r (t r).toNat) - 9 / 10 * y r (t r).toNat : ℝ) : EReal)

/-- How many rows' predicted words `p` are their labels, the padding index aside. -/
def correctOf (p : Fin 2048 → ℕ) (t : Fin 2048 → BitVec 32) : BitVec 32 :=
  (Finset.univ : Finset (Fin 2048)).fold IntOp.addi 0#32 fun r => if BitVec.ofNat 32 (p r) = t r ∧ t r ≠ 0#32 then 1#32 else 0#32

/-- How many rows have a label. -/
def nonPaddingOf (t : Fin 2048 → BitVec 32) : BitVec 32 :=
  (Finset.univ : Finset (Fin 2048)).fold IntOp.addi 0#32 fun r => if t r ≠ 0#32 then 1#32 else 0#32

end Cert.Proof.Arith

end
-- ==== Proof.FinValue.lean ====
/-
  The finalising kernel's three results over the extended reals: what its run leaves, as the loss and the two counts of a
  table of real numbers, from the lanes' sums, maxima and positions of every row.
-/
module

public import proofs.«01_k».proof.Proof.Finalize
public import proofs.«01_k».proof.Proof.Arith
public import Idealize.ShloMosaic.Lib.Pointwise.Reduce
public import Idealize.ShloMosaic.Lib.Pipeline.Value

@[expose] public section

noncomputable section

namespace Cert.Proof.Run

open Cert.KernelIdeal Cert.KernelIdeal.Gen
open Idealize.ShloMosaic Idealize.ShloMosaic.TcCoe
open Cert.Proof.Arith

/-! ## Reshapes and reductions of columns -/

/-- A column of row values, by row. -/
theorem column_at {α : Type} (x : S2048.Idx → α) (r : Fin 2048) : shapeCast S2048x1 x shapeCasts_S2048_S2048x1 (ix2 r 0) = x (ix1 r) :=
  shapeCast_apply x _ _ _ (by rw [Shape.rowMajor_val_one, Shape.rowMajor_val_two]; show r.val = r.val * 1 + 0; omega)

/-- A column as one block, by row. -/
theorem block_at {α : Type} (x : S2048x1.Idx → α) (k : Fin 1) (r : Fin 2048) (l : Fin 1) :
    shapeCast S1x2048x1 x shapeCasts_S2048x1_S1x2048x1 (ix3 k r l) = x (ix2 r 0) :=
  shapeCast_apply x _ _ _ (by
    rw [Shape.rowMajor_val_two, Shape.rowMajor_val_three]
    show r.val * 1 + 0 = (k.val * 2048 + r.val) * 1 + l.val
    omega)

/-- The one element of a block of ones. -/
theorem single_at {α : Type} (x : S1.Idx → α) :
    extractAt ![0, 0, 0] (shapeCast S1x1x1 x shapeCasts_S1_S1x1x1) inpos_S1x1x1_p0_0_0 = x (ix1 0) :=
  shapeCast_apply x _ _ _ (by rw [Shape.rowMajor_val_one, Shape.rowMajor_val_three]; rfl)

/-- A column's sum. -/
theorem column_sum (x : FVec Ideal S2048x1 .f32) (hφ : FKind.Formats .f32) (ha : (0x00000000#32 : BitVec (FTy.bits .f32)) = FKind.add.neutral .f32 hφ) :
    extractAt ![0, 0, 0] (shapeCast S1x1x1 (multiReduction .add [1, 2] S1 (shapeCast S1x2048x1 x shapeCasts_S2048x1_S1x2048x1) 0x00000000#32
      reduces_S1x2048x1_S1 hφ ha) shapeCasts_S1_S1x1x1) inpos_S1x1x1_p0_0_0 = (∑ r : Fin 2048, x (ix2 r 0) : EReal) := by
  rw [single_at]
  refine (Ideal.reduceAdd_r3_a12 reduces_S1x2048x1_S1 _ _).trans (Finset.sum_congr rfl fun r _ => ?_)
  rw [Finset.univ_unique, Finset.sum_singleton]
  exact block_at x _ r _

/-- A column's sum of words. -/
theorem column_fold (x : IVec S2048x1 32) (ha : (0#32 : BitVec 32) = IKind.add.neutral) :
    extractAt ![0, 0, 0] (shapeCast S1x1x1 (multiReductionI .add [1, 2] S1 (shapeCast S1x2048x1 x shapeCasts_S2048x1_S1x2048x1) 0#32
      reduces_S1x2048x1_S1 ha) shapeCasts_S1_S1x1x1) inpos_S1x1x1_p0_0_0 = Finset.univ.fold IntOp.addi 0#32 fun r : Fin 2048 => x (ix2 r 0) := by
  rw [single_at, multiReductionI_eq_fold]
  refine (Shape.Reduces.fold_fiber_r3_a12 reduces_S1x2048x1_S1 _ IntOp.addi _ _).trans ?_
  rw [show (Finset.univ : Finset (Fin 2048 × Fin 1)) = Finset.univ.map ⟨fun r => (r, 0), fun a b h => (Prod.mk.inj h).1⟩ from
    (Finset.eq_univ_of_forall fun k => Finset.mem_map.mpr ⟨k.1, Finset.mem_univ _, Prod.ext rfl (Subsingleton.elim _ _)⟩).symm, Finset.fold_map]
  exact congrArg (fun v => Finset.fold IntOp.addi 0#32 v Finset.univ) (funext fun r => block_at x _ r _)

/-- A row's sum over its lanes. -/
theorem row_add (x : FVec Ideal S2048x16 .f32) (hφ : FKind.Formats .f32) (ha : (0x00000000#32 : BitVec (FTy.bits .f32)) = FKind.add.neutral .f32 hφ) (r : Fin 2048) :
    multiReduction .add [1] S2048 x 0x00000000#32 reduces_S2048x16_S2048 hφ ha (ix1 r) = (∑ l : Fin 16, x (ix2 r l) : EReal) :=
  Ideal.reduceAdd_r2_a1 reduces_S2048x16_S2048 _ _

/-- A row's maximum over its lanes. -/
theorem row_max (x : FVec Ideal S2048x16 .f32) (hφ : FKind.Formats .f32) (ha : (0xFF800000#32 : BitVec (FTy.bits .f32)) = FKind.maximumf.neutral .f32 hφ) (r : Fin 2048) :
    multiReduction .maximumf [1] S2048 x 0xFF800000#32 reduces_S2048x16_S2048 hφ ha (ix1 r) = Finset.univ.fold max (⊥ : EReal) fun l : Fin 16 => x (ix2 r l) := by
  haveI : Std.Commutative (FloatOps.maximumf (F := Ideal) (φ := .f32)) := inferInstanceAs (Std.Commutative (max : EReal → EReal → EReal))
  haveI : Std.Associative (FloatOps.maximumf (F := Ideal) (φ := .f32)) := inferInstanceAs (Std.Associative (max : EReal → EReal → EReal))
  rw [multiReduction_maximumf_eq_fold]
  refine (Shape.Reduces.fold_fiber_r2_a1 reduces_S2048x16_S2048 _ (max : EReal → EReal → EReal) _ _).trans ?_
  rw [show FloatOps.ofBits (F := Ideal) .f32 0xFF800000#32 = (⊥ : EReal) by
    show Ideal.ofBits .f32 0xFF800000#32 = ⊥
    simp [Ideal.ofBits, Ideal.ieee]]
  rfl

/-- A row's least word over its lanes. -/
theorem row_min (x : IVec S2048x16 32) (ha : (2147483647#32 : BitVec 32) = IKind.minsi.neutral) (r : Fin 2048) :
    multiReductionI .minsi [1] S2048 x 2147483647#32 reduces_S2048x16_S2048 ha (ix1 r) = Finset.univ.fold IntOp.minsi 2147483647#32 fun l : Fin 16 => x (ix2 r l) := by
  rw [multiReductionI_eq_fold]
  exact Shape.Reduces.fold_fiber_r2_a1 reduces_S2048x16_S2048 _ IntOp.minsi _ _

/-! ## The constants -/

theorem c0_eq : (Named.named κ "c0" 0xBFBCF9CF#32 : Ideal .f32) = ((1 / 10 * Real.log (387420489 / 999980000000000) : ℝ) : EReal) := rfl
theorem conf_eq : (Named.named κ "conf" 0x3F666666#32 : Ideal .f32) = ((9 / 10 : ℝ) : EReal) := rfl
theorem sv_eq : (Named.named κ "sv" 0x3586386D#32 : Ideal .f32) = ((1 / 999980 : ℝ) : EReal) := rfl

/-! ## The staged operands -/

section Loads
variable {F : FTy → Type} [FloatOps F] [Named F] (c : Dev nD)

/-- The whole of a table read from its origin. -/
theorem whole_at {n0 n1 : ℕ} (h : ∀ a : Fin 2, (![0, 0] : Fin 2 → ℕ) a + (![n0, n1] : Fin 2 → ℕ) a ≤ (![n0, n1] : Fin 2 → ℕ) a) (y : (⟨2, ![n0, n1]⟩ : Shape).Idx) :
    (Rect.unit (s := ⟨2, ![n0, n1]⟩) ![0, 0] ![n0, n1] h).toLoadRect.idx y = y :=
  funext fun a => Fin.ext (by
    match a with
    | ⟨0, _⟩ => show 0 + 1 * (y 0).val = (y 0).val; omega
    | ⟨1, _⟩ => show 0 + 1 * (y 1).val = (y 1).val; omega)

theorem v1_eq (f : FVec F S2048x16 .f32) : finRun.sl.v1 (F := F) c f = f := by
  unfold finRun.sl.v1
  rw [shapeCast_self]
  exact funext fun y => (View.read_apply _ _).trans ((cast_eq _ _).trans (congrArg f (whole_at _ y)))

theorem v3_eq (f : FVec F S2048x16 .f32) : finRun.sl.v3 (F := F) c f = f := by
  unfold finRun.sl.v3
  rw [shapeCast_self]
  exact funext fun y => (View.read_apply _ _).trans ((cast_eq _ _).trans (congrArg f (whole_at _ y)))

theorem v5_eq (f : IVec S2048x16 32) : finRun.sl.v5 (F := F) c f = f := by
  unfold finRun.sl.v5
  rw [shapeCast_self]
  exact funext fun y => (View.read_apply _ _).trans ((cast_eq _ _).trans (congrArg f (whole_at _ y)))

theorem v21_eq (f : IVec S2048x1 32) : finRun.sl.v21 (F := F) c f = f := by
  unfold finRun.sl.v21
  rw [shapeCast_self]
  exact funext fun y => (View.read_apply _ _).trans ((cast_eq _ _).trans (congrArg f (whole_at _ y)))

theorem v23_eq (f : FVec F S2048x1 .f32) : finRun.sl.v23 (F := F) c f = f := by
  unfold finRun.sl.v23
  rw [shapeCast_self]
  exact funext fun y => (View.read_apply _ _).trans ((cast_eq _ _).trans (congrArg f (whole_at _ y)))

theorem v25_eq (f : FVec F S2048x1 .f32) : finRun.sl.v25 (F := F) c f = f := by
  unfold finRun.sl.v25
  rw [shapeCast_self]
  exact funext fun y => (View.read_apply _ _).trans ((cast_eq _ _).trans (congrArg f (whole_at _ y)))

end Loads

/-! ## The three results -/

section Values
variable (c : Dev nD) (g : Fin 2048 → ℕ → ℝ) (p : Fin 2048 → ℕ) (τ : Fin 2048 → BitVec 32)
  (s m : FVec Ideal S2048x16 .f32) (a : IVec S2048x16 32) (t : IVec S2048x1 32) (e z : FVec Ideal S2048x1 .f32)

theorem labelled_at (ht : ∀ r, t (ix2 r 0) = τ r) (r : Fin 2048) : finRun.sl.v27 (F := Ideal) c t (ix2 r 0) = BitVec.ofBool (decide (τ r ≠ 0#32)) := by
  unfold finRun.sl.v27
  rw [v21_eq]
  show BitVec.ofBool (t (ix2 r 0) != 0#32) = _
  rw [ht]
  congr 1
  rw [Bool.eq_iff_iff, bne_iff_ne, decide_eq_true_iff]

theorem nonPadding_at (ht : ∀ r, t (ix2 r 0) = τ r) : finRun.sl.v58 (F := Ideal) c t = nonPaddingOf τ := by
  refine (column_fold (finRun.sl.v54 (F := Ideal) c t) _).trans ?_
  refine congrArg (fun v => Finset.fold IntOp.addi 0#32 v Finset.univ) (funext fun r => ?_)
  show BitVec.setWidth 32 (finRun.sl.v27 (F := Ideal) c t (ix2 r 0)) = _
  rw [labelled_at c τ t ht]
  by_cases h : τ r = 0#32 <;> simp [h]

theorem predicted_at (hp : ∀ r, First (fun w => (g r w : EReal)) 100000 (p r))
    (hm : ∀ (r : Fin 2048) (l : Fin 16), ∃ k, First (fun w => (g r (16 * w + l.val) : EReal)) 6250 k ∧ m (ix2 r l) = (g r (16 * k + l.val) : EReal)
      ∧ a (ix2 r l) = BitVec.ofNat 32 k) (r : Fin 2048) :
    finRun.sl.v19 (F := Ideal) c m a (ix2 r 0) = BitVec.ofNat 32 (p r) := by
  obtain ⟨h1, h2⟩ := lanes_first (fun w => (g r w : EReal)) 6250 (p r) (by omega) (hp r) (fun l => m (ix2 r l)) (fun l => a (ix2 r l)) (hm r)
  have h10 (l : Fin 16) : finRun.sl.v14 (F := Ideal) c m (ix2 r l) = (g r (p r) : EReal) := by
    unfold finRun.sl.v14
    rw [broadcastTo_apply _ _ _ (ix2 r 0) (fun b => by match b with | ⟨0, _⟩ => rfl | ⟨1, _⟩ => rfl)]
    unfold finRun.sl.v10
    rw [column_at]
    unfold finRun.sl.v9
    refine (row_max _ _ _ r).trans ?_
    rw [v3_eq]
    exact h1
  unfold finRun.sl.v19
  rw [column_at]
  unfold finRun.sl.v18
  refine (row_min _ _ r).trans ?_
  rw [← h2]
  refine congrArg (fun v => Finset.fold IntOp.minsi 2147483647#32 v Finset.univ) (funext fun l => ?_)
  show Scalar.select (BitVec.ofBool (decide (finRun.sl.v3 (F := Ideal) c m (ix2 r l) = finRun.sl.v14 (F := Ideal) c m (ix2 r l))))
    (finRun.sl.v5 (F := Ideal) c a (ix2 r l) * 16#32 + finRun.sl.v6 (ix2 r l)) 1073741824#32 = _
  rw [v3_eq, v5_eq, h10, show finRun.sl.v6 (ix2 r l) = BitVec.ofNat 32 l.val from iota_single_apply _ _ _ _ _ _]
  by_cases h : m (ix2 r l) = (g r (p r) : EReal) <;> simp [h, Scalar.select]

theorem correct_at (ht : ∀ r, t (ix2 r 0) = τ r) (hp : ∀ r, First (fun w => (g r w : EReal)) 100000 (p r))
    (hm : ∀ (r : Fin 2048) (l : Fin 16), ∃ k, First (fun w => (g r (16 * w + l.val) : EReal)) 6250 k ∧ m (ix2 r l) = (g r (16 * k + l.val) : EReal)
      ∧ a (ix2 r l) = BitVec.ofNat 32 k) : finRun.sl.v52 (F := Ideal) c m a t = correctOf p τ := by
  refine (column_fold (finRun.sl.v48 (F := Ideal) c m a t) _).trans ?_
  refine congrArg (fun v => Finset.fold IntOp.addi 0#32 v Finset.univ) (funext fun r => ?_)
  show Scalar.select (finRun.sl.v27 (F := Ideal) c t (ix2 r 0) &&& BitVec.ofBool (finRun.sl.v19 (F := Ideal) c m a (ix2 r 0) == finRun.sl.v21 (F := Ideal) c t (ix2 r 0)))
    1#32 0#32 = _
  rw [labelled_at c τ t ht, predicted_at c g p m a hp hm, v21_eq, ht, show (BitVec.ofNat 32 (p r) == τ r) = decide (BitVec.ofNat 32 (p r) = τ r) by
    rw [Bool.eq_iff_iff, beq_iff_eq, decide_eq_true_iff]]
  by_cases h : τ r = 0#32 <;> by_cases h' : BitVec.ofNat 32 (p r) = τ r <;> simp [h, h', Scalar.select]

theorem loss_at (ht : ∀ r, t (ix2 r 0) = τ r)
    (hs : ∀ (r : Fin 2048) (l : Fin 16), s (ix2 r l) = ∑ k ∈ Finset.range 6250, (g r (16 * k + l.val) : EReal))
    (he : ∀ r, e (ix2 r 0) = (g r (τ r).toNat : EReal)) (hz : ∀ r, z (ix2 r 0) = (g r 0 : EReal)) :
    finRun.sl.v42 (F := Ideal) c s t e z = lossOf g τ := by
  refine (column_sum (finRun.sl.v38 (F := Ideal) c s t e z) _ _).trans (Finset.sum_congr rfl fun r _ => ?_)
  have h8 : finRun.sl.v8 (F := Ideal) c s (ix2 r 0) = ((∑ w ∈ Finset.range 100000, g r w : ℝ) : EReal) := by
    unfold finRun.sl.v8
    rw [column_at]
    unfold finRun.sl.v7
    refine (row_add _ _ _ r).trans ?_
    rw [v1_eq, Finset.sum_congr rfl fun l _ => hs r l, lanes_sum (fun w => (g r w : EReal)) 6250, coe_sum]
  show Scalar.select (finRun.sl.v27 (F := Ideal) c t (ix2 r 0)) (HSub.hSub (α := EReal) (HSub.hSub (α := EReal) (Named.named κ "c0" 0xBFBCF9CF#32 : Ideal .f32)
    (HMul.hMul (α := EReal) (Named.named κ "sv" 0x3586386D#32 : Ideal .f32) (HSub.hSub (α := EReal) (HSub.hSub (α := EReal) (finRun.sl.v8 (F := Ideal) c s (ix2 r 0))
      (finRun.sl.v25 (F := Ideal) c z (ix2 r 0))) (finRun.sl.v23 (F := Ideal) c e (ix2 r 0)))))
    (HMul.hMul (α := EReal) (Named.named κ "conf" 0x3F666666#32 : Ideal .f32) (finRun.sl.v23 (F := Ideal) c e (ix2 r 0)))) (Ideal.ofBits .f32 0x00000000#32) = _
  rw [labelled_at c τ t ht, h8, v25_eq, v23_eq, he, hz, c0_eq, sv_eq, conf_eq, Ideal.ofBits_zero_f32]
  by_cases h : τ r = 0#32
  · rw [if_pos h, show decide (τ r ≠ 0#32) = false from decide_eq_false (not_not.mpr h)]; rfl
  · rw [if_neg h, show decide (τ r ≠ 0#32) = true from decide_eq_true h]
    simp only [EReal.coe_sub, EReal.coe_mul]
    rfl

end Values

/-! ## The result buffers -/

theorem results (c : Dev nD) (f0 f1 : FVec Ideal S2048x16 .f32) (f2 : IVec S2048x16 32) (f3 : IVec S2048x1 32) (f4 f5 : FVec Ideal S2048x1 .f32) (y : S1x1.Idx) :
    (finRun (F := Ideal) c f0 f1 f2 f3 f4 f5).1.1 y = finRun.sl.v42 (F := Ideal) c f0 f3 f4 f5
      ∧ (finRun (F := Ideal) c f0 f1 f2 f3 f4 f5).1.2.1 y = finRun.sl.v52 (F := Ideal) c f1 f2 f3
      ∧ (finRun (F := Ideal) c f0 f1 f2 f3 f4 f5).1.2.2 y = finRun.sl.v58 (F := Ideal) c f3 := by
  have w {e : EltTy} (v : View sig .tc .smem S1x1 e) (f : v.ty.Contents (Elt Ideal)) (h) (x : Elt Ideal e) :
      v.read (Elt Ideal) (v.writes (Elt Ideal) f [⟨Rect.unit (s := S1x1) ![0, 0] S1x1.size h, fun _ => x⟩]) y = x := by
    have := View.read_writes_cons_emb v f (Rect.unit (s := S1x1) ![0, 0] S1x1.size h) (fun _ => x) [] y
    rwa [show (Rect.unit (s := S1x1) ![0, 0] S1x1.size h).emb y = y from whole_at h y] at this
  exact ⟨w (View.whole cc2_stg6_0) (View.whole cc2_stg6_0).junk _ (finRun.sl.v42 (F := Ideal) c f0 f3 f4 f5),
    w (View.whole cc2_stg7_0) (View.whole cc2_stg7_0).junk _ (finRun.sl.v52 (F := Ideal) c f1 f2 f3),
    w (View.whole cc2_stg8_0) (View.whole cc2_stg8_0).junk _ (finRun.sl.v58 (F := Ideal) c f3)⟩

end Cert.Proof.Run
-- ==== Proof.KernelValue.lean ====
/-
  The kernel's three results over the extended reals, for a table of real numbers and labels in range.
-/
module

public import proofs.«01_k».proof.Proof.Main
public import proofs.«01_k».proof.Proof.FinValue

@[expose] public section

noncomputable section

namespace Cert.Proof.Run

open Cert.KernelIdeal Cert.KernelIdeal.Gen
open Idealize.ShloMosaic Idealize.ShloMosaic.TcCoe
open Cert.Proof.Arith

/-! ## The lanes -/

section Lanes
variable (d : Dev nD) (i : grid0.Coords) (x : Buf (Elt Ideal) (xL d)) (o : ℕ) (l : S16.Idx)

/-- What lane `l` reads of the `n`-th vector. -/
abbrev word (n : ℕ) : EReal := flat (F := Ideal) d i x (o + 16 * n + (l 0).val)

theorem fS_at (n : ℕ) : fS (F := Ideal) d i x o n l = (∑ k ∈ Finset.range n, word d i x o l k : EReal) :=
  running_sum (word d i x o l) (fun n => fS (F := Ideal) d i x o n l) Ideal.ofBits_zero_f32
    (fun n => by show fS (F := Ideal) d i x o (n + 1) l = _; rw [fS, shapeCast_self]; rfl) n

theorem fMA_at (h : ⊥ < word d i x o l 0) (n : ℕ) : ∃ k, First (word d i x o l) (n + 1) k
    ∧ fM (F := Ideal) d i x o (n + 1) l = word d i x o l k ∧ fA (F := Ideal) d i x o (n + 1) l = BitVec.ofNat 32 k :=
  running_max (word d i x o l) (fun n => fM (F := Ideal) d i x o n l) (fun n => fA (F := Ideal) d i x o n l) h
    (by show Ideal.ofBits .f32 0xFF800000#32 = ⊥; simp [Ideal.ofBits, Ideal.ieee])
    (fun n => by show fM (F := Ideal) d i x o (n + 1) l = _; rw [fM, shapeCast_self]; rfl)
    (fun n => by
      show fA (F := Ideal) d i x o (n + 1) l = _
      rw [fA, shapeCast_self]
      show Scalar.select (BitVec.ofBool (decide (fM (F := Ideal) d i x o n l < word d i x o l n))) (BitVec.ofNat 32 n) (fA (F := Ideal) d i x o n l) = _
      by_cases h : fM (F := Ideal) d i x o n l < word d i x o l n
      · rw [if_pos h, decide_eq_true h]; rfl
      · rw [if_neg h, decide_eq_false h]; rfl) n

end Lanes

/-! ## The finalising region's windows -/

section Region
variable (V : (c : Dev nD) → (b : Ref sig .tc) → Buf (Elt Ideal) ((c : Thread nD τ).loc b)) (c : Dev nD)

theorem stg0_eq : stg0 V c = V c main_v3 :=
  funext fun y => (View.read_apply _ _).trans ((cast_eq _ _).trans (congrArg (V c main_v3) (Shape.idx_ext₂
    (Pipeline.Window.rect_emb_val_of_index_zero _ _ _ rfl _) (Pipeline.Window.rect_emb_val_of_index_zero _ _ _ rfl _))))
theorem stg1_eq : stg1 V c = V c main_v4 :=
  funext fun y => (View.read_apply _ _).trans ((cast_eq _ _).trans (congrArg (V c main_v4) (Shape.idx_ext₂
    (Pipeline.Window.rect_emb_val_of_index_zero _ _ _ rfl _) (Pipeline.Window.rect_emb_val_of_index_zero _ _ _ rfl _))))
theorem stg2_eq : stg2 V c = V c main_v5 :=
  funext fun y => (View.read_apply _ _).trans ((cast_eq _ _).trans (congrArg (V c main_v5) (Shape.idx_ext₂
    (Pipeline.Window.rect_emb_val_of_index_zero _ _ _ rfl _) (Pipeline.Window.rect_emb_val_of_index_zero _ _ _ rfl _))))
theorem stg3_eq : stg3 V c = V c main_v6 :=
  funext fun y => (View.read_apply _ _).trans ((cast_eq _ _).trans (congrArg (V c main_v6) (Shape.idx_ext₂
    (Pipeline.Window.rect_emb_val_of_index_zero _ _ _ rfl _) (Pipeline.Window.rect_emb_val_of_index_zero _ _ _ rfl _))))
theorem stg4_eq : stg4 V c = V c main_v7 :=
  funext fun y => (View.read_apply _ _).trans ((cast_eq _ _).trans (congrArg (V c main_v7) (Shape.idx_ext₂
    (Pipeline.Window.rect_emb_val_of_index_zero _ _ _ rfl _) (Pipeline.Window.rect_emb_val_of_index_zero _ _ _ rfl _))))
theorem stg5_eq : stg5 V c = V c main_v8 :=
  funext fun y => (View.read_apply _ _).trans ((cast_eq _ _).trans (congrArg (V c main_v8) (Shape.idx_ext₂
    (Pipeline.Window.rect_emb_val_of_index_zero _ _ _ rfl _) (Pipeline.Window.rect_emb_val_of_index_zero _ _ _ rfl _))))

theorem one_place (y z : S1x1.Idx) : y = z :=
  Shape.idx_ext₂ (congrArg Fin.val (Subsingleton.elim (α := Fin 1) (y 0) (z 0))) (congrArg Fin.val (Subsingleton.elim (α := Fin 1) (y 1) (z 1)))

theorem one_point {w : Fin cfg2.W} (t t' : Fin cfg2.N) (_ : (cfg2.win w).flush t = true) (_ : (cfg2.win w).flush t' = true) (h : t ≠ t') :
    Disjoint ((cfg2.win w).blk t).view.set ((cfg2.win w).blk t').view.set := absurd ((fin_N2 t).trans (fin_N2 t').symm) h

theorem fin0_at (y : S1x1.Idx) : fin0 V c y = (finK V c).1.1 y :=
  (congrArg ((dat V c).arrAt 6 cfg2.N) (one_place _ _)).trans (((dat V c).arrAt_emb_eq_flushed 6 one_point t2_0 (flush2_6 _) y).trans (cast_eq _ _))
theorem fin1_at (y : S1x1.Idx) : fin1 V c y = (finK V c).1.2.1 y :=
  (congrArg ((dat V c).arrAt 7 cfg2.N) (one_place _ _)).trans (((dat V c).arrAt_emb_eq_flushed 7 one_point t2_0 (flush2_7 _) y).trans (cast_eq _ _))
theorem fin2_at (y : S1x1.Idx) : fin2 V c y = (finK V c).1.2.2 y :=
  (congrArg ((dat V c).arrAt 8 cfg2.N) (one_place _ _)).trans (((dat V c).arrAt_emb_eq_flushed 8 one_point t2_0 (flush2_8 _) y).trans (cast_eq _ _))

end Region

/-! ## The arrays between the calls -/

section Arrays
variable (m : (ℓ : Loc nD τ sig) → Buf (Elt Ideal) ℓ) (d : Dev nD)

theorem W4_s : W4 m d main_v3 = shapeCast S2048x16 (oS d (X m d)) shapeCasts_S32768_S2048x16 := by
  show V4 m d main_v3 = _
  unfold V4
  rw [StableHlo.reshape_result_ne _ _ _ _ _ _ _ (by decide), StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide), StableHlo.reshape_result,
    V3_ne' m d main_v1_0 (by decide) (by decide), V2_s]
  rfl

theorem W4_m : W4 m d main_v4 = shapeCast S2048x16 (oM d (X m d)) shapeCasts_S32768_S2048x16 := by
  show V4 m d main_v4 = _
  unfold V4
  rw [StableHlo.reshape_result_ne _ _ _ _ _ _ _ (by decide), StableHlo.reshape_result_ne _ _ _ _ _ _ _ (by decide), StableHlo.reshape_result_ne _ _ _ _ _ _ _ (by decide),
    StableHlo.reshape_result_ne _ _ _ _ _ _ _ (by decide), StableHlo.reshape_result, StableHlo.reshape_result_ne _ _ _ _ _ _ _ (by decide),
    V3_ne' m d main_v1_1 (by decide) (by decide), V2_m]
  rfl

theorem W4_i : W4 m d main_v5 = shapeCast S2048x16 (oI d (X m d)) shapeCasts_S32768_S2048x16 := by
  show V4 m d main_v5 = _
  unfold V4
  rw [StableHlo.reshape_result_ne _ _ _ _ _ _ _ (by decide), StableHlo.reshape_result_ne _ _ _ _ _ _ _ (by decide), StableHlo.reshape_result_ne _ _ _ _ _ _ _ (by decide),
    StableHlo.reshape_result, StableHlo.reshape_result_ne _ _ _ _ _ _ _ (by decide), StableHlo.reshape_result_ne _ _ _ _ _ _ _ (by decide),
    V3_ne' m d main_v1_2 (by decide) (by decide), V2_i]
  rfl

theorem W4_t : W4 m d main_v6 = shapeCast S2048x1 (m (tL d)) shapeCasts_S2048_S2048x1 := by
  show V4 m d main_v6 = _
  unfold V4
  rw [StableHlo.reshape_result_ne _ _ _ _ _ _ _ (by decide), StableHlo.reshape_result_ne _ _ _ _ _ _ _ (by decide), StableHlo.reshape_result,
    StableHlo.reshape_result_ne _ _ _ _ _ _ _ (by decide), StableHlo.reshape_result_ne _ _ _ _ _ _ _ (by decide), StableHlo.reshape_result_ne _ _ _ _ _ _ _ (by decide),
    V3_arg1]
  rfl

theorem W4_e : W4 m d main_v7 = shapeCast S2048x1 (oE d (X m d) (m (tL d))) shapeCasts_S2048_S2048x1 := by
  show V4 m d main_v7 = _
  unfold V4
  rw [StableHlo.reshape_result_ne _ _ _ _ _ _ _ (by decide), StableHlo.reshape_result, StableHlo.reshape_result_ne _ _ _ _ _ _ _ (by decide),
    StableHlo.reshape_result_ne _ _ _ _ _ _ _ (by decide), StableHlo.reshape_result_ne _ _ _ _ _ _ _ (by decide), StableHlo.reshape_result_ne _ _ _ _ _ _ _ (by decide),
    V3_e]
  rfl

theorem W4_z : W4 m d main_v8 = shapeCast S2048x1 (oZ d (X m d)) shapeCasts_S2048_S2048x1 := by
  show V4 m d main_v8 = _
  unfold V4
  rw [StableHlo.reshape_result, StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide), StableHlo.reshape_result_ne _ _ _ _ _ _ _ (by decide),
    V3_z]
  rfl

/-- The lanes' arrays by row and lane. -/
theorem lanes_at {α : Type} (x : S32768.Idx → α) (r : Fin 2048) (l : Fin 16) :
    shapeCast S2048x16 x shapeCasts_S32768_S2048x16 (ix2 r l) = x (ix1 ⟨16 * r.val + l.val, by have := r.isLt; have := l.isLt; omega⟩) :=
  shapeCast_apply x _ _ _ (by rw [Shape.rowMajor_val_one, Shape.rowMajor_val_two]; show 16 * r.val + l.val = r.val * 16 + l.val; omega)

theorem lane_of (r : Fin 2048) (l : Fin 16) : ((lane (16 * r.val + l.val)) 0).val = l.val := by
  show (16 * r.val + l.val) % 16 = l.val
  have := l.isLt
  omega

theorem row_of (r : Fin 2048) (l : Fin 16) : 100000 * ((16 * r.val + l.val) / 16) = 100000 * r.val := by
  have := l.isLt
  omega

variable (g : Fin 2048 → ℕ → ℝ) (hx : ∀ (r : Fin 2048) (w : Fin 100000), (m ((d : Thread nD τ).loc main_arg0) : FVec Ideal S2048x100000 .f32) (ix2 r w) = (g r w.val : EReal))

include hx in
/-- The flat array by row and word. -/
theorem flat_value (i : grid0.Coords) (r : Fin 2048) (w : ℕ) (hw : w < 100000) : flat (F := Ideal) d i (X m d) (100000 * r.val + w) = (g r w : EReal) := by
  have hr := r.isLt
  unfold flat
  rw [dif_pos (show 100000 * r.val + w < 204800000 by omega)]
  refine (View.read_apply _ _).trans ((cast_eq _ _).trans ?_)
  rw [← hx r ⟨w, hw⟩]
  unfold X V1
  rw [StableHlo.reshape_result]
  refine shapeCast_apply (m ((d : Thread nD τ).loc main_arg0) : FVec Ideal S2048x100000 .f32) shapeCasts_S2048x100000_S204800000 _ (ix2 r ⟨w, hw⟩) ?_
  refine (Shape.rowMajor_val_two (ix2 r ⟨w, hw⟩ : S2048x100000.Idx)).trans ?_
  rw [Shape.rowMajor_val_one]
  show r.val * 100000 + w = 100000 * r.val + w
  omega

include hx in
theorem word_value (r : Fin 2048) (l : Fin 16) (n : ℕ) (hn : n < 6250) :
    word d (coordsV 0 0) (X m d) (100000 * ((16 * r.val + l.val) / 16)) (lane (16 * r.val + l.val)) n = (g r (16 * n + l.val) : EReal) := by
  have hl := l.isLt
  unfold word
  rw [lane_of, row_of, show 100000 * r.val + 16 * n + l.val = 100000 * r.val + (16 * n + l.val) by omega]
  exact flat_value m d g hx _ r _ (by omega)

include hx in
theorem s_value (r : Fin 2048) (l : Fin 16) : stg0 (W4 m) d (ix2 r l) = (∑ k ∈ Finset.range 6250, (g r (16 * k + l.val) : EReal) : EReal) := by
  rw [stg0_eq, W4_s, lanes_at]
  refine (fS_at d (coordsV 0 0) (X m d) _ _ 6250).trans (Finset.sum_congr rfl fun k hk => ?_)
  exact word_value m d g hx r l k (Finset.mem_range.mp hk)

include hx in
theorem m_value (r : Fin 2048) (l : Fin 16) : ∃ k, First (fun w => (g r (16 * w + l.val) : EReal)) 6250 k
    ∧ stg1 (W4 m) d (ix2 r l) = (g r (16 * k + l.val) : EReal) ∧ stg2 (W4 m) d (ix2 r l) = BitVec.ofNat 32 k := by
  rw [stg1_eq, stg2_eq, W4_m, W4_i, lanes_at, lanes_at]
  obtain ⟨k, ⟨h1, h2, h3⟩, hM, hA⟩ := fMA_at d (coordsV 0 0) (X m d) (100000 * ((16 * r.val + l.val) / 16)) (lane (16 * r.val + l.val))
    (by rw [word_value m d g hx r l 0 (by decide)]; exact EReal.bot_lt_coe _) 6249
  have e (w : ℕ) (hw : w < 6249 + 1) := word_value m d g hx r l w hw
  refine ⟨k, ⟨h1, fun w hw => ?_, fun w hw => ?_⟩, hM.trans (e k h1), hA⟩
  · have := h2 w hw; rwa [e w hw, e k h1] at this
  · have := h3 w hw; rwa [e w (lt_trans hw h1), e k h1] at this

theorem t_value (r : Fin 2048) : stg3 (W4 m) d (ix2 r 0) = (m (tL d) : IVec S2048 32) (ix1 r) := by
  rw [stg3_eq, W4_t]; exact column_at _ r

include hx in
theorem e_value (ht : ∀ r : Fin 2048, BitVec.toNat ((m (tL d) : IVec S2048 32) (ix1 r)) < 100000) (r : Fin 2048) :
    stg4 (W4 m) d (ix2 r 0) = (g r (BitVec.toNat ((m (tL d) : IVec S2048 32) (ix1 r))) : EReal) := by
  rw [stg4_eq, W4_e]
  exact (column_at _ r).trans (flat_value m d g hx _ r _ (ht r))

include hx in
theorem z_value (r : Fin 2048) : stg5 (W4 m) d (ix2 r 0) = (g r 0 : EReal) := by
  rw [stg5_eq, W4_z]
  exact (column_at _ r).trans (flat_value m d g hx _ r 0 (by decide))

/-- The one element of a result, whichever way it is indexed. -/
theorem one_at {α : Type} (x : S1x1.Idx → α) (v : α) (h : ∀ y, x y = v) : shapeCast S_ x shapeCasts_S1x1_S_ = fun _ => v :=
  funext fun _ => h _

theorem VE_0 : VE m d main_v10 = shapeCast S_ (fin0 (W4 m) d) shapeCasts_S1x1_S_ := by
  unfold VE
  rw [StableHlo.reshape_result_ne _ _ _ _ _ _ _ (by decide), StableHlo.reshape_result_ne _ _ _ _ _ _ _ (by decide), StableHlo.reshape_result]
  unfold V5
  rw [Function.update_of_ne (by decide), Function.update_of_ne (by decide), Function.update_self]
  rfl

theorem VE_1 : VE m d main_v11 = shapeCast S_ (fin1 (W4 m) d) shapeCasts_S1x1_S_ := by
  unfold VE
  rw [StableHlo.reshape_result_ne _ _ _ _ _ _ _ (by decide), StableHlo.reshape_result, StableHlo.reshape_result_ne _ _ _ _ _ _ _ (by decide)]
  unfold V5
  rw [Function.update_of_ne (by decide), Function.update_self]
  rfl

theorem VE_2 : VE m d main_v12 = shapeCast S_ (fin2 (W4 m) d) shapeCasts_S1x1_S_ := by
  unfold VE
  rw [StableHlo.reshape_result, StableHlo.reshape_result_ne _ _ _ _ _ _ _ (by decide), StableHlo.reshape_result_ne _ _ _ _ _ _ _ (by decide)]
  unfold V5
  rw [Function.update_self]
  rfl

/-- The three results at the end of the run. -/
theorem values (p : Fin 2048 → ℕ) (hp : ∀ r, First (fun w => (g r w : EReal)) 100000 (p r)) (hx : ∀ (r : Fin 2048) (w : Fin 100000),
      (m ((d : Thread nD τ).loc main_arg0) : FVec Ideal S2048x100000 .f32) (ix2 r w) = (g r w.val : EReal))
    (ht : ∀ r : Fin 2048, BitVec.toNat ((m (tL d) : IVec S2048 32) (ix1 r)) < 100000) :
    VE m d main_v10 = (fun _ => lossOf g fun r => (m (tL d) : IVec S2048 32) (ix1 r))
      ∧ VE m d main_v11 = (fun _ => correctOf p fun r => (m (tL d) : IVec S2048 32) (ix1 r))
      ∧ VE m d main_v12 = fun _ => nonPaddingOf fun r => (m (tL d) : IVec S2048 32) (ix1 r) := by
  have r := results d (stg0 (W4 m) d) (stg1 (W4 m) d) (stg2 (W4 m) d) (stg3 (W4 m) d) (stg4 (W4 m) d) (stg5 (W4 m) d)
  refine ⟨(VE_0 m d).trans (one_at _ _ fun y => (fin0_at _ d y).trans ((r y).1.trans ?_)),
    (VE_1 m d).trans (one_at _ _ fun y => (fin1_at _ d y).trans ((r y).2.1.trans ?_)),
    (VE_2 m d).trans (one_at _ _ fun y => (fin2_at _ d y).trans ((r y).2.2.trans ?_))⟩
  · exact loss_at d g _ _ _ _ _ (t_value m d) (s_value m d g hx) (e_value m d g hx ht) (z_value m d g hx)
  · exact correct_at d g p _ _ _ _ (t_value m d) hp (m_value m d g hx)
  · exact nonPadding_at d _ _ (t_value m d)

end Arrays

end Cert.Proof.Run
-- ==== Proof.RefValue.lean ====
/-
  The reference's three results over the extended reals, for a table of real numbers and labels in range: the loss row by
  row in closed form, the predicted word as the first word where the row is greatest, and the two counts as folds over the rows.
-/
module

public import proofs.«01_k».proof.Proof.RefRun
public import proofs.«01_k».proof.Proof.Arith
public import Idealize.ShloMosaic.Lib.Pointwise.Reduce
public import Idealize.ShloMosaic.Lib.Pipeline.Value

@[expose] public section

noncomputable section

namespace Cert.Proof.Ref

open Idealize.ShloMosaic Finset
open Cert.ReferenceIdeal Cert.ReferenceIdeal.Gen Cert.Proof.Arith

/-! ## The constants -/

theorem one_eq : Ideal.ofBits .f32 0x3F800000#32 = ((1 : ℝ) : EReal) := by
  simp [Ideal.ofBits, Ideal.ieee, -EReal.coe_mul]; norm_num
theorem ten_eq : Ideal.ofBits .f32 0x41200000#32 = ((10 : ℝ) : EReal) := by
  simp [Ideal.ofBits, Ideal.ieee, -EReal.coe_mul]; norm_num
theorem others_eq : Ideal.ofBits .f32 0x47C34F00#32 = ((99998 : ℝ) : EReal) := by
  simp [Ideal.ofBits, Ideal.ieee, -EReal.coe_mul]; norm_num

theorem mass_eq (j : S_.Idx) : mass (F := Ideal) j = ((1 / 10 : ℝ) : EReal) := by
  show Ideal.div (Ideal.ofBits .f32 0x3F800000#32) (Ideal.ofBits .f32 0x41200000#32) = _
  rw [one_eq, ten_eq, Ideal.div_coe (by norm_num), ← EReal.coe_mul]; norm_num

theorem confidence_eq (j : S_.Idx) : confidence (F := Ideal) j = ((9 / 10 : ℝ) : EReal) := by
  show Ideal.ofBits .f32 0x3F800000#32 - mass (F := Ideal) j = _
  rw [one_eq, mass_eq, ← EReal.coe_sub]; norm_num

theorem smoothing_eq (j : S_.Idx) : smoothing (F := Ideal) j = ((1 / 999980 : ℝ) : EReal) := by
  show Ideal.div (mass (F := Ideal) j) (Ideal.ofBits .f32 0x47C34F00#32) = _
  rw [others_eq, mass_eq, Ideal.div_coe (by norm_num), ← EReal.coe_mul]; norm_num

/-! ## The broadcasts at a position -/

theorem everywhere_at (x : FVec Ideal S_ .f32) (j : S2048x100000.Idx) : everywhere x j = x ix0 :=
  congrArg x (funext fun a => a.elim0)

theorem words_at (r : Fin 1) (w : Fin 100000) : words (ix2 r w) = BitVec.ofNat 32 w.val :=
  broadcastInDim_apply _ _ _ _ (ix1 w) fun a => by
    match a with | ⟨0, _⟩ => rfl

theorem labels_at (t : IVec S2048 32) (r : Fin 2048) (k : Fin 1) : labels t (ix2 r k) = t (ix1 r) :=
  broadcastInDim_apply _ _ _ _ (ix1 r) fun a => by
    match a with | ⟨0, _⟩ => rfl

/-- One row spread down the table. -/
abbrev down {α : Type} (x : S1x100000.Idx → α) : S2048x100000.Idx → α := broadcastInDim S2048x100000 ![0, 1] bcast_S1x100000_S2048x100000_0_1 x

/-- One column spread along the table. -/
abbrev along {α : Type} (x : S2048x1.Idx → α) : S2048x100000.Idx → α := broadcastInDim S2048x100000 ![0, 1] bcast_S2048x1_S2048x100000_0_1 x

theorem down_at {α : Type} (x : S1x100000.Idx → α) (r : Fin 2048) (w : Fin 100000) : down x (ix2 r w) = x (ix2 0 w) :=
  broadcastInDim_apply _ _ _ _ (ix2 0 w) fun a => by
    match a with | ⟨0, _⟩ => rfl | ⟨1, _⟩ => rfl

theorem along_at {α : Type} (x : S2048x1.Idx → α) (r : Fin 2048) (w : Fin 100000) : along x (ix2 r w) = x (ix2 r 0) :=
  broadcastInDim_apply _ _ _ _ (ix2 r 0) fun a => by
    match a with | ⟨0, _⟩ => rfl | ⟨1, _⟩ => rfl

/-! ## The loss -/

/-- The model distribution at word `w` of a row with label `t`. -/
def probOf (t w : ℕ) : ℝ := if w = 0 ∨ t = 0 then 0 else if w = t then 9 / 10 else 1 / 999980

theorem prob_at (t : IVec S2048 32) (r : Fin 2048) (w : Fin 100000) (ht : (t (ix1 r)).toNat < 100000) :
    prob (F := Ideal) t (ix2 r w) = ((probOf (t (ix1 r)).toNat w.val : ℝ) : EReal) := by
  have e : ∀ n : ℕ, n < 100000 → ((BitVec.ofNat 32 w.val == BitVec.ofNat 32 n) = decide (w.val = n)) := fun n hn => by
    rw [Bool.eq_iff_iff, beq_iff_eq, decide_eq_true_iff]
    refine ⟨fun h => ?_, fun h => by rw [h]⟩
    have := congrArg BitVec.toNat h
    have hw := w.isLt
    rw [BitVec.toNat_ofNat, BitVec.toNat_ofNat] at this
    omega
  have et : (t (ix1 r) == 0#32) = decide ((t (ix1 r)).toNat = 0) := by
    rw [Bool.eq_iff_iff, beq_iff_eq, decide_eq_true_iff, ← BitVec.toNat_inj]; rfl
  have h1 : padded t (ix2 r w) = BitVec.ofBool (decide (w.val = 0) || decide ((t (ix1 r)).toNat = 0)) := by
    show IntOp.ori (down (cmpi .eq words (broadcastInDim S1x100000 ![] bcast_S_S1x100000 (constantI S_ 32 0#32))) (ix2 r w))
      (along (cmpi .eq (labels t) (broadcastInDim S2048x1 ![] bcast_S_S2048x1 (constantI S_ 32 0#32))) (ix2 r w)) = _
    rw [down_at, along_at]
    show BitVec.ofBool (words (ix2 0 w) == 0#32) ||| BitVec.ofBool (labels t (ix2 r 0) == 0#32) = _
    rw [words_at, labels_at, e 0 (by omega), et]
    cases decide (w.val = 0) <;> cases decide ((t (ix1 r)).toNat = 0) <;> rfl
  have eq : (BitVec.ofNat 32 w.val == t (ix1 r)) = decide (w.val = (t (ix1 r)).toNat) := by
    rw [← e _ ht, BitVec.ofNat_toNat, BitVec.setWidth_eq]
  have h2 : smoothed (F := Ideal) t (ix2 r w) = if w.val = (t (ix1 r)).toNat then ((9 / 10 : ℝ) : EReal) else ((1 / 999980 : ℝ) : EReal) := by
    show Scalar.select (BitVec.ofBool (down words (ix2 r w) == along (labels t) (ix2 r w))) (everywhere confidence (ix2 r w)) (everywhere smoothing (ix2 r w)) = _
    rw [down_at, along_at, words_at, labels_at, everywhere_at, everywhere_at, confidence_eq, smoothing_eq,
      eq]
    by_cases h : w.val = (t (ix1 r)).toNat <;> simp [h, Scalar.select]
  show Scalar.select (padded t (ix2 r w)) (everywhere (constant S_ .f32 0x00000000#32) (ix2 r w)) (smoothed t (ix2 r w)) = _
  rw [h1, h2, everywhere_at, show constant (F := Ideal) S_ .f32 0x00000000#32 ix0 = 0 from Ideal.ofBits_zero_f32]
  unfold probOf
  by_cases hw : w.val = 0 <;> by_cases h0 : (t (ix1 r)).toNat = 0 <;> by_cases hwt : w.val = (t (ix1 r)).toNat <;>
    simp [hw, h0, hwt, Scalar.select]

/-- The term of the divergence at word `w` of the row `y` with label `t`. -/
def termOf (y : ℕ → ℝ) (t w : ℕ) : ℝ :=
  if t = 0 then 0 else if w = 0 then 0 else if w = t then 9 / 10 * (Real.log (9 / 10) - y t) else 1 / 999980 * (Real.log (1 / 999980) - y w)

theorem term_at (x : FVec Ideal S2048x100000 .f32) (t : IVec S2048 32) (y : ℕ → ℝ) (r : Fin 2048) (w : Fin 100000)
    (ht : (t (ix1 r)).toNat < 100000) (hx : x (ix2 r w) = (y w.val : EReal)) :
    term (F := Ideal) x t (ix2 r w) = ((termOf y (t (ix1 r)).toNat w.val : ℝ) : EReal) := by
  have z : everywhere (constant (F := Ideal) S_ .f32 0x00000000#32) (ix2 r w) = ((0 : ℝ) : EReal) := by
    rw [everywhere_at]; exact Ideal.ofBits_zero_f32
  have o : everywhere (constant (F := Ideal) S_ .f32 0x3F800000#32) (ix2 r w) = ((1 : ℝ) : EReal) := by
    rw [everywhere_at]; exact one_eq
  have p : positive (F := Ideal) t (ix2 r w) = BitVec.ofBool (decide (0 < probOf (t (ix1 r)).toNat w.val)) := by
    show BitVec.ofBool (decide (everywhere (constant (F := Ideal) S_ .f32 0x00000000#32) (ix2 r w) < prob t (ix2 r w))) = _
    rw [z, prob_at t r w ht]
    congr 1
    exact decide_eq_decide.mpr EReal.coe_lt_coe_iff
  show Scalar.select (positive (F := Ideal) t (ix2 r w)) (HMul.hMul (α := EReal) (prob (F := Ideal) t (ix2 r w)) (HSub.hSub (α := EReal)
    (Ideal.log (Scalar.select (positive (F := Ideal) t (ix2 r w)) (prob (F := Ideal) t (ix2 r w))
      (everywhere (constant (F := Ideal) S_ .f32 0x3F800000#32) (ix2 r w)))) (x (ix2 r w))))
    (everywhere (constant (F := Ideal) S_ .f32 0x00000000#32) (ix2 r w)) = _
  rw [z, o, p, prob_at t r w ht, hx]
  generalize (t (ix1 r)).toNat = n
  generalize w.val = k
  unfold termOf probOf
  have lg (a b : ℝ) (ha : 0 < a) : ((a : ℝ) : EReal) * (Ideal.log ((a : ℝ) : EReal) - (b : EReal)) = ((a * (Real.log a - b) : ℝ) : EReal) := by
    rw [Ideal.log_coe, if_neg (not_le.mpr ha), ← EReal.coe_sub, ← EReal.coe_mul]
  by_cases hn : n = 0
  · simp [hn, Scalar.select]
  · by_cases hk : k = 0
    · simp [hk, Scalar.select]
    · by_cases hkn : k = n
      · rw [if_neg (by simp [hk, hn]), if_pos hkn, if_neg hn, if_neg hk, if_pos hkn, show decide ((0 : ℝ) < 9 / 10) = true by norm_num]
        exact (lg _ _ (by norm_num)).trans (by rw [hkn])
      · rw [if_neg (by simp [hk, hn]), if_neg hkn, if_neg hn, if_neg hk, if_neg hkn, show decide ((0 : ℝ) < 1 / 999980) = true by norm_num]
        exact lg _ _ (by norm_num)

theorem loss_value (x : FVec Ideal S2048x100000 .f32) (t : IVec S2048 32) (y : Fin 2048 → ℕ → ℝ)
    (ht : ∀ r, (t (ix1 r)).toNat < 100000) (hx : ∀ r (w : Fin 100000), x (ix2 r w) = (y r w.val : EReal)) :
    loss (F := Ideal) x t = fun _ => lossOf y fun r => t (ix1 r) := by
  funext j
  show Ideal.hostReduceAdd reducesTo_S2048x100000_S_d0_1 (term x t) (Ideal.ofBits .f32 0x00000000#32) j = _
  rw [Ideal.hostReduceAdd_r2_a01, Ideal.ofBits_zero_f32, zero_add]
  refine Finset.sum_congr rfl fun r _ => ?_
  rw [Finset.sum_congr rfl fun w _ => term_at x t (y r) r w (ht r) (hx r w),
    Fin.sum_univ_eq_sum_range (fun w => ((termOf (y r) (t (ix1 r)).toNat w : ℝ) : EReal)), ← coe_sum]
  have h0 : t (ix1 r) = 0#32 ↔ (t (ix1 r)).toNat = 0 := by rw [← BitVec.toNat_inj]; rfl
  by_cases h : t (ix1 r) = 0#32
  · rw [if_pos h, Finset.sum_eq_zero fun w _ => by rw [termOf, if_pos (h0.mp h)]]; rfl
  · rw [if_neg h, Finset.sum_congr rfl fun w _ => by rw [termOf, if_neg (mt h0.mpr h)], row_sum (y r) 100000 _ (mt h0.mpr h) (ht r),
      show ((100000 : ℕ) : ℝ) = 100000 by norm_num, entropy]

/-! ## The predicted word -/

/-- A search over the columns of a table, whose step keeps the greater value and, of equal ones, the lesser word, ends at the
    first word where the row is greatest. -/
theorem search {n0 n1 : ℕ} {u : Shape} (op : EReal × BitVec 32 → EReal × BitVec 32 → EReal × BitVec 32)
    (hop : ∀ a b, op a b = (if b.1 < a.1 then a.1 else b.1, if b.1 < a.1 ∨ (a.1 = b.1 ∧ a.2.slt b.2 = true) then a.2 else b.2))
    (x : FVec Ideal ⟨2, ![n0, n1]⟩ .f32) (ix : FVec Ideal u .f32) (iy : IVec u 32)
    (h : (⟨2, ![n0, n1]⟩ : Shape).ReducesTo [1] ⟨1, ![n0]⟩) (hu : 0 < u.numel) (hix : ix (Shape.Idx.first hu) = (⊥ : EReal)) (hn : n1 ≤ 2147483648)
    (f : ℕ → EReal) (r : Fin n0) (p : ℕ) (hx : ∀ w : Fin n1, x (ix2 r w) = f w.val) (hb : ∀ w < n1, ⊥ < f w) (hp : First f n1 p) :
    Host.argReduce (φ := .f32) op x (iotaInDim ⟨2, ![n0, n1]⟩ 32 1) ix iy h hu (ix1 r) = (f p, BitVec.ofNat 32 p) := by
  obtain ⟨hlt, hmax, hfirst⟩ := hp
  have lt (q : ℕ) (hq : q < n1) : (BitVec.ofNat 32 p).slt (BitVec.ofNat 32 q) = decide (p < q) := slt_ofNat _ _ (by omega) (by omega)
  have lt' (q : ℕ) (hq : q < n1) : (BitVec.ofNat 32 q).slt (BitVec.ofNat 32 p) = decide (q < p) := slt_ofNat _ _ (by omega) (by omega)
  rw [Ideal.argReduce_eq_reduce2, Host.reduce2_eq_foldl_fiber]
  refine foldl_decided op (fun a : EReal × BitVec 32 => a.1 < f p ∨ a.1 = f p ∧ ∃ q, p ≤ q ∧ q < n1 ∧ a.2 = BitVec.ofNat 32 q)
    (f p, BitVec.ofNat 32 p) (.inr ⟨rfl, p, le_rfl, hlt, rfl⟩) ?_ ?_ ?_ _ _ ?_ ?_ (.inr ?_)
  · rintro a b ha hb
    rw [hop]
    by_cases h1 : b.1 < a.1
    · rw [if_pos h1, if_pos (.inl h1)]; exact ha
    · rw [if_neg h1]
      split
      · rename_i h2
        rcases h2 with h2 | ⟨h2, -⟩
        · exact absurd h2 h1
        · dsimp only; rw [← h2]; exact ha
      · exact hb
  · rintro b hb
    rw [hop]
    rcases hb with hb | ⟨hb, q, hpq, hq, e⟩
    · rw [if_pos hb, if_pos (.inl hb)]
    · rw [if_neg (by rw [hb]; exact lt_irrefl _), hb, e]
      dsimp only
      rw [lt q hq]
      rcases Nat.eq_or_lt_of_le hpq with rfl | h
      · simp
      · rw [if_pos (.inr ⟨rfl, decide_eq_true h⟩)]
  · rintro a ha
    rw [hop]
    rcases ha with ha | ⟨ha, q, hpq, hq, e⟩
    · rw [if_neg (not_lt.mpr ha.le), if_neg]
      rintro (h | ⟨h, -⟩)
      · exact absurd h (not_lt.mpr ha.le)
      · exact absurd h ha.ne
    · rw [if_neg (by rw [ha]; exact lt_irrefl _), e, ha]
      dsimp only
      rw [lt' q hq, if_neg]
      rintro (h | ⟨-, h⟩)
      · exact lt_irrefl _ h
      · exact absurd (of_decide_eq_true h) (by omega)
  · left
    dsimp only
    rw [hix]
    exact hb p hlt
  · intro a ha
    obtain ⟨n, hn, rfl⟩ := List.mem_map.mp ha
    obtain ⟨k, hk⟩ := (Shape.ReducesTo.fiber_r2_a1 _ _ _).mp (of_decide_eq_true (List.mem_filter.mp hn).2)
    rw [← hk]
    have e : (x (ix2 r k), iotaInDim ⟨2, ![n0, n1]⟩ 32 1 (ix2 r k)) = (f k.val, BitVec.ofNat 32 k.val) := by rw [hx k]; rfl
    refine (congrArg (fun a : EReal × BitVec 32 => a.1 < f p ∨ a.1 = f p ∧ ∃ q, p ≤ q ∧ q < n1 ∧ a.2 = BitVec.ofNat 32 q) e).mpr ?_
    dsimp only
    rcases (hmax k.val k.isLt).lt_or_eq with h | h
    · exact .inl h
    · refine .inr ⟨h, k.val, ?_, k.isLt, rfl⟩
      by_contra hlt'
      exact absurd (hfirst k.val (by omega)) (by rw [h]; exact lt_irrefl _)
  · refine List.mem_map.mpr ⟨(⟨2, ![n0, n1]⟩ : Shape).rowMajor (ix2 r ⟨p, hlt⟩), List.mem_filter.mpr ⟨List.mem_finRange _, decide_eq_true ?_⟩, ?_⟩
    · rw [Equiv.symm_apply_apply]
      exact (Shape.ReducesTo.fiber_r2_a1 _ _ _).mpr ⟨⟨p, hlt⟩, rfl⟩
    · rw [Equiv.symm_apply_apply, hx]; rfl

theorem step_eq (a b : EReal × BitVec 32) : reducer_argmax_f32_i32 (F := Ideal) a b
    = (if b.1 < a.1 then a.1 else b.1, if b.1 < a.1 ∨ (a.1 = b.1 ∧ a.2.slt b.2 = true) then a.2 else b.2) := by
  have e : reducer_argmax_f32_i32 (F := Ideal) a b = (Scalar.select (BitVec.ofBool (decide (b.1 < a.1)) ||| BitVec.ofBool (decide (a.1 ≠ a.1))) a.1 b.1,
    Scalar.select ((BitVec.ofBool (decide (b.1 < a.1)) ||| BitVec.ofBool (decide (a.1 ≠ a.1))) ||| (BitVec.ofBool (decide (a.1 = b.1)) &&& BitVec.ofBool (a.2.slt b.2))) a.2 b.2) := rfl
  rw [e]
  by_cases h1 : b.1 < a.1 <;> by_cases h2 : a.1 = b.1 <;> cases h3 : a.2.slt b.2 <;> simp [h1, h2, h3, Scalar.select]

theorem floor_eq : constant (F := Ideal) S_ .f32 0xFF800000#32 (Shape.Idx.first h_S_) = (⊥ : EReal) := by
  show Ideal.ofBits .f32 0xFF800000#32 = ⊥
  simp [Ideal.ofBits, Ideal.ieee]

theorem words_fit : (100000 : ℕ) ≤ 2147483648 := Nat.le_of_ble_eq_true rfl

theorem predicted_pair (x : FVec Ideal S2048x100000 .f32) (f : ℕ → EReal) (r : Fin 2048) (p : ℕ) (hx : ∀ w : Fin 100000, x (ix2 r w) = f w.val)
    (hb : ∀ w < 100000, ⊥ < f w) (hp : First f 100000 p) :
    Host.argReduce (φ := .f32) (reducer_argmax_f32_i32 (F := Ideal)) x (iotaInDim S2048x100000 32 1) (constant (F := Ideal) S_ .f32 0xFF800000#32)
      (constantI S_ 32 0#32) reducesTo_S2048x100000_S2048_d1 h_S_ (ix1 r) = (f p, BitVec.ofNat 32 p) :=
  search (n0 := 2048) (n1 := 100000) (u := S_) (reducer_argmax_f32_i32 (F := Ideal)) step_eq x (constant (F := Ideal) S_ .f32 0xFF800000#32)
    (constantI S_ 32 0#32) reducesTo_S2048x100000_S2048_d1 h_S_ floor_eq words_fit f r p hx hb hp

theorem predicted_value (x : FVec Ideal S2048x100000 .f32) (f : ℕ → EReal) (r : Fin 2048) (p : ℕ) (hx : ∀ w : Fin 100000, x (ix2 r w) = f w.val)
    (hb : ∀ w < 100000, ⊥ < f w) (hp : First f 100000 p) : predicted x (ix1 r) = BitVec.ofNat 32 p :=
  have e : predicted x = fun j => (Host.argReduce (φ := .f32) (reducer_argmax_f32_i32 (F := Ideal)) x (iotaInDim S2048x100000 32 1)
    (constant (F := Ideal) S_ .f32 0xFF800000#32) (constantI S_ 32 0#32) reducesTo_S2048x100000_S2048_d1 h_S_ j).2 := rfl
  (congrFun e (ix1 r)).trans (congrArg Prod.snd (predicted_pair x f r p hx hb hp))

/-! ## The counts -/

theorem labelled_at (t : IVec S2048 32) (r : Fin 2048) : labelled t (ix1 r) = BitVec.ofBool (decide (t (ix1 r) ≠ 0#32)) := by
  show BitVec.ofBool (t (ix1 r) != 0#32) = _
  congr 1
  rw [Bool.eq_iff_iff, bne_iff_ne, decide_eq_true_iff]

theorem nonPadding_value (t : IVec S2048 32) : nonPadding t = fun _ => nonPaddingOf fun r => t (ix1 r) := by
  funext j
  unfold nonPadding nonPaddingOf
  rw [Host.reduce_eq_fold, Shape.ReducesTo.fold_fiber_r1_a0]
  refine congrArg (fun v => Finset.fold IntOp.addi 0#32 v univ) (funext fun r => ?_)
  show BitVec.setWidth 32 (labelled t (ix1 r)) = _
  rw [labelled_at]
  by_cases h : t (ix1 r) = 0#32 <;> simp [h]

theorem correct_value (x : FVec Ideal S2048x100000 .f32) (t : IVec S2048 32) (p : Fin 2048 → ℕ)
    (hp : ∀ r, predicted x (ix1 r) = BitVec.ofNat 32 (p r)) : correct x t = fun _ => correctOf p fun r => t (ix1 r) := by
  funext j
  unfold correct correctOf
  rw [Host.reduce_eq_fold, Shape.ReducesTo.fold_fiber_r1_a0]
  refine congrArg (fun v => Finset.fold IntOp.addi 0#32 v univ) (funext fun r => ?_)
  show BitVec.setWidth 32 (BitVec.ofBool (predicted x (ix1 r) == t (ix1 r)) &&& labelled t (ix1 r)) = _
  rw [labelled_at, hp, show (BitVec.ofNat 32 (p r) == t (ix1 r)) = decide (BitVec.ofNat 32 (p r) = t (ix1 r)) by
    rw [Bool.eq_iff_iff, beq_iff_eq, decide_eq_true_iff]]
  by_cases h : t (ix1 r) = 0#32 <;> by_cases h' : BitVec.ofNat 32 (p r) = t (ix1 r) <;> simp [h, h']

end Cert.Proof.Ref
-- ==== Proof.Algebraic.lean ====
/-
  The idealized kernel and the reference leave the same three results: the sums over the rows that Proof/Arith.lean names.
-/
module

public import proofs.«01_k».proof.Proof.Finite
public import proofs.«01_k».proof.Proof.KernelValue
public import proofs.«01_k».proof.Proof.RefValue

@[expose] public section

noncomputable section

namespace Cert.Proof

open Idealize.ShloMosaic Idealize.ShloMosaic.TcCoe Idealize.SL.Sem Idealize.ShloMosaic.StableHlo
open Arith Run

/-- A table's entries by row and word, as real numbers. -/
def entry (x : FVec Ideal Cert.KernelIdeal.S2048x100000 .f32) (r : Fin 2048) (w : ℕ) : ℝ :=
  if h : w < 100000 then (x (ix2 r ⟨w, h⟩) : EReal).toReal else 0

/-- The first word of a row at which the row's largest entry stands. -/
def best (x : FVec Ideal Cert.KernelIdeal.S2048x100000 .f32) (r : Fin 2048) : ℕ := (exists_first (fun w => (entry x r w : EReal)) 99999).choose

theorem best_first (x : FVec Ideal Cert.KernelIdeal.S2048x100000 .f32) (r : Fin 2048) : First (fun w => (entry x r w : EReal)) 100000 (best x r) :=
  (exists_first (fun w => (entry x r w : EReal)) 99999).choose_spec

theorem entry_eq (x : FVec Ideal Cert.KernelIdeal.S2048x100000 .f32) (t : IVec Cert.KernelIdeal.S2048 32)
    (h : Cert.Pre_targets_in_range_finite.fn (F := Ideal) x t = fun _ => 1#1) (r : Fin 2048) (w : Fin 100000) : x (ix2 r w) = (entry x r w.val : EReal) := by
  unfold entry
  rw [dif_pos w.isLt]
  exact real_of_pre x t h (ix2 r w)

/-- The reference's three results. -/
theorem reference_values (x : FVec Ideal Cert.KernelIdeal.S2048x100000 .f32) (t : IVec Cert.KernelIdeal.S2048 32)
    (h : Cert.Pre_targets_in_range_finite.fn (F := Ideal) x t = fun _ => 1#1) :
    Ref.loss (F := Ideal) x t = (fun _ => lossOf (entry x) fun r => t (ix1 r))
      ∧ Ref.correct (F := Ideal) x t = (fun _ => correctOf (best x) fun r => t (ix1 r))
      ∧ Ref.nonPadding t = fun _ => nonPaddingOf fun r => t (ix1 r) :=
  ⟨Ref.loss_value x t (entry x) (fun r => (pre_finite x t h).1 (ix1 r)) (entry_eq x t h),
    Ref.correct_value x t (best x) fun r => Ref.predicted_value x (fun w => (entry x r w : EReal)) r (best x r) (entry_eq x t h r)
      (fun _ _ => EReal.bot_lt_coe _) (best_first x r),
    Ref.nonPadding_value t⟩

theorem algebraic : Cert.algebraic_KernelIdeal_ReferenceIdeal_pre_targets_in_range_finite := by
  intro m ρ m' ρ' hpre hargs
  refine ⟨fun (c : Dev Cert.KernelIdeal.nD) _ => lossOf (entry (m ((c.tc : Thread Cert.KernelIdeal.nD Cert.KernelIdeal.τ).loc Cert.KernelIdeal.main_arg0))) fun r => (m (tL c) : IVec Cert.KernelIdeal.S2048 32) (ix1 r),
    fun (c : Dev Cert.KernelIdeal.nD) _ => correctOf (best (m ((c.tc : Thread Cert.KernelIdeal.nD Cert.KernelIdeal.τ).loc Cert.KernelIdeal.main_arg0))) fun r => (m (tL c) : IVec Cert.KernelIdeal.S2048 32) (ix1 r),
    fun (c : Dev Cert.KernelIdeal.nD) _ => nonPaddingOf fun r => (m (tL c) : IVec Cert.KernelIdeal.S2048 32) (ix1 r),
    (θ_run Cert.KernelIdeal.defs _ _).mono (fun r h c => ?_) (run_main m ρ fun d y => (pre_finite _ _ (hpre d)).1 y),
    (θ_run Cert.ReferenceIdeal.defs _ _).mono (fun r h c => ?_) (Ref.run_main (F := Ideal) m' ρ')⟩
  · obtain ⟨e₀, e₁, e₂⟩ := values m c (entry (m ((c.tc : Thread Cert.KernelIdeal.nD Cert.KernelIdeal.τ).loc Cert.KernelIdeal.main_arg0))) (best (m ((c.tc : Thread Cert.KernelIdeal.nD Cert.KernelIdeal.τ).loc Cert.KernelIdeal.main_arg0)))
      (best_first _) (entry_eq _ _ (hpre c)) (fun r => (pre_finite _ _ (hpre c)).1 (ix1 r))
    exact ⟨(h.1 c ⟨_, ucRef Cert.KernelIdeal.main_v10 rfl⟩).trans e₀, (h.1 c ⟨_, ucRef Cert.KernelIdeal.main_v11 rfl⟩).trans e₁,
      (h.1 c ⟨_, ucRef Cert.KernelIdeal.main_v12 rfl⟩).trans e₂, (QC_args m h).1 c⟩
  · obtain ⟨e₀, e₁, e₂⟩ := reference_values _ _ (hpre c)
    obtain ⟨a₀, a₁⟩ := hargs c
    have b₀ : launchContents m' c (Cert.ReferenceIdeal.main_arg0 : DevRef _ _) = m ((c.tc : Thread Cert.KernelIdeal.nD Cert.KernelIdeal.τ).loc Cert.KernelIdeal.main_arg0) := a₀
    have b₁ : launchContents m' c (Cert.ReferenceIdeal.main_arg1 : DevRef _ _) = m ((c.tc : Thread Cert.KernelIdeal.nD Cert.KernelIdeal.τ).loc Cert.KernelIdeal.main_arg1) := a₁
    refine ⟨(h c Cert.ReferenceIdeal.main_v25).trans ((Ref.loss_eq _).trans ?_), (h c Cert.ReferenceIdeal.main_v32).trans ((Ref.correct_eq _).trans ?_),
      (h c Cert.ReferenceIdeal.main_v34).trans ((Ref.nonPadding_eq _).trans ?_), (h c Cert.ReferenceIdeal.main_arg0).trans (Ref.arg0_eq _),
      (h c Cert.ReferenceIdeal.main_arg1).trans (Ref.arg1_eq _)⟩
    · rw [b₀, b₁]; exact e₀
    · rw [b₀, b₁]; exact e₁
    · rw [b₁]; exact e₂

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.FrameBits
public import proofs.«01_k».proof.Proof.RefRun
public import proofs.«01_k».proof.Proof.Gen.Pre_targets_in_range
public import proofs.«01_k».proof.Proof.Gen.Pre_targets_in_range_finite
public import proofs.«01_k».proof.Proof.Algebraic
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => ⟨(h c Cert.ReferenceIdeal.main_arg0).trans (Ref.arg0_eq _), (h c Cert.ReferenceIdeal.main_arg1).trans (Ref.arg1_eq _)⟩,
      Idealize.ShloMosaic.sem_eq_zero_of_no_sems (by decide) r.2⟩)
    (Ref.run_main (F := Ideal) m ρ)

theorem preserves : Cert.preserves_Kernel_KernelIdeal :=
  ⟨IdealRules.named_const.statement Cert.KernelIdeal.κ "sv" .f32 0x3586386D#32 _ rfl,
    IdealRules.named_const.statement Cert.KernelIdeal.κ "c0" .f32 0xBFBCF9CF#32 _ rfl,
    IdealRules.named_const.statement Cert.KernelIdeal.κ "conf" .f32 0x3F666666#32 _ rfl⟩

theorem claim : Cert.Claim := ⟨Cert.Kernel.Gen.facts, Cert.KernelIdeal.Gen.facts, Cert.ReferenceIdeal.Gen.facts, Cert.Pre_targets_in_range.Gen.facts,
  Cert.Pre_targets_in_range_finite.Gen.facts, Run.frame_kernel, Run.frame_kernelIdeal, Run.frame_kernelIdeal_finite, frame_reference,
  fun m ρ _ => frame_reference m ρ trivial, preserves, algebraic⟩

end Cert.Proof

end
